-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0_0) = v0 c
          ∧ r.2.mem ((c.tc : Thread Cert.ProjRefIdeal.nD Cert.ProjRefIdeal.τ).loc Cert.ProjRefIdeal.main_v0_1) = v1 c
          ∧ r.2.mem ((c.tc : Thread Cert.ProjRefIdeal.nD Cert.ProjRefIdeal.τ).loc Cert.ProjRefIdeal.main_v0_2) = v2 c
          ∧ r.2.mem ((c.tc : Thread Cert.ProjRefIdeal.nD Cert.ProjRefIdeal.τ).loc Cert.ProjRefIdeal.main_v0_3) = v3 c
          ∧ r.2.mem ((c.tc : Thread Cert.ProjRefIdeal.nD Cert.ProjRefIdeal.τ).loc Cert.ProjRefIdeal.main_v0_4) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v0_0) = v0 c
          ∧ r.2.mem ((c.tc : Thread Cert.NormRefIdeal.nD Cert.NormRefIdeal.τ).loc Cert.NormRefIdeal.main_v0_1) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hNorm : Cert.Norm.Facts) (hNormIdeal : Cert.NormIdeal.Facts) (hNormRefIdeal : Cert.NormRefIdeal.Facts),
    quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_Norm (hNorm := hNorm)
    ∧ quiescent_NormIdeal (hNormIdeal := hNormIdeal)
    ∧ quiescent_NormRefIdeal (hNormRefIdeal := hNormRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_Norm_NormIdeal
    ∧ algebraic_NormIdeal_NormRefIdeal (hNormIdeal := hNormIdeal) (hNormRefIdeal := hNormRefIdeal)
-- ==== Down.lean ====
abbrev S8192x7168 : Shape := ⟨2, ![8192, 7168]⟩
abbrev S8192x56 : Shape := ⟨2, ![8192, 56]⟩
abbrev S7168x8192 : Shape := ⟨2, ![7168, 8192]⟩
abbrev S56x64 : Shape := ⟨2, ![56, 64]⟩
abbrev S8192x8192 : Shape := ⟨2, ![8192, 8192]⟩
abbrev S512x7168 : Shape := ⟨2, ![512, 7168]⟩
abbrev S512x56 : Shape := ⟨2, ![512, 56]⟩
abbrev S7168x512 : Shape := ⟨2, ![7168, 512]⟩
abbrev S512x512 : Shape := ⟨2, ![512, 512]⟩
abbrev S512x128 : Shape := ⟨2, ![512, 128]⟩
abbrev S512x1 : Shape := ⟨2, ![512, 1]⟩
abbrev S1x1 : Shape := ⟨2, ![1, 1]⟩
abbrev S128x128 : Shape := ⟨2, ![128, 128]⟩

abbrev nBuf : Space → Nat
  | .hbm => 6
  | .vmem => 12
  | .smem => 1
  | _ => 0

abbrev bufTy : (tb : Table) → Fin (tcTables nBuf tb) → BufTy
  | .hbm, ⟨0, _⟩ => ⟨S8192x7168, .fp8e4m3⟩
  | .hbm, ⟨1, _⟩ => ⟨S8192x56, .f32⟩
  | .hbm, ⟨2, _⟩ => ⟨S7168x8192, .fp8e4m3⟩
  | .hbm, ⟨3, _⟩ => ⟨S56x64, .f32⟩
  | .hbm, ⟨4, _⟩ => ⟨S8192x8192, .bf16⟩
  | .hbm, ⟨5, _⟩ => ⟨S8192x8192, .bf16⟩
  | .local _ .vmem, ⟨0, _⟩ => ⟨S512x7168, .fp8e4m3⟩
  | .local _ .vmem, ⟨1, _⟩ => ⟨S512x7168, .fp8e4m3⟩
  | .local _ .vmem, ⟨2, _⟩ => ⟨S512x56, .f32⟩
  | .local _ .vmem, ⟨3, _⟩ => ⟨S512x56, .f32⟩
  | .local _ .vmem, ⟨4, _⟩ => ⟨S7168x512, .fp8e4m3⟩
  | .local _ .vmem, ⟨5, _⟩ => ⟨S7168x512, .fp8e4m3⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x7168, .bf16⟩
  | .local _ .vmem, ⟨11, _⟩ => ⟨S7168x512, .bf16⟩
  | .local _ .smem, ⟨0, _⟩ => ⟨S56x64, .f32⟩
  | _, _ => ⟨S8192x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def k0_off1 (i : grid0.Coords) (c0_i32_1 : BitVec 32) : Fin 2 → Nat :=
  let c0 : Index := 0#32
  let c4_i32 : BitVec 32 := 4#32
  let arg1 : BitVec 32 := BitVec.ofNat 32 (i 1).val
  let v3 : BitVec 32 := Scalar.muli c4_i32 arg1
  let v4 : BitVec 32 := Scalar.addi v3 c0_i32_1
  let v5 : Index := Scalar.indexCast v4
  ![0, v5.toNat]
def k0_off2 (i : grid0.Coords) (c0_i32_18 : BitVec 32) : Fin 2 → Nat :=
  let c1 : Index := 1#32
  let c4_i32 : BitVec 32 := 4#32
  let arg1 : BitVec 32 := BitVec.ofNat 32 (i 1).val
  let v3 : BitVec 32 := Scalar.muli c4_i32 arg1
  let v48 : BitVec 32 := Scalar.addi v3 c0_i32_18
  let v49 : Index := Scalar.indexCast v48
  ![1, v49.toNat]
def k0_off3 (i : grid0.Coords) (c0_i32_41 : BitVec 32) : Fin 2 → Nat :=
  let c2 : Index := 2#32
  let c4_i32 : BitVec 32 := 4#32
  let arg1 : BitVec 32 := BitVec.ofNat 32 (i 1).val
  let v3 : BitVec 32 := Scalar.muli c4_i32 arg1
  let v92 : BitVec 32 := Scalar.addi v3 c0_i32_41
  let v93 : Index := Scalar.indexCast v92
  ![2, v93.toNat]
def k0_off4 (i : grid0.Coords) (c0_i32_64 : BitVec 32) : Fin 2 → Nat :=
  let c3 : Index := 3#32
  let c4_i32 : BitVec 32 := 4#32
  let arg1 : BitVec 32 := BitVec.ofNat 32 (i 1).val
  let v3 : BitVec 32 := Scalar.muli c4_i32 arg1
  let v136 : BitVec 32 := Scalar.addi v3 c0_i32_64
  let v137 : Index := Scalar.indexCast v136
  ![3, v137.toNat]
def k0_off5 (i : grid0.Coords) (c0_i32_87 : BitVec 32) : Fin 2 → Nat :=
  let c4 : Index := 4#32
  let c4_i32 : BitVec 32 := 4#32
  let arg1 : BitVec 32 := BitVec.ofNat 32 (i 1).val
  let v3 : BitVec 32 := Scalar.muli c4_i32 arg1
  let v180 : BitVec 32 := Scalar.addi v3 c0_i32_87
  let v181 : Index := Scalar.indexCast v180
  ![4, v181.toNat]
def k0_off6 (i : grid0.Coords) (c0_i32_109 : BitVec 32) : Fin 2 → Nat :=
  let c5 : Index := 5#32
  let c4_i32 : BitVec 32 := 4#32
  let arg1 : BitVec 32 := BitVec.ofNat 32 (i 1).val
  let v3 : BitVec 32 := Scalar.muli c4_i32 arg1
  let v224 : BitVec 32 := Scalar.addi v3 c0_i32_109
  let v225 : Index := Scalar.indexCast v224
  ![5, v225.toNat]
def k0_off7 (i : grid0.Coords) (c0_i32_131 : BitVec 32) : Fin 2 → Nat :=
  let c6 : Index := 6#32
  let c4_i32 : BitVec 32 := 4#32
  let arg1 : BitVec 32 := BitVec.ofNat 32 (i 1).val
  let v3 : BitVec 32 := Scalar.muli c4_i32 arg1
  let v268 : BitVec 32 := Scalar.addi v3 c0_i32_131
  let v269 : Index := Scalar.indexCast v268
  ![6, v269.toNat]
def k0_off8 (i : grid0.Coords) (c0_i32_153 : BitVec 32) : Fin 2 → Nat :=
  let c7 : Index := 7#32
  let c4_i32 : BitVec 32 := 4#32
  let arg1 : BitVec 32 := BitVec.ofNat 32 (i 1).val
  let v3 : BitVec 32 := Scalar.muli c4_i32 arg1
  let v312 : BitVec 32 := Scalar.addi v3 c0_i32_153
  let v313 : Index := Scalar.indexCast v312
  ![7, v313.toNat]
def k0_off9 (i : grid0.Coords) (c0_i32_175 : BitVec 32) : Fin 2 → Nat :=
  let c8 : Index := 8#32
  let c4_i32 : BitVec 32 := 4#32
  let arg1 : BitVec 32 := BitVec.ofNat 32 (i 1).val
  let v3 : BitVec 32 := Scalar.muli c4_i32 arg1
  let v356 : BitVec 32 := Scalar.addi v3 c0_i32_175
  let v357 : Index := Scalar.indexCast v356
  ![8, v357.toNat]
def k0_off10 (i : grid0.Coords) (c0_i32_197 : BitVec 32) : Fin 2 → Nat :=
  let c9 : Index := 9#32
  let c4_i32 : BitVec 32 := 4#32
  let arg1 : BitVec 32 := BitVec.ofNat 32 (i 1).val
  let v3 : BitVec 32 := Scalar.muli c4_i32 arg1
  let v400 : BitVec 32 := Scalar.addi v3 c0_i32_197
  let v401 : Index := Scalar.indexCast v400
  ![9, v401.toNat]
def k0_off11 (i : grid0.Coords) (c0_i32_219 : BitVec 32) : Fin 2 → Nat :=
  let c10 : Index := 10#32
  let c4_i32 : BitVec 32 := 4#32
  let arg1 : BitVec 32 := BitVec.ofNat 32 (i 1).val
  let v3 : BitVec 32 := Scalar.muli c4_i32 arg1
  let v444 : BitVec 32 := Scalar.addi v3 c0_i32_219
  let v445 : Index := Scalar.indexCast v444
  ![10, v445.toNat]
def k0_off12 (i : grid0.Coords) (c0_i32_241 : BitVec 32) : Fin 2 → Nat :=
  let c11 : Index := 11#32
  let c4_i32 : BitVec 32 := 4#32
  let arg1 : BitVec 32 := BitVec.ofNat 32 (i 1).val
  let v3 : BitVec 32 := Scalar.muli c4_i32 arg1
  let v488 : BitVec 32 := Scalar.addi v3 c0_i32_241
  let v489 : Index := Scalar.indexCast v488
  ![11, v489.toNat]
def k0_off13 (i : grid0.Coords) (c0_i32_263 : BitVec 32) : Fin 2 → Nat :=
  let c12 : Index := 12#32
  let c4_i32 : BitVec 32 := 4#32
  let arg1 : BitVec 32 := BitVec.ofNat 32 (i 1).val
  let v3 : BitVec 32 := Scalar.muli c4_i32 arg1
  let v532 : BitVec 32 := Scalar.addi v3 c0_i32_263
  let v533 : Index := Scalar.indexCast v532
  ![12, v533.toNat]
def k0_off14 (i : grid0.Coords) (c0_i32_285 : BitVec 32) : Fin 2 → Nat :=
  let c13 : Index := 13#32
  let c4_i32 : BitVec 32 := 4#32
  let arg1 : BitVec 32 := BitVec.ofNat 32 (i 1).val
  let v3 : BitVec 32 := Scalar.muli c4_i32 arg1
  let v576 : BitVec 32 := Scalar.addi v3 c0_i32_285
  let v577 : Index := Scalar.indexCast v576
  ![13, v577.toNat]
def k0_off15 (i : grid0.Coords) (c0_i32_307 : BitVec 32) : Fin 2 → Nat :=
  let c14 : Index := 14#32
  let c4_i32 : BitVec 32 := 4#32
  let arg1 : BitVec 32 := BitVec.ofNat 32 (i 1).val
  let v3 : BitVec 32 := Scalar.muli c4_i32 arg1
  let v620 : BitVec 32 := Scalar.addi v3 c0_i32_307
  let v621 : Index := Scalar.indexCast v620
  ![14, v621.toNat]
def k0_off16 (i : grid0.Coords) (c0_i32_329 : BitVec 32) : Fin 2 → Nat :=
  let c15 : Index := 15#32
  let c4_i32 : BitVec 32 := 4#32
  let arg1 : BitVec 32 := BitVec.ofNat 32 (i 1).val
  let v3 : BitVec 32 := Scalar.muli c4_i32 arg1
  let v664 : BitVec 32 := Scalar.addi v3 c0_i32_329
  let v665 : Index := Scalar.indexCast v664
  ![15, v665.toNat]
def k0_off17 (i : grid0.Coords) (c0_i32_351 : BitVec 32) : Fin 2 → Nat :=
  let c16 : Index := 16#32
  let c4_i32 : BitVec 32 := 4#32
  let arg1 : BitVec 32 := BitVec.ofNat 32 (i 1).val
  let v3 : BitVec 32 := Scalar.muli c4_i32 arg1
  let v708 : BitVec 32 := Scalar.addi v3 c0_i32_351
  let v709 : Index := Scalar.indexCast v708
  ![16, v709.toNat]
def k0_off18 (i : grid0.Coords) (c0_i32_373 : BitVec 32) : Fin 2 → Nat :=
  let c17 : Index := 17#32
  let c4_i32 : BitVec 32 := 4#32
  let arg1 : BitVec 32 := BitVec.ofNat 32 (i 1).val
  let v3 : BitVec 32 := Scalar.muli c4_i32 arg1
  let v752 : BitVec 32 := Scalar.addi v3 c0_i32_373
  let v753 : Index := Scalar.indexCast v752
  ![17, v753.toNat]
def k0_off19 (i : grid0.Coords) (c0_i32_395 : BitVec 32) : Fin 2 → Nat :=
  let c18 : Index := 18#32
  let c4_i32 : BitVec 32 := 4#32
  let arg1 : BitVec 32 := BitVec.ofNat 32 (i 1).val
  let v3 : BitVec 32 := Scalar.muli c4_i32 arg1
  let v796 : BitVec 32 := Scalar.addi v3 c0_i32_395
  let v797 : Index := Scalar.indexCast v796
  ![18, v797.toNat]
def k0_off20 (i : grid0.Coords) (c0_i32_417 : BitVec 32) : Fin 2 → Nat :=
  let c19 : Index := 19#32
  let c4_i32 : BitVec 32 := 4#32
  let arg1 : BitVec 32 := BitVec.ofNat 32 (i 1).val
  let v3 : BitVec 32 := Scalar.muli c4_i32 arg1
  let v840 : BitVec 32 := Scalar.addi v3 c0_i32_417
  let v841 : Index := Scalar.indexCast v840
  ![19, v841.toNat]
def k0_off21 (i : grid0.Coords) (c0_i32_439 : BitVec 32) : Fin 2 → Nat :=
  let c20 : Index := 20#32
  let c4_i32 : BitVec 32 := 4#32
  let arg1 : BitVec 32 := BitVec.ofNat 32 (i 1).val
  let v3 : BitVec 32 := Scalar.muli c4_i32 arg1
  let v884 : BitVec 32 := Scalar.addi v3 c0_i32_439
  let v885 : Index := Scalar.indexCast v884
  ![20, v885.toNat]
def k0_off22 (i : grid0.Coords) (c0_i32_461 : BitVec 32) : Fin 2 → Nat :=
  let c21 : Index := 21#32
  let c4_i32 : BitVec 32 := 4#32
  let arg1 : BitVec 32 := BitVec.ofNat 32 (i 1).val
  let v3 : BitVec 32 := Scalar.muli c4_i32 arg1
  let v928 : BitVec 32 := Scalar.addi v3 c0_i32_461
  let v929 : Index := Scalar.indexCast v928
  ![21, v929.toNat]
def k0_off23 (i : grid0.Coords) (c0_i32_483 : BitVec 32) : Fin 2 → Nat :=
  let c22 : Index := 22#32
  let c4_i32 : BitVec 32 := 4#32
  let arg1 : BitVec 32 := BitVec.ofNat 32 (i 1).val
  let v3 : BitVec 32 := Scalar.muli c4_i32 arg1
  let v972 : BitVec 32 := Scalar.addi v3 c0_i32_483
  let v973 : Index := Scalar.indexCast v972
  ![22, v973.toNat]
def k0_off24 (i : grid0.Coords) (c0_i32_505 : BitVec 32) : Fin 2 → Nat :=
  let c23 : Index := 23#32
  let c4_i32 : BitVec 32 := 4#32
  let arg1 : BitVec 32 := BitVec.ofNat 32 (i 1).val
  let v3 : BitVec 32 := Scalar.muli c4_i32 arg1
  let v1016 : BitVec 32 := Scalar.addi v3 c0_i32_505
  let v1017 : Index := Scalar.indexCast v1016
  ![23, v1017.toNat]
def k0_off25 (i : grid0.Coords) (c0_i32_527 : BitVec 32) : Fin 2 → Nat :=
  let c24 : Index := 24#32
  let c4_i32 : BitVec 32 := 4#32
  let arg1 : BitVec 32 := BitVec.ofNat 32 (i 1).val
  let v3 : BitVec 32 := Scalar.muli c4_i32 arg1
  let v1060 : BitVec 32 := Scalar.addi v3 c0_i32_527
  let v1061 : Index := Scalar.indexCast v1060
  ![24, v1061.toNat]
def k0_off26 (i : grid0.Coords) (c0_i32_549 : BitVec 32) : Fin 2 → Nat :=
  let c25 : Index := 25#32
  let c4_i32 : BitVec 32 := 4#32
  let arg1 : BitVec 32 := BitVec.ofNat 32 (i 1).val
  let v3 : BitVec 32 := Scalar.muli c4_i32 arg1
  let v1104 : BitVec 32 := Scalar.addi v3 c0_i32_549
  let v1105 : Index := Scalar.indexCast v1104
  ![25, v1105.toNat]
def k0_off27 (i : grid0.Coords) (c0_i32_571 : BitVec 32) : Fin 2 → Nat :=
  let c26 : Index := 26#32
  let c4_i32 : BitVec 32 := 4#32
  let arg1 : BitVec 32 := BitVec.ofNat 32 (i 1).val
  let v3 : BitVec 32 := Scalar.muli c4_i32 arg1
  let v1148 : BitVec 32 := Scalar.addi v3 c0_i32_571
  let v1149 : Index := Scalar.indexCast v1148
  ![26, v1149.toNat]
def k0_off28 (i : grid0.Coords) (c0_i32_593 : BitVec 32) : Fin 2 → Nat :=
  let c27 : Index := 27#32
  let c4_i32 : BitVec 32 := 4#32
  let arg1 : BitVec 32 := BitVec.ofNat 32 (i 1).val
  let v3 : BitVec 32 := Scalar.muli c4_i32 arg1
  let v1192 : BitVec 32 := Scalar.addi v3 c0_i32_593
  let v1193 : Index := Scalar.indexCast v1192
  ![27, v1193.toNat]
def k0_off29 (i : grid0.Coords) (c0_i32_615 : BitVec 32) : Fin 2 → Nat :=
  let c28 : Index := 28#32
  let c4_i32 : BitVec 32 := 4#32
  let arg1 : BitVec 32 := BitVec.ofNat 32 (i 1).val
  let v3 : BitVec 32 := Scalar.muli c4_i32 arg1
  let v1236 : BitVec 32 := Scalar.addi v3 c0_i32_615
  let v1237 : Index := Scalar.indexCast v1236
  ![28, v1237.toNat]
def k0_off30 (i : grid0.Coords) (c0_i32_637 : BitVec 32) : Fin 2 → Nat :=
  let c29 : Index := 29#32
  let c4_i32 : BitVec 32 := 4#32
  let arg1 : BitVec 32 := BitVec.ofNat 32 (i 1).val
  let v3 : BitVec 32 := Scalar.muli c4_i32 arg1
  let v1280 : BitVec 32 := Scalar.addi v3 c0_i32_637
  let v1281 : Index := Scalar.indexCast v1280
  ![29, v1281.toNat]
def k0_off31 (i : grid0.Coords) (c0_i32_659 : BitVec 32) : Fin 2 → Nat :=
  let c30 : Index := 30#32
  let c4_i32 : BitVec 32 := 4#32
  let arg1 : BitVec 32 := BitVec.ofNat 32 (i 1).val
  let v3 : BitVec 32 := Scalar.muli c4_i32 arg1
  let v1324 : BitVec 32 := Scalar.addi v3 c0_i32_659
  let v1325 : Index := Scalar.indexCast v1324
  ![30, v1325.toNat]
def k0_off32 (i : grid0.Coords) (c0_i32_681 : BitVec 32) : Fin 2 → Nat :=
  let c31 : Index := 31#32
  let c4_i32 : BitVec 32 := 4#32
  let arg1 : BitVec 32 := BitVec.ofNat 32 (i 1).val
  let v3 : BitVec 32 := Scalar.muli c4_i32 arg1
  let v1368 : BitVec 32 := Scalar.addi v3 c0_i32_681
  let v1369 : Index := Scalar.indexCast v1368
  ![31, v1369.toNat]
def k0_off33 (i : grid0.Coords) (c0_i32_703 : BitVec 32) : Fin 2 → Nat :=
  let c32 : Index := 32#32
  let c4_i32 : BitVec 32 := 4#32
  let arg1 : BitVec 32 := BitVec.ofNat 32 (i 1).val
  let v3 : BitVec 32 := Scalar.muli c4_i32 arg1
  let v1412 : BitVec 32 := Scalar.addi v3 c0_i32_703
  let v1413 : Index := Scalar.indexCast v1412
  ![32, v1413.toNat]
def k0_off34 (i : grid0.Coords) (c0_i32_725 : BitVec 32) : Fin 2 → Nat :=
  let c33 : Index := 33#32
  let c4_i32 : BitVec 32 := 4#32
  let arg1 : BitVec 32 := BitVec.ofNat 32 (i 1).val
  let v3 : BitVec 32 := Scalar.muli c4_i32 arg1
  let v1456 : BitVec 32 := Scalar.addi v3 c0_i32_725
  let v1457 : Index := Scalar.indexCast v1456
  ![33, v1457.toNat]
def k0_off35 (i : grid0.Coords) (c0_i32_747 : BitVec 32) : Fin 2 → Nat :=
  let c34 : Index := 34#32
  let c4_i32 : BitVec 32 := 4#32
  let arg1 : BitVec 32 := BitVec.ofNat 32 (i 1).val
  let v3 : BitVec 32 := Scalar.muli c4_i32 arg1
  let v1500 : BitVec 32 := Scalar.addi v3 c0_i32_747
  let v1501 : Index := Scalar.indexCast v1500
  ![34, v1501.toNat]
def k0_off36 (i : grid0.Coords) (c0_i32_769 : BitVec 32) : Fin 2 → Nat :=
  let c35 : Index := 35#32
  let c4_i32 : BitVec 32 := 4#32
  let arg1 : BitVec 32 := BitVec.ofNat 32 (i 1).val
  let v3 : BitVec 32 := Scalar.muli c4_i32 arg1
  let v1544 : BitVec 32 := Scalar.addi v3 c0_i32_769
  let v1545 : Index := Scalar.indexCast v1544
  ![35, v1545.toNat]
def k0_off37 (i : grid0.Coords) (c0_i32_791 : BitVec 32) : Fin 2 → Nat :=
  let c36 : Index := 36#32
  let c4_i32 : BitVec 32 := 4#32
  let arg1 : BitVec 32 := BitVec.ofNat 32 (i 1).val
  let v3 : BitVec 32 := Scalar.muli c4_i32 arg1
  let v1588 : BitVec 32 := Scalar.addi v3 c0_i32_791
  let v1589 : Index := Scalar.indexCast v1588
  ![36, v1589.toNat]
def k0_off38 (i : grid0.Coords) (c0_i32_813 : BitVec 32) : Fin 2 → Nat :=
  let c37 : Index := 37#32
  let c4_i32 : BitVec 32 := 4#32
  let arg1 : BitVec 32 := BitVec.ofNat 32 (i 1).val
  let v3 : BitVec 32 := Scalar.muli c4_i32 arg1
  let v1632 : BitVec 32 := Scalar.addi v3 c0_i32_813
  let v1633 : Index := Scalar.indexCast v1632
  ![37, v1633.toNat]
def k0_off39 (i : grid0.Coords) (c0_i32_835 : BitVec 32) : Fin 2 → Nat :=
  let c38 : Index := 38#32
  let c4_i32 : BitVec 32 := 4#32
  let arg1 : BitVec 32 := BitVec.ofNat 32 (i 1).val
  let v3 : BitVec 32 := Scalar.muli c4_i32 arg1
  let v1676 : BitVec 32 := Scalar.addi v3 c0_i32_835
  let v1677 : Index := Scalar.indexCast v1676
  ![38, v1677.toNat]
def k0_off40 (i : grid0.Coords) (c0_i32_857 : BitVec 32) : Fin 2 → Nat :=
  let c39 : Index := 39#32
  let c4_i32 : BitVec 32 := 4#32
  let arg1 : BitVec 32 := BitVec.ofNat 32 (i 1).val
  let v3 : BitVec 32 := Scalar.muli c4_i32 arg1
  let v1720 : BitVec 32 := Scalar.addi v3 c0_i32_857
  let v1721 : Index := Scalar.indexCast v1720
  ![39, v1721.toNat]
def k0_off41 (i : grid0.Coords) (c0_i32_879 : BitVec 32) : Fin 2 → Nat :=
  let c40 : Index := 40#32
  let c4_i32 : BitVec 32 := 4#32
  let arg1 : BitVec 32 := BitVec.ofNat 32 (i 1).val
  let v3 : BitVec 32 := Scalar.muli c4_i32 arg1
  let v1764 : BitVec 32 := Scalar.addi v3 c0_i32_879
  let v1765 : Index := Scalar.indexCast v1764
  ![40, v1765.toNat]
def k0_off42 (i : grid0.Coords) (c0_i32_901 : BitVec 32) : Fin 2 → Nat :=
  let c41 : Index := 41#32
  let c4_i32 : BitVec 32 := 4#32
  let arg1 : BitVec 32 := BitVec.ofNat 32 (i 1).val
  let v3 : BitVec 32 := Scalar.muli c4_i32 arg1
  let v1808 : BitVec 32 := Scalar.addi v3 c0_i32_901
  let v1809 : Index := Scalar.indexCast v1808
  ![41, v1809.toNat]
def k0_off43 (i : grid0.Coords) (c0_i32_923 : BitVec 32) : Fin 2 → Nat :=
  let c42 : Index := 42#32
  let c4_i32 : BitVec 32 := 4#32
  let arg1 : BitVec 32 := BitVec.ofNat 32 (i 1).val
  let v3 : BitVec 32 := Scalar.muli c4_i32 arg1
  let v1852 : BitVec 32 := Scalar.addi v3 c0_i32_923
  let v1853 : Index := Scalar.indexCast v1852
  ![42, v1853.toNat]
def k0_off44 (i : grid0.Coords) (c0_i32_945 : BitVec 32) : Fin 2 → Nat :=
  let c43 : Index := 43#32
  let c4_i32 : BitVec 32 := 4#32
  let arg1 : BitVec 32 := BitVec.ofNat 32 (i 1).val
  let v3 : BitVec 32 := Scalar.muli c4_i32 arg1
  let v1896 : BitVec 32 := Scalar.addi v3 c0_i32_945
  let v1897 : Index := Scalar.indexCast v1896
  ![43, v1897.toNat]
def k0_off45 (i : grid0.Coords) (c0_i32_967 : BitVec 32) : Fin 2 → Nat :=
  let c44 : Index := 44#32
  let c4_i32 : BitVec 32 := 4#32
  let arg1 : BitVec 32 := BitVec.ofNat 32 (i 1).val
  let v3 : BitVec 32 := Scalar.muli c4_i32 arg1
  let v1940 : BitVec 32 := Scalar.addi v3 c0_i32_967
  let v1941 : Index := Scalar.indexCast v1940
  ![44, v1941.toNat]
def k0_off46 (i : grid0.Coords) (c0_i32_989 : BitVec 32) : Fin 2 → Nat :=
  let c45 : Index := 45#32
  let c4_i32 : BitVec 32 := 4#32
  let arg1 : BitVec 32 := BitVec.ofNat 32 (i 1).val
  let v3 : BitVec 32 := Scalar.muli c4_i32 arg1
  let v1984 : BitVec 32 := Scalar.addi v3 c0_i32_989
  let v1985 : Index := Scalar.indexCast v1984
  ![45, v1985.toNat]
def k0_off47 (i : grid0.Coords) (c0_i32_1011 : BitVec 32) : Fin 2 → Nat :=
  let c46 : Index := 46#32
  let c4_i32 : BitVec 32 := 4#32
  let arg1 : BitVec 32 := BitVec.ofNat 32 (i 1).val
  let v3 : BitVec 32 := Scalar.muli c4_i32 arg1
  let v2028 : BitVec 32 := Scalar.addi v3 c0_i32_1011
  let v2029 : Index := Scalar.indexCast v2028
  ![46, v2029.toNat]
def k0_off48 (i : grid0.Coords) (c0_i32_1033 : BitVec 32) : Fin 2 → Nat :=
  let c47 : Index := 47#32
  let c4_i32 : BitVec 32 := 4#32
  let arg1 : BitVec 32 := BitVec.ofNat 32 (i 1).val
  let v3 : BitVec 32 := Scalar.muli c4_i32 arg1
  let v2072 : BitVec 32 := Scalar.addi v3 c0_i32_1033
  let v2073 : Index := Scalar.indexCast v2072
  ![47, v2073.toNat]
def k0_off49 (i : grid0.Coords) (c0_i32_1055 : BitVec 32) : Fin 2 → Nat :=
  let c48 : Index := 48#32
  let c4_i32 : BitVec 32 := 4#32
  let arg1 : BitVec 32 := BitVec.ofNat 32 (i 1).val
  let v3 : BitVec 32 := Scalar.muli c4_i32 arg1
  let v2116 : BitVec 32 := Scalar.addi v3 c0_i32_1055
  let v2117 : Index := Scalar.indexCast v2116
  ![48, v2117.toNat]
def k0_off50 (i : grid0.Coords) (c0_i32_1077 : BitVec 32) : Fin 2 → Nat :=
  let c49 : Index := 49#32
  let c4_i32 : BitVec 32 := 4#32
  let arg1 : BitVec 32 := BitVec.ofNat 32 (i 1).val
  let v3 : BitVec 32 := Scalar.muli c4_i32 arg1
  let v2160 : BitVec 32 := Scalar.addi v3 c0_i32_1077
  let v2161 : Index := Scalar.indexCast v2160
  ![49, v2161.toNat]
def k0_off51 (i : grid0.Coords) (c0_i32_1099 : BitVec 32) : Fin 2 → Nat :=
  let c50 : Index := 50#32
  let c4_i32 : BitVec 32 := 4#32
  let arg1 : BitVec 32 := BitVec.ofNat 32 (i 1).val
  let v3 : BitVec 32 := Scalar.muli c4_i32 arg1
  let v2204 : BitVec 32 := Scalar.addi v3 c0_i32_1099
  let v2205 : Index := Scalar.indexCast v2204
  ![50, v2205.toNat]
def k0_off52 (i : grid0.Coords) (c0_i32_1121 : BitVec 32) : Fin 2 → Nat :=
  let c51 : Index := 51#32
  let c4_i32 : BitVec 32 := 4#32
  let arg1 : BitVec 32 := BitVec.ofNat 32 (i 1).val
  let v3 : BitVec 32 := Scalar.muli c4_i32 arg1
  let v2248 : BitVec 32 := Scalar.addi v3 c0_i32_1121
  let v2249 : Index := Scalar.indexCast v2248
  ![51, v2249.toNat]
def k0_off53 (i : grid0.Coords) (c0_i32_1143 : BitVec 32) : Fin 2 → Nat :=
  let c52 : Index := 52#32
  let c4_i32 : BitVec 32 := 4#32
  let arg1 : BitVec 32 := BitVec.ofNat 32 (i 1).val
  let v3 : BitVec 32 := Scalar.muli c4_i32 arg1
  let v2292 : BitVec 32 := Scalar.addi v3 c0_i32_1143
  let v2293 : Index := Scalar.indexCast v2292
  ![52, v2293.toNat]
def k0_off54 (i : grid0.Coords) (c0_i32_1165 : BitVec 32) : Fin 2 → Nat :=
  let c53 : Index := 53#32
  let c4_i32 : BitVec 32 := 4#32
  let arg1 : BitVec 32 := BitVec.ofNat 32 (i 1).val
  let v3 : BitVec 32 := Scalar.muli c4_i32 arg1
  let v2336 : BitVec 32 := Scalar.addi v3 c0_i32_1165
  let v2337 : Index := Scalar.indexCast v2336
  ![53, v2337.toNat]
def k0_off55 (i : grid0.Coords) (c0_i32_1187 : BitVec 32) : Fin 2 → Nat :=
  let c54 : Index := 54#32
  let c4_i32 : BitVec 32 := 4#32
  let arg1 : BitVec 32 := BitVec.ofNat 32 (i 1).val
  let v3 : BitVec 32 := Scalar.muli c4_i32 arg1
  let v2380 : BitVec 32 := Scalar.addi v3 c0_i32_1187
  let v2381 : Index := Scalar.indexCast v2380
  ![54, v2381.toNat]
def k0_off56 (i : grid0.Coords) (c0_i32_1209 : BitVec 32) : Fin 2 → Nat :=
  let c55 : Index := 55#32
  let c4_i32 : BitVec 32 := 4#32
  let arg1 : BitVec 32 := BitVec.ofNat 32 (i 1).val
  let v3 : BitVec 32 := Scalar.muli c4_i32 arg1
  let v2424 : BitVec 32 := Scalar.addi v3 c0_i32_1209
  let v2425 : Index := Scalar.indexCast v2424
  ![55, v2425.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S56x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S8192x7168 : Shape := ⟨2, ![8192, 7168]⟩
abbrev S8192x56 : Shape := ⟨2, ![8192, 56]⟩
abbrev S7168x8192 : Shape := ⟨2, ![7168, 8192]⟩
abbrev S56x64 : Shape := ⟨2, ![56, 64]⟩
abbrev S8192x8192 : Shape := ⟨2, ![8192, 8192]⟩
abbrev S8192x56x128 : Shape := ⟨3, ![8192, 56, 128]⟩
abbrev S8192x56x1 : Shape := ⟨3, ![8192, 56, 1]⟩
abbrev S56x128x64x128 : Shape := ⟨4, ![56, 128, 64, 128]⟩
abbrev S56x1x64x1 : Shape := ⟨4, ![56, 1, 64, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x7168, .fp8e4m3⟩
  | .hbm, ⟨1, _⟩ => ⟨S8192x56, .f32⟩
  | .hbm, ⟨2, _⟩ => ⟨S7168x8192, .fp8e4m3⟩
  | .hbm, ⟨3, _⟩ => ⟨S56x64, .f32⟩
  | .hbm, ⟨4, _⟩ => ⟨S8192x8192, .bf16⟩
  | .hbm, ⟨5, _⟩ => ⟨S8192x8192, .bf16⟩
  | .local _ .vmem, ⟨0, _⟩ => ⟨S8192x7168, .fp8e4m3⟩
  | .local _ .vmem, ⟨1, _⟩ => ⟨S8192x56, .f32⟩
  | .local _ .vmem, ⟨2, _⟩ => ⟨S7168x8192, .fp8e4m3⟩
  | .local _ .vmem, ⟨3, _⟩ => ⟨S56x64, .f32⟩
  | .local _ .vmem, ⟨4, _⟩ => ⟨S8192x8192, .bf16⟩
  | .local _ .vmem, ⟨5, _⟩ => ⟨S8192x8192, .bf16⟩
  | _, _ => ⟨S8192x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proj.lean ====
abbrev S8192x8192 : Shape := ⟨2, ![8192, 8192]⟩
abbrev S8192x64 : Shape := ⟨2, ![8192, 64]⟩
abbrev S8192x16896 : Shape := ⟨2, ![8192, 16896]⟩
abbrev S64x132 : Shape := ⟨2, ![64, 132]⟩
abbrev S8192x2048 : Shape := ⟨2, ![8192, 2048]⟩
abbrev S8192x256 : Shape := ⟨2, ![8192, 256]⟩
abbrev S8192x7168 : Shape := ⟨2, ![8192, 7168]⟩
abbrev S8192x56 : Shape := ⟨2, ![8192, 56]⟩
abbrev S512x8192 : Shape := ⟨2, ![512, 8192]⟩
abbrev S512x64 : Shape := ⟨2, ![512, 64]⟩
abbrev S512x512 : Shape := ⟨2, ![512, 512]⟩
abbrev S512x256 : Shape := ⟨2, ![512, 256]⟩
abbrev S512x56 : Shape := ⟨2, ![512, 56]⟩
abbrev S8192x512 : Shape := ⟨2, ![8192, 512]⟩
abbrev S512x128 : Shape := ⟨2, ![512, 128]⟩
abbrev S512x1 : Shape := ⟨2, ![512, 1]⟩
abbrev S1x1 : Shape := ⟨2, ![1, 1]⟩
abbrev S128x128 : Shape := ⟨2, ![128, 128]⟩
abbrev S512 : Shape := ⟨1, ![512]⟩

abbrev nBuf : Space → Nat
  | .hbm => 9
  | .vmem => 20
  | .smem => 1
  | _ => 0

abbrev bufTy : (tb : Table) → Fin (tcTables nBuf tb) → BufTy
  | .hbm, ⟨0, _⟩ => ⟨S8192x8192, .fp8e4m3⟩
  | .hbm, ⟨1, _⟩ => ⟨S8192x64, .f32⟩
  | .hbm, ⟨2, _⟩ => ⟨S8192x16896, .fp8e4m3⟩
  | .hbm, ⟨3, _⟩ => ⟨S64x132, .f32⟩
  | .hbm, ⟨4, _⟩ => ⟨S8192x2048, .bf16⟩
  | .hbm, ⟨5, _⟩ => ⟨S8192x256, .bf16⟩
  | .hbm, ⟨6, _⟩ => ⟨S8192x256, .bf16⟩
  | .hbm, ⟨7, _⟩ => ⟨S8192x7168, .fp8e4m3⟩
  | .hbm, ⟨8, _⟩ => ⟨S8192x56, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S512x64, .f32⟩
  | .local _ .vmem, ⟨3, _⟩ => ⟨S512x64, .f32⟩
  | .local _ .vmem, ⟨4, _⟩ => ⟨S8192x256, .fp8e4m3⟩
  | .local _ .vmem, ⟨5, _⟩ => ⟨S8192x256, .fp8e4m3⟩
  | .local _ .vmem, ⟨6, _⟩ => ⟨S8192x256, .fp8e4m3⟩
  | .local _ .vmem, ⟨7, _⟩ => ⟨S8192x256, .fp8e4m3⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .fp8e4m3⟩
  | .local _ .vmem, ⟨15, _⟩ => ⟨S512x256, .fp8e4m3⟩
  | .local _ .vmem, ⟨16, _⟩ => ⟨S512x56, .f32⟩
  | .local _ .vmem, ⟨17, _⟩ => ⟨S512x56, .f32⟩
  | .local _ .vmem, ⟨18, _⟩ => ⟨S512x8192, .bf16⟩
  | .local _ .vmem, ⟨19, _⟩ => ⟨S8192x512, .bf16⟩
  | .local _ .smem, ⟨0, _⟩ => ⟨S64x132, .f32⟩
  | _, _ => ⟨S8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 33], ![false, false]⟩

def k0_off1 (i : grid0.Coords) (c0_i32_7 : BitVec 32) : Fin 2 → Nat :=
  let c0 : Index := 0#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v16 : BitVec 32 := Scalar.addi v8 c0_i32_7
  let v17 : Index := Scalar.indexCast v16
  ![0, v17.toNat]
def k0_off2 (i : grid0.Coords) (c0_i32_16 : BitVec 32) : Fin 2 → Nat :=
  let c1 : Index := 1#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v38 : BitVec 32 := Scalar.addi v8 c0_i32_16
  let v39 : Index := Scalar.indexCast v38
  ![1, v39.toNat]
def k0_off3 (i : grid0.Coords) (c0_i32_27 : BitVec 32) : Fin 2 → Nat :=
  let c2 : Index := 2#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v60 : BitVec 32 := Scalar.addi v8 c0_i32_27
  let v61 : Index := Scalar.indexCast v60
  ![2, v61.toNat]
def k0_off4 (i : grid0.Coords) (c0_i32_37 : BitVec 32) : Fin 2 → Nat :=
  let c3 : Index := 3#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v82 : BitVec 32 := Scalar.addi v8 c0_i32_37
  let v83 : Index := Scalar.indexCast v82
  ![3, v83.toNat]
def k0_off5 (i : grid0.Coords) (c0_i32_47 : BitVec 32) : Fin 2 → Nat :=
  let c4 : Index := 4#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v104 : BitVec 32 := Scalar.addi v8 c0_i32_47
  let v105 : Index := Scalar.indexCast v104
  ![4, v105.toNat]
def k0_off6 (i : grid0.Coords) (c0_i32_57 : BitVec 32) : Fin 2 → Nat :=
  let c5 : Index := 5#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v126 : BitVec 32 := Scalar.addi v8 c0_i32_57
  let v127 : Index := Scalar.indexCast v126
  ![5, v127.toNat]
def k0_off7 (i : grid0.Coords) (c0_i32_67 : BitVec 32) : Fin 2 → Nat :=
  let c6 : Index := 6#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v148 : BitVec 32 := Scalar.addi v8 c0_i32_67
  let v149 : Index := Scalar.indexCast v148
  ![6, v149.toNat]
def k0_off8 (i : grid0.Coords) (c0_i32_77 : BitVec 32) : Fin 2 → Nat :=
  let c7 : Index := 7#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v170 : BitVec 32 := Scalar.addi v8 c0_i32_77
  let v171 : Index := Scalar.indexCast v170
  ![7, v171.toNat]
def k0_off9 (i : grid0.Coords) (c0_i32_87 : BitVec 32) : Fin 2 → Nat :=
  let c8 : Index := 8#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v192 : BitVec 32 := Scalar.addi v8 c0_i32_87
  let v193 : Index := Scalar.indexCast v192
  ![8, v193.toNat]
def k0_off10 (i : grid0.Coords) (c0_i32_97 : BitVec 32) : Fin 2 → Nat :=
  let c9 : Index := 9#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v214 : BitVec 32 := Scalar.addi v8 c0_i32_97
  let v215 : Index := Scalar.indexCast v214
  ![9, v215.toNat]
def k0_off11 (i : grid0.Coords) (c0_i32_107 : BitVec 32) : Fin 2 → Nat :=
  let c10 : Index := 10#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v236 : BitVec 32 := Scalar.addi v8 c0_i32_107
  let v237 : Index := Scalar.indexCast v236
  ![10, v237.toNat]
def k0_off12 (i : grid0.Coords) (c0_i32_117 : BitVec 32) : Fin 2 → Nat :=
  let c11 : Index := 11#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v258 : BitVec 32 := Scalar.addi v8 c0_i32_117
  let v259 : Index := Scalar.indexCast v258
  ![11, v259.toNat]
def k0_off13 (i : grid0.Coords) (c0_i32_127 : BitVec 32) : Fin 2 → Nat :=
  let c12 : Index := 12#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v280 : BitVec 32 := Scalar.addi v8 c0_i32_127
  let v281 : Index := Scalar.indexCast v280
  ![12, v281.toNat]
def k0_off14 (i : grid0.Coords) (c0_i32_137 : BitVec 32) : Fin 2 → Nat :=
  let c13 : Index := 13#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v302 : BitVec 32 := Scalar.addi v8 c0_i32_137
  let v303 : Index := Scalar.indexCast v302
  ![13, v303.toNat]
def k0_off15 (i : grid0.Coords) (c0_i32_147 : BitVec 32) : Fin 2 → Nat :=
  let c14 : Index := 14#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v324 : BitVec 32 := Scalar.addi v8 c0_i32_147
  let v325 : Index := Scalar.indexCast v324
  ![14, v325.toNat]
def k0_off16 (i : grid0.Coords) (c0_i32_157 : BitVec 32) : Fin 2 → Nat :=
  let c15 : Index := 15#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v346 : BitVec 32 := Scalar.addi v8 c0_i32_157
  let v347 : Index := Scalar.indexCast v346
  ![15, v347.toNat]
def k0_off17 (i : grid0.Coords) (c0_i32_167 : BitVec 32) : Fin 2 → Nat :=
  let c16 : Index := 16#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v368 : BitVec 32 := Scalar.addi v8 c0_i32_167
  let v369 : Index := Scalar.indexCast v368
  ![16, v369.toNat]
def k0_off18 (i : grid0.Coords) (c0_i32_177 : BitVec 32) : Fin 2 → Nat :=
  let c17 : Index := 17#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v390 : BitVec 32 := Scalar.addi v8 c0_i32_177
  let v391 : Index := Scalar.indexCast v390
  ![17, v391.toNat]
def k0_off19 (i : grid0.Coords) (c0_i32_187 : BitVec 32) : Fin 2 → Nat :=
  let c18 : Index := 18#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v412 : BitVec 32 := Scalar.addi v8 c0_i32_187
  let v413 : Index := Scalar.indexCast v412
  ![18, v413.toNat]
def k0_off20 (i : grid0.Coords) (c0_i32_197 : BitVec 32) : Fin 2 → Nat :=
  let c19 : Index := 19#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v434 : BitVec 32 := Scalar.addi v8 c0_i32_197
  let v435 : Index := Scalar.indexCast v434
  ![19, v435.toNat]
def k0_off21 (i : grid0.Coords) (c0_i32_207 : BitVec 32) : Fin 2 → Nat :=
  let c20 : Index := 20#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v456 : BitVec 32 := Scalar.addi v8 c0_i32_207
  let v457 : Index := Scalar.indexCast v456
  ![20, v457.toNat]
def k0_off22 (i : grid0.Coords) (c0_i32_217 : BitVec 32) : Fin 2 → Nat :=
  let c21 : Index := 21#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v478 : BitVec 32 := Scalar.addi v8 c0_i32_217
  let v479 : Index := Scalar.indexCast v478
  ![21, v479.toNat]
def k0_off23 (i : grid0.Coords) (c0_i32_227 : BitVec 32) : Fin 2 → Nat :=
  let c22 : Index := 22#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v500 : BitVec 32 := Scalar.addi v8 c0_i32_227
  let v501 : Index := Scalar.indexCast v500
  ![22, v501.toNat]
def k0_off24 (i : grid0.Coords) (c0_i32_237 : BitVec 32) : Fin 2 → Nat :=
  let c23 : Index := 23#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v522 : BitVec 32 := Scalar.addi v8 c0_i32_237
  let v523 : Index := Scalar.indexCast v522
  ![23, v523.toNat]
def k0_off25 (i : grid0.Coords) (c0_i32_247 : BitVec 32) : Fin 2 → Nat :=
  let c24 : Index := 24#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v544 : BitVec 32 := Scalar.addi v8 c0_i32_247
  let v545 : Index := Scalar.indexCast v544
  ![24, v545.toNat]
def k0_off26 (i : grid0.Coords) (c0_i32_257 : BitVec 32) : Fin 2 → Nat :=
  let c25 : Index := 25#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v566 : BitVec 32 := Scalar.addi v8 c0_i32_257
  let v567 : Index := Scalar.indexCast v566
  ![25, v567.toNat]
def k0_off27 (i : grid0.Coords) (c0_i32_267 : BitVec 32) : Fin 2 → Nat :=
  let c26 : Index := 26#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v588 : BitVec 32 := Scalar.addi v8 c0_i32_267
  let v589 : Index := Scalar.indexCast v588
  ![26, v589.toNat]
def k0_off28 (i : grid0.Coords) (c0_i32_277 : BitVec 32) : Fin 2 → Nat :=
  let c27 : Index := 27#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v610 : BitVec 32 := Scalar.addi v8 c0_i32_277
  let v611 : Index := Scalar.indexCast v610
  ![27, v611.toNat]
def k0_off29 (i : grid0.Coords) (c0_i32_287 : BitVec 32) : Fin 2 → Nat :=
  let c28 : Index := 28#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v632 : BitVec 32 := Scalar.addi v8 c0_i32_287
  let v633 : Index := Scalar.indexCast v632
  ![28, v633.toNat]
def k0_off30 (i : grid0.Coords) (c0_i32_297 : BitVec 32) : Fin 2 → Nat :=
  let c29 : Index := 29#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v654 : BitVec 32 := Scalar.addi v8 c0_i32_297
  let v655 : Index := Scalar.indexCast v654
  ![29, v655.toNat]
def k0_off31 (i : grid0.Coords) (c0_i32_307 : BitVec 32) : Fin 2 → Nat :=
  let c30 : Index := 30#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v676 : BitVec 32 := Scalar.addi v8 c0_i32_307
  let v677 : Index := Scalar.indexCast v676
  ![30, v677.toNat]
def k0_off32 (i : grid0.Coords) (c0_i32_317 : BitVec 32) : Fin 2 → Nat :=
  let c31 : Index := 31#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v698 : BitVec 32 := Scalar.addi v8 c0_i32_317
  let v699 : Index := Scalar.indexCast v698
  ![31, v699.toNat]
def k0_off33 (i : grid0.Coords) (c0_i32_327 : BitVec 32) : Fin 2 → Nat :=
  let c32 : Index := 32#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v720 : BitVec 32 := Scalar.addi v8 c0_i32_327
  let v721 : Index := Scalar.indexCast v720
  ![32, v721.toNat]
def k0_off34 (i : grid0.Coords) (c0_i32_337 : BitVec 32) : Fin 2 → Nat :=
  let c33 : Index := 33#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v742 : BitVec 32 := Scalar.addi v8 c0_i32_337
  let v743 : Index := Scalar.indexCast v742
  ![33, v743.toNat]
def k0_off35 (i : grid0.Coords) (c0_i32_347 : BitVec 32) : Fin 2 → Nat :=
  let c34 : Index := 34#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v764 : BitVec 32 := Scalar.addi v8 c0_i32_347
  let v765 : Index := Scalar.indexCast v764
  ![34, v765.toNat]
def k0_off36 (i : grid0.Coords) (c0_i32_357 : BitVec 32) : Fin 2 → Nat :=
  let c35 : Index := 35#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v786 : BitVec 32 := Scalar.addi v8 c0_i32_357
  let v787 : Index := Scalar.indexCast v786
  ![35, v787.toNat]
def k0_off37 (i : grid0.Coords) (c0_i32_367 : BitVec 32) : Fin 2 → Nat :=
  let c36 : Index := 36#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v808 : BitVec 32 := Scalar.addi v8 c0_i32_367
  let v809 : Index := Scalar.indexCast v808
  ![36, v809.toNat]
def k0_off38 (i : grid0.Coords) (c0_i32_377 : BitVec 32) : Fin 2 → Nat :=
  let c37 : Index := 37#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v830 : BitVec 32 := Scalar.addi v8 c0_i32_377
  let v831 : Index := Scalar.indexCast v830
  ![37, v831.toNat]
def k0_off39 (i : grid0.Coords) (c0_i32_387 : BitVec 32) : Fin 2 → Nat :=
  let c38 : Index := 38#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v852 : BitVec 32 := Scalar.addi v8 c0_i32_387
  let v853 : Index := Scalar.indexCast v852
  ![38, v853.toNat]
def k0_off40 (i : grid0.Coords) (c0_i32_397 : BitVec 32) : Fin 2 → Nat :=
  let c39 : Index := 39#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v874 : BitVec 32 := Scalar.addi v8 c0_i32_397
  let v875 : Index := Scalar.indexCast v874
  ![39, v875.toNat]
def k0_off41 (i : grid0.Coords) (c0_i32_407 : BitVec 32) : Fin 2 → Nat :=
  let c40 : Index := 40#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v896 : BitVec 32 := Scalar.addi v8 c0_i32_407
  let v897 : Index := Scalar.indexCast v896
  ![40, v897.toNat]
def k0_off42 (i : grid0.Coords) (c0_i32_417 : BitVec 32) : Fin 2 → Nat :=
  let c41 : Index := 41#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v918 : BitVec 32 := Scalar.addi v8 c0_i32_417
  let v919 : Index := Scalar.indexCast v918
  ![41, v919.toNat]
def k0_off43 (i : grid0.Coords) (c0_i32_427 : BitVec 32) : Fin 2 → Nat :=
  let c42 : Index := 42#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v940 : BitVec 32 := Scalar.addi v8 c0_i32_427
  let v941 : Index := Scalar.indexCast v940
  ![42, v941.toNat]
def k0_off44 (i : grid0.Coords) (c0_i32_437 : BitVec 32) : Fin 2 → Nat :=
  let c43 : Index := 43#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v962 : BitVec 32 := Scalar.addi v8 c0_i32_437
  let v963 : Index := Scalar.indexCast v962
  ![43, v963.toNat]
def k0_off45 (i : grid0.Coords) (c0_i32_447 : BitVec 32) : Fin 2 → Nat :=
  let c44 : Index := 44#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v984 : BitVec 32 := Scalar.addi v8 c0_i32_447
  let v985 : Index := Scalar.indexCast v984
  ![44, v985.toNat]
def k0_off46 (i : grid0.Coords) (c0_i32_457 : BitVec 32) : Fin 2 → Nat :=
  let c45 : Index := 45#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1006 : BitVec 32 := Scalar.addi v8 c0_i32_457
  let v1007 : Index := Scalar.indexCast v1006
  ![45, v1007.toNat]
def k0_off47 (i : grid0.Coords) (c0_i32_467 : BitVec 32) : Fin 2 → Nat :=
  let c46 : Index := 46#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1028 : BitVec 32 := Scalar.addi v8 c0_i32_467
  let v1029 : Index := Scalar.indexCast v1028
  ![46, v1029.toNat]
def k0_off48 (i : grid0.Coords) (c0_i32_477 : BitVec 32) : Fin 2 → Nat :=
  let c47 : Index := 47#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1050 : BitVec 32 := Scalar.addi v8 c0_i32_477
  let v1051 : Index := Scalar.indexCast v1050
  ![47, v1051.toNat]
def k0_off49 (i : grid0.Coords) (c0_i32_487 : BitVec 32) : Fin 2 → Nat :=
  let c48 : Index := 48#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1072 : BitVec 32 := Scalar.addi v8 c0_i32_487
  let v1073 : Index := Scalar.indexCast v1072
  ![48, v1073.toNat]
def k0_off50 (i : grid0.Coords) (c0_i32_497 : BitVec 32) : Fin 2 → Nat :=
  let c49 : Index := 49#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1094 : BitVec 32 := Scalar.addi v8 c0_i32_497
  let v1095 : Index := Scalar.indexCast v1094
  ![49, v1095.toNat]
def k0_off51 (i : grid0.Coords) (c0_i32_507 : BitVec 32) : Fin 2 → Nat :=
  let c50 : Index := 50#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1116 : BitVec 32 := Scalar.addi v8 c0_i32_507
  let v1117 : Index := Scalar.indexCast v1116
  ![50, v1117.toNat]
def k0_off52 (i : grid0.Coords) (c0_i32_517 : BitVec 32) : Fin 2 → Nat :=
  let c51 : Index := 51#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1138 : BitVec 32 := Scalar.addi v8 c0_i32_517
  let v1139 : Index := Scalar.indexCast v1138
  ![51, v1139.toNat]
def k0_off53 (i : grid0.Coords) (c0_i32_527 : BitVec 32) : Fin 2 → Nat :=
  let c52 : Index := 52#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1160 : BitVec 32 := Scalar.addi v8 c0_i32_527
  let v1161 : Index := Scalar.indexCast v1160
  ![52, v1161.toNat]
def k0_off54 (i : grid0.Coords) (c0_i32_537 : BitVec 32) : Fin 2 → Nat :=
  let c53 : Index := 53#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1182 : BitVec 32 := Scalar.addi v8 c0_i32_537
  let v1183 : Index := Scalar.indexCast v1182
  ![53, v1183.toNat]
def k0_off55 (i : grid0.Coords) (c0_i32_547 : BitVec 32) : Fin 2 → Nat :=
  let c54 : Index := 54#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1204 : BitVec 32 := Scalar.addi v8 c0_i32_547
  let v1205 : Index := Scalar.indexCast v1204
  ![54, v1205.toNat]
def k0_off56 (i : grid0.Coords) (c0_i32_557 : BitVec 32) : Fin 2 → Nat :=
  let c55 : Index := 55#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1226 : BitVec 32 := Scalar.addi v8 c0_i32_557
  let v1227 : Index := Scalar.indexCast v1226
  ![55, v1227.toNat]
def k0_off57 (i : grid0.Coords) (c0_i32_567 : BitVec 32) : Fin 2 → Nat :=
  let c56 : Index := 56#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1248 : BitVec 32 := Scalar.addi v8 c0_i32_567
  let v1249 : Index := Scalar.indexCast v1248
  ![56, v1249.toNat]
def k0_off58 (i : grid0.Coords) (c0_i32_577 : BitVec 32) : Fin 2 → Nat :=
  let c57 : Index := 57#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1270 : BitVec 32 := Scalar.addi v8 c0_i32_577
  let v1271 : Index := Scalar.indexCast v1270
  ![57, v1271.toNat]
def k0_off59 (i : grid0.Coords) (c0_i32_587 : BitVec 32) : Fin 2 → Nat :=
  let c58 : Index := 58#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1292 : BitVec 32 := Scalar.addi v8 c0_i32_587
  let v1293 : Index := Scalar.indexCast v1292
  ![58, v1293.toNat]
def k0_off60 (i : grid0.Coords) (c0_i32_597 : BitVec 32) : Fin 2 → Nat :=
  let c59 : Index := 59#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1314 : BitVec 32 := Scalar.addi v8 c0_i32_597
  let v1315 : Index := Scalar.indexCast v1314
  ![59, v1315.toNat]
def k0_off61 (i : grid0.Coords) (c0_i32_607 : BitVec 32) : Fin 2 → Nat :=
  let c60 : Index := 60#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1336 : BitVec 32 := Scalar.addi v8 c0_i32_607
  let v1337 : Index := Scalar.indexCast v1336
  ![60, v1337.toNat]
def k0_off62 (i : grid0.Coords) (c0_i32_617 : BitVec 32) : Fin 2 → Nat :=
  let c61 : Index := 61#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1358 : BitVec 32 := Scalar.addi v8 c0_i32_617
  let v1359 : Index := Scalar.indexCast v1358
  ![61, v1359.toNat]
def k0_off63 (i : grid0.Coords) (c0_i32_627 : BitVec 32) : Fin 2 → Nat :=
  let c62 : Index := 62#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1380 : BitVec 32 := Scalar.addi v8 c0_i32_627
  let v1381 : Index := Scalar.indexCast v1380
  ![62, v1381.toNat]
def k0_off64 (i : grid0.Coords) (c0_i32_637 : BitVec 32) : Fin 2 → Nat :=
  let c63 : Index := 63#32
  let arg1 : BitVec 32 := BitVec.ofNat 32 (i 1).val
  let c5_i32 : BitVec 32 := 5#32
  let v3 : BitVec 1 := Scalar.cmpi .slt arg1 c5_i32
  let c4_i32 : BitVec 32 := 4#32
  let v4 : BitVec 32 := Scalar.muli c4_i32 arg1
  let c20_i32 : BitVec 32 := 20#32
  let c2_i32 : BitVec 32 := 2#32
  let c5_i32_1 : BitVec 32 := 5#32
  let v5 : BitVec 32 := Scalar.subi arg1 c5_i32_1
  let v6 : BitVec 32 := Scalar.muli c2_i32 v5
  let v7 : BitVec 32 := Scalar.addi c20_i32 v6
  let v8 : BitVec 32 := Scalar.select v3 v4 v7
  let v1402 : BitVec 32 := Scalar.addi v8 c0_i32_637
  let v1403 : Index := Scalar.indexCast v1402
  ![63, v1403.toNat]
def k0_off65 (i : grid0.Coords) (c0_i32_647 : BitVec 32) : Fin 2 → Nat :=
  let c0_648 : Index := 0#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1424 : BitVec 32 := Scalar.addi v15 c0_i32_647
  let v1425 : Index := Scalar.indexCast v1424
  ![0, v1425.toNat]
def k0_off66 (i : grid0.Coords) (c0_i32_659 : BitVec 32) : Fin 2 → Nat :=
  let c1_660 : Index := 1#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1446 : BitVec 32 := Scalar.addi v15 c0_i32_659
  let v1447 : Index := Scalar.indexCast v1446
  ![1, v1447.toNat]
def k0_off67 (i : grid0.Coords) (c0_i32_671 : BitVec 32) : Fin 2 → Nat :=
  let c2_672 : Index := 2#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1468 : BitVec 32 := Scalar.addi v15 c0_i32_671
  let v1469 : Index := Scalar.indexCast v1468
  ![2, v1469.toNat]
def k0_off68 (i : grid0.Coords) (c0_i32_683 : BitVec 32) : Fin 2 → Nat :=
  let c3_684 : Index := 3#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1490 : BitVec 32 := Scalar.addi v15 c0_i32_683
  let v1491 : Index := Scalar.indexCast v1490
  ![3, v1491.toNat]
def k0_off69 (i : grid0.Coords) (c0_i32_695 : BitVec 32) : Fin 2 → Nat :=
  let c4_696 : Index := 4#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1512 : BitVec 32 := Scalar.addi v15 c0_i32_695
  let v1513 : Index := Scalar.indexCast v1512
  ![4, v1513.toNat]
def k0_off70 (i : grid0.Coords) (c0_i32_707 : BitVec 32) : Fin 2 → Nat :=
  let c5_708 : Index := 5#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1534 : BitVec 32 := Scalar.addi v15 c0_i32_707
  let v1535 : Index := Scalar.indexCast v1534
  ![5, v1535.toNat]
def k0_off71 (i : grid0.Coords) (c0_i32_719 : BitVec 32) : Fin 2 → Nat :=
  let c6_720 : Index := 6#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1556 : BitVec 32 := Scalar.addi v15 c0_i32_719
  let v1557 : Index := Scalar.indexCast v1556
  ![6, v1557.toNat]
def k0_off72 (i : grid0.Coords) (c0_i32_731 : BitVec 32) : Fin 2 → Nat :=
  let c7_732 : Index := 7#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1578 : BitVec 32 := Scalar.addi v15 c0_i32_731
  let v1579 : Index := Scalar.indexCast v1578
  ![7, v1579.toNat]
def k0_off73 (i : grid0.Coords) (c0_i32_743 : BitVec 32) : Fin 2 → Nat :=
  let c8_744 : Index := 8#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1600 : BitVec 32 := Scalar.addi v15 c0_i32_743
  let v1601 : Index := Scalar.indexCast v1600
  ![8, v1601.toNat]
def k0_off74 (i : grid0.Coords) (c0_i32_755 : BitVec 32) : Fin 2 → Nat :=
  let c9_756 : Index := 9#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1622 : BitVec 32 := Scalar.addi v15 c0_i32_755
  let v1623 : Index := Scalar.indexCast v1622
  ![9, v1623.toNat]
def k0_off75 (i : grid0.Coords) (c0_i32_767 : BitVec 32) : Fin 2 → Nat :=
  let c10_768 : Index := 10#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1644 : BitVec 32 := Scalar.addi v15 c0_i32_767
  let v1645 : Index := Scalar.indexCast v1644
  ![10, v1645.toNat]
def k0_off76 (i : grid0.Coords) (c0_i32_779 : BitVec 32) : Fin 2 → Nat :=
  let c11_780 : Index := 11#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1666 : BitVec 32 := Scalar.addi v15 c0_i32_779
  let v1667 : Index := Scalar.indexCast v1666
  ![11, v1667.toNat]
def k0_off77 (i : grid0.Coords) (c0_i32_791 : BitVec 32) : Fin 2 → Nat :=
  let c12_792 : Index := 12#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1688 : BitVec 32 := Scalar.addi v15 c0_i32_791
  let v1689 : Index := Scalar.indexCast v1688
  ![12, v1689.toNat]
def k0_off78 (i : grid0.Coords) (c0_i32_803 : BitVec 32) : Fin 2 → Nat :=
  let c13_804 : Index := 13#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1710 : BitVec 32 := Scalar.addi v15 c0_i32_803
  let v1711 : Index := Scalar.indexCast v1710
  ![13, v1711.toNat]
def k0_off79 (i : grid0.Coords) (c0_i32_815 : BitVec 32) : Fin 2 → Nat :=
  let c14_816 : Index := 14#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1732 : BitVec 32 := Scalar.addi v15 c0_i32_815
  let v1733 : Index := Scalar.indexCast v1732
  ![14, v1733.toNat]
def k0_off80 (i : grid0.Coords) (c0_i32_827 : BitVec 32) : Fin 2 → Nat :=
  let c15_828 : Index := 15#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1754 : BitVec 32 := Scalar.addi v15 c0_i32_827
  let v1755 : Index := Scalar.indexCast v1754
  ![15, v1755.toNat]
def k0_off81 (i : grid0.Coords) (c0_i32_839 : BitVec 32) : Fin 2 → Nat :=
  let c16_840 : Index := 16#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1776 : BitVec 32 := Scalar.addi v15 c0_i32_839
  let v1777 : Index := Scalar.indexCast v1776
  ![16, v1777.toNat]
def k0_off82 (i : grid0.Coords) (c0_i32_851 : BitVec 32) : Fin 2 → Nat :=
  let c17_852 : Index := 17#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1798 : BitVec 32 := Scalar.addi v15 c0_i32_851
  let v1799 : Index := Scalar.indexCast v1798
  ![17, v1799.toNat]
def k0_off83 (i : grid0.Coords) (c0_i32_863 : BitVec 32) : Fin 2 → Nat :=
  let c18_864 : Index := 18#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1820 : BitVec 32 := Scalar.addi v15 c0_i32_863
  let v1821 : Index := Scalar.indexCast v1820
  ![18, v1821.toNat]
def k0_off84 (i : grid0.Coords) (c0_i32_875 : BitVec 32) : Fin 2 → Nat :=
  let c19_876 : Index := 19#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1842 : BitVec 32 := Scalar.addi v15 c0_i32_875
  let v1843 : Index := Scalar.indexCast v1842
  ![19, v1843.toNat]
def k0_off85 (i : grid0.Coords) (c0_i32_887 : BitVec 32) : Fin 2 → Nat :=
  let c20_888 : Index := 20#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1864 : BitVec 32 := Scalar.addi v15 c0_i32_887
  let v1865 : Index := Scalar.indexCast v1864
  ![20, v1865.toNat]
def k0_off86 (i : grid0.Coords) (c0_i32_899 : BitVec 32) : Fin 2 → Nat :=
  let c21_900 : Index := 21#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1886 : BitVec 32 := Scalar.addi v15 c0_i32_899
  let v1887 : Index := Scalar.indexCast v1886
  ![21, v1887.toNat]
def k0_off87 (i : grid0.Coords) (c0_i32_911 : BitVec 32) : Fin 2 → Nat :=
  let c22_912 : Index := 22#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1908 : BitVec 32 := Scalar.addi v15 c0_i32_911
  let v1909 : Index := Scalar.indexCast v1908
  ![22, v1909.toNat]
def k0_off88 (i : grid0.Coords) (c0_i32_923 : BitVec 32) : Fin 2 → Nat :=
  let c23_924 : Index := 23#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1930 : BitVec 32 := Scalar.addi v15 c0_i32_923
  let v1931 : Index := Scalar.indexCast v1930
  ![23, v1931.toNat]
def k0_off89 (i : grid0.Coords) (c0_i32_935 : BitVec 32) : Fin 2 → Nat :=
  let c24_936 : Index := 24#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1952 : BitVec 32 := Scalar.addi v15 c0_i32_935
  let v1953 : Index := Scalar.indexCast v1952
  ![24, v1953.toNat]
def k0_off90 (i : grid0.Coords) (c0_i32_947 : BitVec 32) : Fin 2 → Nat :=
  let c25_948 : Index := 25#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1974 : BitVec 32 := Scalar.addi v15 c0_i32_947
  let v1975 : Index := Scalar.indexCast v1974
  ![25, v1975.toNat]
def k0_off91 (i : grid0.Coords) (c0_i32_959 : BitVec 32) : Fin 2 → Nat :=
  let c26_960 : Index := 26#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v1996 : BitVec 32 := Scalar.addi v15 c0_i32_959
  let v1997 : Index := Scalar.indexCast v1996
  ![26, v1997.toNat]
def k0_off92 (i : grid0.Coords) (c0_i32_971 : BitVec 32) : Fin 2 → Nat :=
  let c27_972 : Index := 27#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2018 : BitVec 32 := Scalar.addi v15 c0_i32_971
  let v2019 : Index := Scalar.indexCast v2018
  ![27, v2019.toNat]
def k0_off93 (i : grid0.Coords) (c0_i32_983 : BitVec 32) : Fin 2 → Nat :=
  let c28_984 : Index := 28#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2040 : BitVec 32 := Scalar.addi v15 c0_i32_983
  let v2041 : Index := Scalar.indexCast v2040
  ![28, v2041.toNat]
def k0_off94 (i : grid0.Coords) (c0_i32_995 : BitVec 32) : Fin 2 → Nat :=
  let c29_996 : Index := 29#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2062 : BitVec 32 := Scalar.addi v15 c0_i32_995
  let v2063 : Index := Scalar.indexCast v2062
  ![29, v2063.toNat]
def k0_off95 (i : grid0.Coords) (c0_i32_1007 : BitVec 32) : Fin 2 → Nat :=
  let c30_1008 : Index := 30#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2084 : BitVec 32 := Scalar.addi v15 c0_i32_1007
  let v2085 : Index := Scalar.indexCast v2084
  ![30, v2085.toNat]
def k0_off96 (i : grid0.Coords) (c0_i32_1019 : BitVec 32) : Fin 2 → Nat :=
  let c31_1020 : Index := 31#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2106 : BitVec 32 := Scalar.addi v15 c0_i32_1019
  let v2107 : Index := Scalar.indexCast v2106
  ![31, v2107.toNat]
def k0_off97 (i : grid0.Coords) (c0_i32_1031 : BitVec 32) : Fin 2 → Nat :=
  let c32_1032 : Index := 32#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2128 : BitVec 32 := Scalar.addi v15 c0_i32_1031
  let v2129 : Index := Scalar.indexCast v2128
  ![32, v2129.toNat]
def k0_off98 (i : grid0.Coords) (c0_i32_1043 : BitVec 32) : Fin 2 → Nat :=
  let c33_1044 : Index := 33#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2150 : BitVec 32 := Scalar.addi v15 c0_i32_1043
  let v2151 : Index := Scalar.indexCast v2150
  ![33, v2151.toNat]
def k0_off99 (i : grid0.Coords) (c0_i32_1055 : BitVec 32) : Fin 2 → Nat :=
  let c34_1056 : Index := 34#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2172 : BitVec 32 := Scalar.addi v15 c0_i32_1055
  let v2173 : Index := Scalar.indexCast v2172
  ![34, v2173.toNat]
def k0_off100 (i : grid0.Coords) (c0_i32_1067 : BitVec 32) : Fin 2 → Nat :=
  let c35_1068 : Index := 35#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2194 : BitVec 32 := Scalar.addi v15 c0_i32_1067
  let v2195 : Index := Scalar.indexCast v2194
  ![35, v2195.toNat]
def k0_off101 (i : grid0.Coords) (c0_i32_1079 : BitVec 32) : Fin 2 → Nat :=
  let c36_1080 : Index := 36#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2216 : BitVec 32 := Scalar.addi v15 c0_i32_1079
  let v2217 : Index := Scalar.indexCast v2216
  ![36, v2217.toNat]
def k0_off102 (i : grid0.Coords) (c0_i32_1091 : BitVec 32) : Fin 2 → Nat :=
  let c37_1092 : Index := 37#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2238 : BitVec 32 := Scalar.addi v15 c0_i32_1091
  let v2239 : Index := Scalar.indexCast v2238
  ![37, v2239.toNat]
def k0_off103 (i : grid0.Coords) (c0_i32_1103 : BitVec 32) : Fin 2 → Nat :=
  let c38_1104 : Index := 38#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2260 : BitVec 32 := Scalar.addi v15 c0_i32_1103
  let v2261 : Index := Scalar.indexCast v2260
  ![38, v2261.toNat]
def k0_off104 (i : grid0.Coords) (c0_i32_1115 : BitVec 32) : Fin 2 → Nat :=
  let c39_1116 : Index := 39#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2282 : BitVec 32 := Scalar.addi v15 c0_i32_1115
  let v2283 : Index := Scalar.indexCast v2282
  ![39, v2283.toNat]
def k0_off105 (i : grid0.Coords) (c0_i32_1127 : BitVec 32) : Fin 2 → Nat :=
  let c40_1128 : Index := 40#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2304 : BitVec 32 := Scalar.addi v15 c0_i32_1127
  let v2305 : Index := Scalar.indexCast v2304
  ![40, v2305.toNat]
def k0_off106 (i : grid0.Coords) (c0_i32_1139 : BitVec 32) : Fin 2 → Nat :=
  let c41_1140 : Index := 41#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2326 : BitVec 32 := Scalar.addi v15 c0_i32_1139
  let v2327 : Index := Scalar.indexCast v2326
  ![41, v2327.toNat]
def k0_off107 (i : grid0.Coords) (c0_i32_1151 : BitVec 32) : Fin 2 → Nat :=
  let c42_1152 : Index := 42#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2348 : BitVec 32 := Scalar.addi v15 c0_i32_1151
  let v2349 : Index := Scalar.indexCast v2348
  ![42, v2349.toNat]
def k0_off108 (i : grid0.Coords) (c0_i32_1163 : BitVec 32) : Fin 2 → Nat :=
  let c43_1164 : Index := 43#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2370 : BitVec 32 := Scalar.addi v15 c0_i32_1163
  let v2371 : Index := Scalar.indexCast v2370
  ![43, v2371.toNat]
def k0_off109 (i : grid0.Coords) (c0_i32_1175 : BitVec 32) : Fin 2 → Nat :=
  let c44_1176 : Index := 44#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2392 : BitVec 32 := Scalar.addi v15 c0_i32_1175
  let v2393 : Index := Scalar.indexCast v2392
  ![44, v2393.toNat]
def k0_off110 (i : grid0.Coords) (c0_i32_1187 : BitVec 32) : Fin 2 → Nat :=
  let c45_1188 : Index := 45#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2414 : BitVec 32 := Scalar.addi v15 c0_i32_1187
  let v2415 : Index := Scalar.indexCast v2414
  ![45, v2415.toNat]
def k0_off111 (i : grid0.Coords) (c0_i32_1199 : BitVec 32) : Fin 2 → Nat :=
  let c46_1200 : Index := 46#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2436 : BitVec 32 := Scalar.addi v15 c0_i32_1199
  let v2437 : Index := Scalar.indexCast v2436
  ![46, v2437.toNat]
def k0_off112 (i : grid0.Coords) (c0_i32_1211 : BitVec 32) : Fin 2 → Nat :=
  let c47_1212 : Index := 47#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2458 : BitVec 32 := Scalar.addi v15 c0_i32_1211
  let v2459 : Index := Scalar.indexCast v2458
  ![47, v2459.toNat]
def k0_off113 (i : grid0.Coords) (c0_i32_1223 : BitVec 32) : Fin 2 → Nat :=
  let c48_1224 : Index := 48#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2480 : BitVec 32 := Scalar.addi v15 c0_i32_1223
  let v2481 : Index := Scalar.indexCast v2480
  ![48, v2481.toNat]
def k0_off114 (i : grid0.Coords) (c0_i32_1235 : BitVec 32) : Fin 2 → Nat :=
  let c49_1236 : Index := 49#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2502 : BitVec 32 := Scalar.addi v15 c0_i32_1235
  let v2503 : Index := Scalar.indexCast v2502
  ![49, v2503.toNat]
def k0_off115 (i : grid0.Coords) (c0_i32_1247 : BitVec 32) : Fin 2 → Nat :=
  let c50_1248 : Index := 50#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2524 : BitVec 32 := Scalar.addi v15 c0_i32_1247
  let v2525 : Index := Scalar.indexCast v2524
  ![50, v2525.toNat]
def k0_off116 (i : grid0.Coords) (c0_i32_1259 : BitVec 32) : Fin 2 → Nat :=
  let c51_1260 : Index := 51#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2546 : BitVec 32 := Scalar.addi v15 c0_i32_1259
  let v2547 : Index := Scalar.indexCast v2546
  ![51, v2547.toNat]
def k0_off117 (i : grid0.Coords) (c0_i32_1271 : BitVec 32) : Fin 2 → Nat :=
  let c52_1272 : Index := 52#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2568 : BitVec 32 := Scalar.addi v15 c0_i32_1271
  let v2569 : Index := Scalar.indexCast v2568
  ![52, v2569.toNat]
def k0_off118 (i : grid0.Coords) (c0_i32_1283 : BitVec 32) : Fin 2 → Nat :=
  let c53_1284 : Index := 53#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2590 : BitVec 32 := Scalar.addi v15 c0_i32_1283
  let v2591 : Index := Scalar.indexCast v2590
  ![53, v2591.toNat]
def k0_off119 (i : grid0.Coords) (c0_i32_1295 : BitVec 32) : Fin 2 → Nat :=
  let c54_1296 : Index := 54#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2612 : BitVec 32 := Scalar.addi v15 c0_i32_1295
  let v2613 : Index := Scalar.indexCast v2612
  ![54, v2613.toNat]
def k0_off120 (i : grid0.Coords) (c0_i32_1307 : BitVec 32) : Fin 2 → Nat :=
  let c55_1308 : Index := 55#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2634 : BitVec 32 := Scalar.addi v15 c0_i32_1307
  let v2635 : Index := Scalar.indexCast v2634
  ![55, v2635.toNat]
def k0_off121 (i : grid0.Coords) (c0_i32_1319 : BitVec 32) : Fin 2 → Nat :=
  let c56_1320 : Index := 56#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2656 : BitVec 32 := Scalar.addi v15 c0_i32_1319
  let v2657 : Index := Scalar.indexCast v2656
  ![56, v2657.toNat]
def k0_off122 (i : grid0.Coords) (c0_i32_1331 : BitVec 32) : Fin 2 → Nat :=
  let c57_1332 : Index := 57#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2678 : BitVec 32 := Scalar.addi v15 c0_i32_1331
  let v2679 : Index := Scalar.indexCast v2678
  ![57, v2679.toNat]
def k0_off123 (i : grid0.Coords) (c0_i32_1343 : BitVec 32) : Fin 2 → Nat :=
  let c58_1344 : Index := 58#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2700 : BitVec 32 := Scalar.addi v15 c0_i32_1343
  let v2701 : Index := Scalar.indexCast v2700
  ![58, v2701.toNat]
def k0_off124 (i : grid0.Coords) (c0_i32_1355 : BitVec 32) : Fin 2 → Nat :=
  let c59_1356 : Index := 59#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2722 : BitVec 32 := Scalar.addi v15 c0_i32_1355
  let v2723 : Index := Scalar.indexCast v2722
  ![59, v2723.toNat]
def k0_off125 (i : grid0.Coords) (c0_i32_1367 : BitVec 32) : Fin 2 → Nat :=
  let c60_1368 : Index := 60#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2744 : BitVec 32 := Scalar.addi v15 c0_i32_1367
  let v2745 : Index := Scalar.indexCast v2744
  ![60, v2745.toNat]
def k0_off126 (i : grid0.Coords) (c0_i32_1379 : BitVec 32) : Fin 2 → Nat :=
  let c61_1380 : Index := 61#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2766 : BitVec 32 := Scalar.addi v15 c0_i32_1379
  let v2767 : Index := Scalar.indexCast v2766
  ![61, v2767.toNat]
def k0_off127 (i : grid0.Coords) (c0_i32_1391 : BitVec 32) : Fin 2 → Nat :=
  let c62_1392 : Index := 62#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2788 : BitVec 32 := Scalar.addi v15 c0_i32_1391
  let v2789 : Index := Scalar.indexCast v2788
  ![62, v2789.toNat]
def k0_off128 (i : grid0.Coords) (c0_i32_1403 : BitVec 32) : Fin 2 → Nat :=
  let c63_1404 : Index := 63#32
  let arg1 : BitVec 32 := BitVec.ofNat 32 (i 1).val
  let c5_i32_2 : BitVec 32 := 5#32
  let v9 : BitVec 1 := Scalar.cmpi .slt arg1 c5_i32_2
  let c4_i32_3 : BitVec 32 := 4#32
  let v10 : BitVec 32 := Scalar.muli c4_i32_3 arg1
  let c2_i32_4 : BitVec 32 := 2#32
  let v11 : BitVec 32 := Scalar.addi v10 c2_i32_4
  let c76_i32 : BitVec 32 := 76#32
  let c2_i32_6 : BitVec 32 := 2#32
  let c5_i32_5 : BitVec 32 := 5#32
  let v12 : BitVec 32 := Scalar.subi arg1 c5_i32_5
  let v13 : BitVec 32 := Scalar.muli c2_i32_6 v12
  let v14 : BitVec 32 := Scalar.addi c76_i32 v13
  let v15 : BitVec 32 := Scalar.select v9 v11 v14
  let v2810 : BitVec 32 := Scalar.addi v15 c0_i32_1403
  let v2811 : Index := Scalar.indexCast v2810
  ![63, v2811.toNat]
def k0_cond2 (i : grid0.Coords) : BitVec 1 :=
  let arg1 : BitVec 32 := BitVec.ofNat 32 (i 1).val
  let c5_i32_1415 : BitVec 32 := 5#32
  let v2832 : BitVec 1 := Scalar.cmpi .slt arg1 c5_i32_1415
  let v2833 : BitVec 32 := Scalar.extui v2832
  let c0_i32_1416 : BitVec 32 := 0#32
  let v2834 : BitVec 1 := Scalar.cmpi .ne v2833 c0_i32_1416
  v2834

def k0_cond3 (i : grid0.Coords) : BitVec 1 :=
  let arg1 : BitVec 32 := BitVec.ofNat 32 (i 1).val
  let c4_i32_1423 : BitVec 32 := 4#32
  let v2842 : BitVec 1 := Scalar.cmpi .slt arg1 c4_i32_1423
  let v2843 : BitVec 32 := Scalar.extui v2842
  let c0_i32_1424 : BitVec 32 := 0#32
  let v2844 : BitVec 1 := Scalar.cmpi .ne v2843 c0_i32_1424
  v2844

def k0_cond4 (i : grid0.Coords) : BitVec 1 :=
  let arg1 : BitVec 32 := BitVec.ofNat 32 (i 1).val
  let c4_i32_1425 : BitVec 32 := 4#32
  let v2845 : BitVec 1 := Scalar.cmpi .eq arg1 c4_i32_1425
  let v2846 : BitVec 32 := Scalar.extui v2845
  let c0_i32_1426 : BitVec 32 := 0#32
  let v2847 : BitVec 1 := Scalar.cmpi .ne v2846 c0_i32_1426
  v2847

def k0_cond5 (i : grid0.Coords) : BitVec 1 :=
  let arg1 : BitVec 32 := BitVec.ofNat 32 (i 1).val
  let c5_i32_1417 : BitVec 32 := 5#32
  let v2835 : BitVec 1 := Scalar.cmpi .sge arg1 c5_i32_1417
  let v2836 : BitVec 32 := Scalar.extui v2835
  let c0_i32_1418 : BitVec 32 := 0#32
  let v2837 : BitVec 1 := Scalar.cmpi .ne v2836 c0_i32_1418
  v2837

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c2_i32 : BitVec 32 := 2#32
  let v1 : BitVec 32 := Scalar.muli c2_i32 arg1
  let c5_i32_0 : BitVec 32 := 5#32
  let v2 : BitVec 32 := Scalar.addi arg1 c5_i32_0
  let v3 : BitVec 32 := Scalar.select v0 v1 v2
  let c0_i32 : BitVec 32 := 0#32
  let c0_i32_1 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c2_i32 : BitVec 32 := 2#32
  let v1 : BitVec 32 := Scalar.muli c2_i32 arg1
  let c1_i32 : BitVec 32 := 1#32
  let v2 : BitVec 32 := Scalar.addi v1 c1_i32
  let c33_i32 : BitVec 32 := 33#32
  let v3 : BitVec 32 := Scalar.addi arg1 c33_i32
  let v4 : BitVec 32 := Scalar.select v0 v2 v3
  let c0_i32 : BitVec 32 := 0#32
  let c0_i32_0 : BitVec 32 := 0#32
  ![c0_i32.toNat, v4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  ![arg0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S64x132 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x56 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ProjRefIdeal.lean ====
abbrev S8192x8192 : Shape := ⟨2, ![8192, 8192]⟩
abbrev S8192x64 : Shape := ⟨2, ![8192, 64]⟩
abbrev S8192x16896 : Shape := ⟨2, ![8192, 16896]⟩
abbrev S64x132 : Shape := ⟨2, ![64, 132]⟩
abbrev S8192x2048 : Shape := ⟨2, ![8192, 2048]⟩
abbrev S8192x256 : Shape := ⟨2, ![8192, 256]⟩
abbrev S8192x7168 : Shape := ⟨2, ![8192, 7168]⟩
abbrev S8192x56 : Shape := ⟨2, ![8192, 56]⟩
abbrev S8192x64x128 : Shape := ⟨3, ![8192, 64, 128]⟩
abbrev S8192x64x1 : Shape := ⟨3, ![8192, 64, 1]⟩
abbrev S64x128x132x128 : Shape := ⟨4, ![64, 128, 132, 128]⟩
abbrev S64x1x132x1 : Shape := ⟨4, ![64, 1, 132, 1]⟩
abbrev S8192x56x128 : Shape := ⟨3, ![8192, 56, 128]⟩
abbrev S8192x56x1 : Shape := ⟨3, ![8192, 56, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x8192, .fp8e4m3⟩
  | .hbm, ⟨1, _⟩ => ⟨S8192x64, .f32⟩
  | .hbm, ⟨2, _⟩ => ⟨S8192x16896, .fp8e4m3⟩
  | .hbm, ⟨3, _⟩ => ⟨S64x132, .f32⟩
  | .hbm, ⟨4, _⟩ => ⟨S8192x2048, .bf16⟩
  | .hbm, ⟨5, _⟩ => ⟨S8192x256, .bf16⟩
  | .hbm, ⟨6, _⟩ => ⟨S8192x256, .bf16⟩
  | .hbm, ⟨7, _⟩ => ⟨S8192x7168, .fp8e4m3⟩
  | .hbm, ⟨8, _⟩ => ⟨S8192x56, .f32⟩
  | .local _ .vmem, ⟨0, _⟩ => ⟨S8192x8192, .fp8e4m3⟩
  | .local _ .vmem, ⟨1, _⟩ => ⟨S8192x64, .f32⟩
  | .local _ .vmem, ⟨2, _⟩ => ⟨S8192x16896, .fp8e4m3⟩
  | .local _ .vmem, ⟨3, _⟩ => ⟨S64x132, .f32⟩
  | .local _ .vmem, ⟨4, _⟩ => ⟨S8192x2048, .bf16⟩
  | .local _ .vmem, ⟨5, _⟩ => ⟨S8192x256, .bf16⟩
  | .local _ .vmem, ⟨6, _⟩ => ⟨S8192x256, .bf16⟩
  | .local _ .vmem, ⟨7, _⟩ => ⟨S8192x7168, .fp8e4m3⟩
  | .local _ .vmem, ⟨8, _⟩ => ⟨S8192x56, .f32⟩
  | _, _ => ⟨S8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x16896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x132 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x56 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Norm.lean ====
abbrev S8x1024x8192 : Shape := ⟨3, ![8, 1024, 8192]⟩
abbrev S8192 : Shape := ⟨1, ![8192]⟩
abbrev S8192x8192 : Shape := ⟨2, ![8192, 8192]⟩
abbrev S1x8192 : Shape := ⟨2, ![1, 8192]⟩
abbrev S8192x64 : Shape := ⟨2, ![8192, 64]⟩
abbrev S128x8192 : Shape := ⟨2, ![128, 8192]⟩
abbrev S128x64 : Shape := ⟨2, ![128, 64]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x1024x8192, .bf16⟩
  | .hbm, ⟨1, _⟩ => ⟨S8192, .bf16⟩
  | .hbm, ⟨2, _⟩ => ⟨S8192x8192, .bf16⟩
  | .hbm, ⟨3, _⟩ => ⟨S1x8192, .bf16⟩
  | .hbm, ⟨4, _⟩ => ⟨S8192x8192, .fp8e4m3⟩
  | .hbm, ⟨5, _⟩ => ⟨S8192x64, .f32⟩
  | .local _ .vmem, ⟨0, _⟩ => ⟨S128x8192, .bf16⟩
  | .local _ .vmem, ⟨1, _⟩ => ⟨S128x8192, .bf16⟩
  | .local _ .vmem, ⟨2, _⟩ => ⟨S1x8192, .bf16⟩
  | .local _ .vmem, ⟨3, _⟩ => ⟨S128x8192, .fp8e4m3⟩
  | .local _ .vmem, ⟨4, _⟩ => ⟨S128x8192, .fp8e4m3⟩
  | .local _ .vmem, ⟨5, _⟩ => ⟨S128x64, .f32⟩
  | .local _ .vmem, ⟨6, _⟩ => ⟨S128x64, .f32⟩
  | _, _ => ⟨S8x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S8x1024x8192 : Shape := ⟨3, ![8, 1024, 8192]⟩
abbrev S8192 : Shape := ⟨1, ![8192]⟩
abbrev S8192x8192 : Shape := ⟨2, ![8192, 8192]⟩
abbrev S8192x64 : Shape := ⟨2, ![8192, 64]⟩
abbrev S8x1024 : Shape := ⟨2, ![8, 1024]⟩
abbrev S8x1024x1 : Shape := ⟨3, ![8, 1024, 1]⟩
abbrev S1x1x8192 : Shape := ⟨3, ![1, 1, 8192]⟩
abbrev S8192x64x128 : Shape := ⟨3, ![8192, 64, 128]⟩
abbrev S8192x64x1 : Shape := ⟨3, ![8192, 64, 1]⟩

abbrev nBuf : Space → Nat
  | .hbm => 4
  | .vmem => 4
  | .smem => 0
  | _ => 0

abbrev bufTy : (tb : Table) → Fin (tcTables nBuf tb) → BufTy
  | .hbm, ⟨0, _⟩ => ⟨S8x1024x8192, .bf16⟩
  | .hbm, ⟨1, _⟩ => ⟨S8192, .bf16⟩
  | .hbm, ⟨2, _⟩ => ⟨S8192x8192, .fp8e4m3⟩
  | .hbm, ⟨3, _⟩ => ⟨S8192x64, .f32⟩
  | .local _ .vmem, ⟨0, _⟩ => ⟨S8x1024x8192, .bf16⟩
  | .local _ .vmem, ⟨1, _⟩ => ⟨S8192, .bf16⟩
  | .local _ .vmem, ⟨2, _⟩ => ⟨S8192x8192, .fp8e4m3⟩
  | .local _ .vmem, ⟨3, _⟩ => ⟨S8192x64, .f32⟩
  | _, _ => ⟨S8x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tiles.lean ====
/- Pieces stored tile by tile, read back as one function: the lists of stores the kernels of this certificate leave
   in their staging buffers and scratch, numbered in the order the body stores them. -/
module

public import Idealize.ShloMosaic.Lib.Pipeline.Value

@[expose] public section

noncomputable section

namespace Cert.Tiles

open Idealize.ShloMosaic

/-- `p (n - 1), …, p 1, p 0`: `n` numbered things, the last first. -/
def lastFirst {α : Type*} (p : ℕ → α) : ℕ → List α
  | 0 => []
  | n + 1 => p n :: lastFirst p n

/-- What is in the list is one of the numbered things. -/
theorem exists_of_mem_lastFirst {α : Type*} {p : ℕ → α} {a : α} : ∀ {n : ℕ}, a ∈ lastFirst p n → ∃ k < n, a = p k
  | 0, h => by simp [lastFirst] at h
  | n + 1, h => by
    rcases List.mem_cons.mp h with h | h
    · exact ⟨n, Nat.lt_succ_self n, h⟩
    · obtain ⟨k, hk, e⟩ := exists_of_mem_lastFirst h
      exact ⟨k, Nat.lt_succ_of_lt hk, e⟩

/-- Each numbered thing is in the list. -/
theorem mem_lastFirst {α : Type*} (p : ℕ → α) : ∀ {n k : ℕ}, k < n → p k ∈ lastFirst p n
  | 0, _, h => absurd h (Nat.not_lt_zero _)
  | n + 1, k, h => by
    by_cases e : k = n
    · subst e; exact List.mem_cons_self
    · exact List.mem_cons_of_mem _ (mem_lastFirst p (by omega))

/-- Stores that each write their rectangle of ONE function `G`, and together cover the buffer, leave `G`. -/
theorem canon_lastFirst {Val : EltTy → Type} {S : Shape} {e : EltTy} [∀ e, Nonempty (Val e)] (G : S.Idx → Val e)
    (p : ℕ → View.Piece Val S e) (n : ℕ) (hG : ∀ k < n, ∀ x, (p k).2 x = G ((p k).1.emb x))
    (hc : ∀ y, ∃ k < n, y ∈ (p k).1.set) : View.canon (lastFirst p n) = G := by
  funext y
  refine View.canon_apply_of_pieces G _ (fun q hq x => ?_) y ?_
  · obtain ⟨k, hk, rfl⟩ := exists_of_mem_lastFirst hq
    exact hG k hk x
  · obtain ⟨k, hk, hy⟩ := hc y
    exact ⟨p k, mem_lastFirst p hk, hy⟩

end Cert.Tiles

end
-- ==== Proof.Down.Pieces.lean ====
/- What the down-projection's body stores at a grid point, as numbered pieces: the 224 tiles of the widened weight
   block, the 56 tiles of the widened activation rows, and the one output tile made of both. -/
module

public import proofs.«01_k».proof.Proof.Tiles
public import proofs.«01_k».proof.Proof.Gen.DownIdeal.Frame

@[expose] public section

set_option maxRecDepth 16384

noncomputable section

namespace Cert.DownIdeal.Hand

open Cert.DownIdeal Cert.DownIdeal.Gen Cert.Tiles Idealize.ShloMosaic Idealize.ShloMosaic.TcCoe Idealize.ShloMosaic.Tactic

variable {F : FTy → Type} [FloatOps F]

/-- Where weight tile `n` lies in the weight block: row block `n / 4`, column block `n % 4`. -/
def wOff (n : ℕ) : Fin 2 → ℕ := ![128 * (n / 4 % 56), 128 * (n % 4)]
/-- It lies inside the block. -/
theorem wOff_inb (n : ℕ) : ∀ a, wOff n a + S128x128.size a ≤ S7168x512.size a := by
  intro a
  match a with
  | ⟨0, _⟩ => show 128 * (n / 4 % 56) + 128 ≤ 7168; omega
  | ⟨1, _⟩ => show 128 * (n % 4) + 128 ≤ 512; omega

/-- Where weight tile `n`'s scale lies in the scale table, as the body computes it. -/
def sOff (i : grid0.Coords) (n : ℕ) : Fin 2 → ℕ :=
  ![n / 4 % 56, (Scalar.indexCast (Scalar.addi (Scalar.muli 4#32 (BitVec.ofNat 32 (i 1).val)) (BitVec.ofNat 32 (n % 4)))).toNat]
/-- The scale's column is the tile's column block in the whole weight. -/
theorem sOff_eq (i : grid0.Coords) (n : ℕ) : sOff i n = ![n / 4 % 56, 4 * (i 1).val + n % 4] := by
  have h : (i 1).val < 16 := (i 1).isLt
  have e : (Scalar.indexCast (Scalar.addi (Scalar.muli 4#32 (BitVec.ofNat 32 (i 1).val)) (BitVec.ofNat 32 (n % 4)))).toNat
      = 4 * (i 1).val + n % 4 := by
    show (4#32 * BitVec.ofNat 32 (i 1).val + BitVec.ofNat 32 (n % 4)).toNat = _
    rw [BitVec.toNat_add, BitVec.toNat_mul, BitVec.toNat_ofNat, BitVec.toNat_ofNat, BitVec.toNat_ofNat]
    omega
  unfold sOff; rw [e]
/-- It lies inside the table. -/
theorem sOff_inb (i : grid0.Coords) (n : ℕ) : ∀ a, sOff i n a + S1x1.size a ≤ S56x64.size a := by
  have h : (i 1).val < 16 := (i 1).isLt
  intro a
  rw [sOff_eq]
  match a with
  | ⟨0, _⟩ => show n / 4 % 56 + 1 ≤ 56; omega
  | ⟨1, _⟩ => show 4 * (i 1).val + n % 4 + 1 ≤ 64; omega

/-- Where activation tile `n` lies: column block `n`. -/
def hOff (n : ℕ) : Fin 2 → ℕ := ![0, 128 * (n % 56)]
/-- It lies inside the rows. -/
theorem hOff_inb (n : ℕ) : ∀ a, hOff n a + S512x128.size a ≤ S512x7168.size a := by
  intro a
  match a with
  | ⟨0, _⟩ => show 0 + 512 ≤ 512; omega
  | ⟨1, _⟩ => show 128 * (n % 56) + 128 ≤ 7168; omega
/-- Where activation tile `n`'s scales lie: column `n` of the scale rows. -/
def gOff (n : ℕ) : Fin 2 → ℕ := ![0, n % 56]
/-- They lie inside the scale rows. -/
theorem gOff_inb (n : ℕ) : ∀ a, gOff n a + S512x1.size a ≤ S512x56.size a := by
  intro a
  match a with
  | ⟨0, _⟩ => show 0 + 512 ≤ 512; omega
  | ⟨1, _⟩ => show n % 56 + 1 ≤ 56; omega

section
variable (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .smem S56x64 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x7168 .bf16) (harg8 : arg8.IsWhole) (arg9 : Memref sig .tc .vmem S7168x512 .bf16) (harg9 : arg9.IsWhole)
  (x0 : Vec F S512x7168 .fp8e4m3) (x1 : Vec F S512x56 .f32) (x2 : Vec F S7168x512 .fp8e4m3) (x3 : Vec F S56x64 .f32) (x4 : Vec F S512x512 .bf16) (xs0 : Vec F S512x7168 .bf16)

/-- Weight tile `n` as the body stores it: the tile of codes widened, times its one scale. -/
def wPiece (n : ℕ) : View.Piece (Elt F) S7168x512 .bf16 :=
  ⟨Rect.unit (s := S7168x512) (wOff n) S128x128.size (wOff_inb n),
    k0_pay2 (View.readAt (Elt F) arg5.view (Rect.unit (s := S56x64) (sOff i n) S1x1.size (sOff_inb i n)).toLoadRect (harg5.unread x3) (Shape.Idx.first (numel1_S1x1.symm ▸ Nat.one_pos)))
      (View.readAt (Elt F) arg4.view (Rect.unit (s := S7168x512) (wOff n) S128x128.size (wOff_inb n)).toLoadRect (harg4.unread x2))⟩

/-- Activation tile `n` as the body stores it: the tile of codes widened, times its row's scale. -/
def hPiece (n : ℕ) : View.Piece (Elt F) S512x7168 .bf16 :=
  ⟨Rect.unit (s := S512x7168) (hOff n) S512x128.size (hOff_inb n),
    k0_pay4 (View.readAt (Elt F) arg2.view (Rect.unit (s := S512x7168) (hOff n) S512x128.size (hOff_inb n)).toLoadRect (harg2.unread x0))
      (View.readAt (Elt F) arg3.view (Rect.unit (s := S512x56) (gOff n) S512x1.size (gOff_inb n)).toLoadRect (harg3.unread x1))⟩

/-- At a point that fills the activation scratch, the scratch is left at the 56 activation tiles. -/
theorem hPieces_A (hc0 : cond0_0 i) :
    (kernelRun0_A c i arg2 harg2 arg3 harg3 arg4 harg4 arg5 harg5 arg6 harg6 arg7 harg7 arg8 harg8 arg9 harg9 hc0 x0 x1 x2 x3 x4).2.1
      = lastFirst (hPiece arg2 harg2 arg3 harg3 x0 x1) 56 := by
  sl_kernel_rfl

/-- The one output store, at a point that fills the activation scratch. -/
theorem out_A (hc0 : cond0_0 i) :
    (kernelRun0_A c i arg2 harg2 arg3 harg3 arg4 harg4 arg5 harg5 arg6 harg6 arg7 harg7 arg8 harg8 arg9 harg9 hc0 x0 x1 x2 x3 x4).1
      = [⟨Rect.unit (s := S512x512) ![0, 0] S512x512.size inb_S512x512_S512x512_0_0,
          k0_pay3 (arg8.view.readCov (lastFirst (hPiece arg2 harg2 arg3 harg3 x0 x1) 56) (Rect.unit (s := S512x7168) ![0, 0] S512x7168.size inb_S512x7168_S512x7168_0_0).toLoadRect)
            (arg9.view.readCov (lastFirst (wPiece i arg4 harg4 arg5 harg5 x2 x3) 224) (Rect.unit (s := S7168x512) ![0, 0] S7168x512.size inb_S7168x512_S7168x512_0_0).toLoadRect)
            (View.readAt (Elt F) arg6.view (Rect.unit (s := S512x512) ![0, 0] S512x512.size inb_S512x512_S512x512_0_0).toLoadRect (harg6.unread x4))⟩] := by
  sl_kernel_rfl

/-- The one output store, at a point that finds the activation scratch filled. -/
theorem out_B (hc0 : ¬cond0_0 i) :
    (kernelRun0_B c i arg2 harg2 arg3 harg3 arg4 harg4 arg5 harg5 arg6 harg6 arg7 harg7 arg8 harg8 arg9 harg9 hc0 x0 x1 x2 x3 x4 xs0).1
      = [⟨Rect.unit (s := S512x512) ![0, 0] S512x512.size inb_S512x512_S512x512_0_0,
          k0_pay3 (View.readAt (Elt F) arg8.view (Rect.unit (s := S512x7168) ![0, 0] S512x7168.size inb_S512x7168_S512x7168_0_0).toLoadRect (harg8.unread xs0))
            (arg9.view.readCov (lastFirst (wPiece i arg4 harg4 arg5 harg5 x2 x3) 224) (Rect.unit (s := S7168x512) ![0, 0] S7168x512.size inb_S7168x512_S7168x512_0_0).toLoadRect)
            (View.readAt (Elt F) arg6.view (Rect.unit (s := S512x512) ![0, 0] S512x512.size inb_S512x512_S512x512_0_0).toLoadRect (harg6.unread x4))⟩] := by
  sl_kernel_rfl

end

end Cert.DownIdeal.Hand

end
-- ==== Proof.Down.Value.lean ====
/- What the down-projection's program computes, read off its stores: the output array at (r, c) is the residual plus the
   sum over the 7168 hidden channels of the widened activation times the widened weight. -/
module

public import proofs.«01_k».proof.Proof.Down.Pieces
public import proofs.«01_k».proof.Proof.Gen.DownIdeal.Value
public import Idealize.ShloMosaic.Lib.Pointwise

@[expose] public section

set_option maxRecDepth 16384

noncomputable section

namespace Cert.DownIdeal.Hand

open Cert.DownIdeal Cert.DownIdeal.Gen Cert.Tiles Idealize.ShloMosaic Idealize.ShloMosaic.TcCoe Idealize.SL.Sem
open scoped BigOperators

/-- The widened weight block of column block `j`: each code times the scale of its 128 × 128 tile. -/
def wideW (j : ℕ) (hj : j < 16) (x2 : Vec Ideal S7168x512 .fp8e4m3) (x3 : Vec Ideal S56x64 .f32) : Vec Ideal S7168x512 .bf16 :=
  fun y => x2 y * x3 (ix2 ⟨(y 0).val / 128, by have h : (y 0).val < 7168 := (y 0).isLt; omega⟩
    ⟨4 * j + (y 1).val / 128, by have h : (y 1).val < 512 := (y 1).isLt; omega⟩)

/-- The widened activation rows: each code times the scale of its row and group of 128 channels. -/
def wideH (x0 : Vec Ideal S512x7168 .fp8e4m3) (x1 : Vec Ideal S512x56 .f32) : Vec Ideal S512x7168 .bf16 :=
  fun y => x0 y * x1 (ix2 (y 0) ⟨(y 1).val / 128, by have h : (y 1).val < 7168 := (y 1).isLt; omega⟩)

/-- The output tile: the residual plus the product of the widened rows and the widened weight block. -/
def tileY (xw : Vec Ideal S512x7168 .bf16) (ww : Vec Ideal S7168x512 .bf16) (x4 : Vec Ideal S512x512 .bf16) : Vec Ideal S512x512 .bf16 :=
  fun y => x4 y + ∑ k : Fin 7168, xw (ix2 (y 0) k) * ww (ix2 k (y 1))

/-- The stored tile's payload is `tileY`. -/
theorem pay3_eq (xw : Vec Ideal S512x7168 .bf16) (ww : Vec Ideal S7168x512 .bf16) (x4 : Vec Ideal S512x512 .bf16) :
    k0_pay3 (F := Ideal) xw ww x4 = tileY xw ww x4 := by
  funext y
  idx_vars y
  unfold tileY
  pointwise [k0_pay3]

section
variable (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .smem S56x64 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x7168 .bf16) (harg8 : arg8.IsWhole) (arg9 : Memref sig .tc .vmem S7168x512 .bf16) (harg9 : arg9.IsWhole)
  (x0 : Vec Ideal S512x7168 .fp8e4m3) (x1 : Vec Ideal S512x56 .f32) (x2 : Vec Ideal S7168x512 .fp8e4m3) (x3 : Vec Ideal S56x64 .f32) (x4 : Vec Ideal S512x512 .bf16) (xs0 : Vec Ideal S512x7168 .bf16)

/-- Each stored weight tile is its rectangle of the widened weight block. -/
theorem wPiece_eq (n : ℕ) (x : (wPiece (F := Ideal) i arg4 harg4 arg5 harg5 x2 x3 n).1.shape.Idx) :
    (wPiece (F := Ideal) i arg4 harg4 arg5 harg5 x2 x3 n).2 x
      = wideW (i 1).val (i 1).isLt x2 x3 ((wPiece (F := Ideal) i arg4 harg4 arg5 harg5 x2 x3 n).1.emb x) := by
  have h0 : (x 0).val < 128 := (x 0).isLt
  have h1 : (x 1).val < 128 := (x 1).isLt
  unfold wPiece k0_pay2
  dsimp only
  rw [shapeCast_self, View.readAt_eq_ld, View.readAt_eq_ld, harg5.read_unread, harg4.read_unread]
  refine congrArg₂ (fun (a b : EReal) => a * b) rfl (congrArg x3 (funext fun a => Fin.ext ?_))
  match a with
  | ⟨0, _⟩ =>
    show sOff i n 0 + 1 * 0 = (128 * (n / 4 % 56) + 1 * (x 0).val) / 128
    rw [sOff_eq]; show n / 4 % 56 + 1 * 0 = _; omega
  | ⟨1, _⟩ =>
    show sOff i n 1 + 1 * 0 = 4 * (i 1).val + (128 * (n % 4) + 1 * (x 1).val) / 128
    rw [sOff_eq]; show 4 * (i 1).val + n % 4 + 1 * 0 = _; omega

/-- The weight scratch, its 224 tiles stored, holds the widened weight block. -/
theorem canon_w : View.canon (lastFirst (wPiece (F := Ideal) i arg4 harg4 arg5 harg5 x2 x3) 224) = wideW (i 1).val (i 1).isLt x2 x3 := by
  refine canon_lastFirst _ _ _ (fun n _ x => wPiece_eq i arg4 harg4 arg5 harg5 x2 x3 n x) fun y => ?_
  have h0 : (y 0).val < 7168 := (y 0).isLt
  have h1 : (y 1).val < 512 := (y 1).isLt
  refine ⟨4 * ((y 0).val / 128) + (y 1).val / 128, by omega, ?_⟩
  refine (Rect.mem_set_unit (inb := wOff_inb _)).mpr fun a => ?_
  match a with
  | ⟨0, _⟩ => show 128 * ((4 * ((y 0).val / 128) + (y 1).val / 128) / 4 % 56) ≤ (y 0).val ∧ (y 0).val < 128 * ((4 * ((y 0).val / 128) + (y 1).val / 128) / 4 % 56) + 128; omega
  | ⟨1, _⟩ => show 128 * ((4 * ((y 0).val / 128) + (y 1).val / 128) % 4) ≤ (y 1).val ∧ (y 1).val < 128 * ((4 * ((y 0).val / 128) + (y 1).val / 128) % 4) + 128; omega

/-- Each stored activation tile is its rectangle of the widened rows. -/
theorem hPiece_eq (n : ℕ) (x : (hPiece (F := Ideal) arg2 harg2 arg3 harg3 x0 x1 n).1.shape.Idx) :
    (hPiece (F := Ideal) arg2 harg2 arg3 harg3 x0 x1 n).2 x = wideH x0 x1 ((hPiece (F := Ideal) arg2 harg2 arg3 harg3 x0 x1 n).1.emb x) := by
  have h0 : (x 0).val < 512 := (x 0).isLt
  have h1 : (x 1).val < 128 := (x 1).isLt
  unfold hPiece k0_pay4
  dsimp only
  rw [shapeCast_self, View.readAt_eq_ld, View.readAt_eq_ld, harg3.read_unread, harg2.read_unread]
  refine congrArg₂ (fun (a b : EReal) => a * b) rfl ?_
  refine (Idealize.ShloMosaic.broadcastTo_apply _ _ x (ix2 ⟨(x 0).val, h0⟩ ⟨0, by decide⟩) fun a => ?_).trans (congrArg x1 (funext fun a => Fin.ext ?_))
  · match a with
    | ⟨0, _⟩ => rfl
    | ⟨1, _⟩ => rfl
  · match a with
    | ⟨0, _⟩ => rfl
    | ⟨1, _⟩ => show n % 56 + 1 * 0 = (128 * (n % 56) + 1 * (x 1).val) / 128; omega

/-- The activation scratch, its 56 tiles stored, holds the widened rows. -/
theorem canon_h : View.canon (lastFirst (hPiece (F := Ideal) arg2 harg2 arg3 harg3 x0 x1) 56) = wideH x0 x1 := by
  refine canon_lastFirst _ _ _ (fun n _ x => hPiece_eq arg2 harg2 arg3 harg3 x0 x1 n x) fun y => ?_
  have h0 : (y 0).val < 512 := (y 0).isLt
  have h1 : (y 1).val < 7168 := (y 1).isLt
  refine ⟨(y 1).val / 128, by omega, ?_⟩
  refine (Rect.mem_set_unit (inb := hOff_inb _)).mpr fun a => ?_
  match a with
  | ⟨0, _⟩ => show 0 ≤ (y 0).val ∧ (y 0).val < 0 + 512; omega
  | ⟨1, _⟩ => show 128 * ((y 1).val / 128 % 56) ≤ (y 1).val ∧ (y 1).val < 128 * ((y 1).val / 128 % 56) + 128; omega

/-- The two zero offsets of a whole-block access. -/
theorem hz2 : (![0, 0] : Fin 2 → ℕ) = fun _ => 0 := funext fun a => by fin_cases a <;> rfl

/-- At a point that fills the activation scratch, the scratch is left at the widened rows. -/
theorem sout_A_eq (hc0 : cond0_0 i) :
    sout0_A_0 (F := Ideal) c i arg2 harg2 arg3 harg3 arg4 harg4 arg5 harg5 arg6 harg6 arg7 harg7 arg8 harg8 arg9 harg9 hc0 x0 x1 x2 x3 x4
      = wideH x0 x1 := by
  unfold sout0_A_0
  rw [View.read_writes_junk_eq_canon, hPieces_A, canon_h]

/-- At a point that fills the activation scratch, the output buffer is left at the output tile. -/
theorem out_A_eq (hc0 : cond0_0 i) :
    out0_A_5 (F := Ideal) c i arg2 harg2 arg3 harg3 arg4 harg4 arg5 harg5 arg6 harg6 arg7 harg7 arg8 harg8 arg9 harg9 hc0 x0 x1 x2 x3 x4
      = tileY (wideH x0 x1) (wideW (i 1).val (i 1).isLt x2 x3) x4 := by
  unfold out0_A_5
  rw [View.read_writes_junk_eq_canon, out_A, View.canon_unit_zero hz2, pay3_eq, View.readCov_eq_canon', View.readCov_eq_canon',
    canon_w, canon_h, View.readAt_eq_ld, harg6.read_unread, View.ld_unit_zero hz2]
  exact congrArg₂ (fun a b => tileY a b x4) (View.ld_unit_zero hz2 _ _) (View.ld_unit_zero hz2 _ _)

/-- At a point that finds the activation scratch at `xs0`, the output buffer is left at the output tile made of it. -/
theorem out_B_eq (hc0 : ¬cond0_0 i) :
    out0_B_5 (F := Ideal) c i arg2 harg2 arg3 harg3 arg4 harg4 arg5 harg5 arg6 harg6 arg7 harg7 arg8 harg8 arg9 harg9 hc0 x0 x1 x2 x3 x4 xs0
      = tileY xs0 (wideW (i 1).val (i 1).isLt x2 x3) x4 := by
  unfold out0_B_5
  rw [View.read_writes_junk_eq_canon, out_B, View.canon_unit_zero hz2, pay3_eq, View.readCov_eq_canon',
    canon_w, View.readAt_eq_ld, View.readAt_eq_ld, harg6.read_unread, harg8.read_unread, View.ld_unit_zero hz2, View.ld_unit_zero hz2]
  exact congrArg (fun b => tileY xs0 b x4) (View.ld_unit_zero hz2 _ _)

end

end Cert.DownIdeal.Hand

end
-- ==== Proof.Down.Final.lean ====
/- The down-projection's final array: every output tile is its block of one function of the arguments, and the tiles cover
   the array. -/
module

public import proofs.«01_k».proof.Proof.Down.Value

@[expose] public section

set_option maxRecDepth 16384

noncomputable section

namespace Cert.DownIdeal.Hand

open Cert.DownIdeal Cert.DownIdeal.Gen Cert.Tiles Idealize.ShloMosaic Idealize.ShloMosaic.TcCoe Idealize.SL.Sem
open scoped BigOperators

/-- The down projection: the residual plus the product of the dequantised activations and the dequantised weight. -/
def downY (a0 : Vec Ideal S8192x7168 .fp8e4m3) (a1 : Vec Ideal S8192x56 .f32) (a2 : Vec Ideal S7168x8192 .fp8e4m3)
    (a3 : Vec Ideal S56x64 .f32) (a4 : Vec Ideal S8192x8192 .bf16) : Vec Ideal S8192x8192 .bf16 :=
  fun i => a4 i + ∑ k : Fin 7168,
    (a0 (ix2 (i 0) k) * a1 (ix2 (i 0) ⟨k.val / 128, by have := k.isLt; omega⟩))
      * (a2 (ix2 k (i 1)) * a3 (ix2 ⟨k.val / 128, by have := k.isLt; omega⟩ ⟨(i 1).val / 128, by have h : (i 1).val < 8192 := (i 1).isLt; omega⟩))

/-- The windows' block numbers: rows follow the point's first coordinate, columns the second. -/
theorem win_idx : ∀ t : Fin cfg0.N, win0_0.index t = ![t.val / 16, 0] ∧ win0_1.index t = ![t.val / 16, 0]
    ∧ win0_2.index t = ![0, t.val % 16] ∧ win0_3.index t = ![0, 0] ∧ win0_4.index t = ![t.val / 16, t.val % 16]
    ∧ win0_5.index t = ![t.val / 16, t.val % 16] :=
  (by decide +kernel : ∀ t : Fin grid0.N, _)

variable (m : (ℓ : Loc nD τ sig) → Buf (Elt Ideal) ℓ)

theorem t_lt (t : Fin cfg0.N) : t.val < 256 := lt_of_lt_of_eq t.isLt N_0

/-- A point's second grid coordinate. -/
theorem coord1 (t : Fin cfg0.N) : (grid0.coords t 1).val = t.val % 16 :=
  (Pipeline.Grid.coords_val (S := 1) (B := 16) t 1 (by decide) rfl).trans (by rw [Nat.div_one])

/-- Row block `r` of an array of activations. -/
def rowH (r : ℕ) (hr : r < 16) (a : Vec Ideal S8192x7168 .fp8e4m3) : Vec Ideal S512x7168 .fp8e4m3 :=
  fun y => a (ix2 ⟨512 * r + (y 0).val, by have h : (y 0).val < 512 := (y 0).isLt; omega⟩ (y 1))

/-- Row block `r` of the activations' scales. -/
def rowS (r : ℕ) (hr : r < 16) (a : Vec Ideal S8192x56 .f32) : Vec Ideal S512x56 .f32 :=
  fun y => a (ix2 ⟨512 * r + (y 0).val, by have h : (y 0).val < 512 := (y 0).isLt; omega⟩ (y 1))

theorem iblk0_eq (c : Dev nD) (t : Fin cfg0.N) :
    iblk m c 0 t = rowH (t.val / 16) (by have := t_lt t; omega) (m ((c : Thread nD τ).loc main_arg0)) := by
  funext y
  have e := (win_idx t).1
  show V m c (Pipeline.arrRef spec0 0) _ = _
  rw [show V m c (Pipeline.arrRef spec0 0) = _ from V_main_arg0 m c]
  refine congrArg _ (funext fun a => Fin.ext ?_)
  match a with
  | ⟨0, _⟩ => show win0_0.index t 0 * 512 + 1 * (y 0).val = 512 * (t.val / 16) + (y 0).val; rw [e]; show t.val / 16 * 512 + _ = _; omega
  | ⟨1, _⟩ => show win0_0.index t 1 * 7168 + 1 * (y 1).val = (y 1).val; rw [e]; show 0 * 7168 + _ = _; omega

theorem iblk1_eq (c : Dev nD) (t : Fin cfg0.N) :
    iblk m c 1 t = rowS (t.val / 16) (by have := t_lt t; omega) (m ((c : Thread nD τ).loc main_arg1)) := by
  funext y
  have e := (win_idx t).2.1
  show V m c (Pipeline.arrRef spec0 1) _ = _
  rw [show V m c (Pipeline.arrRef spec0 1) = _ from V_main_arg1 m c]
  refine congrArg _ (funext fun a => Fin.ext ?_)
  match a with
  | ⟨0, _⟩ => show win0_1.index t 0 * 512 + 1 * (y 0).val = 512 * (t.val / 16) + (y 0).val; rw [e]; show t.val / 16 * 512 + _ = _; omega
  | ⟨1, _⟩ => show win0_1.index t 1 * 56 + 1 * (y 1).val = (y 1).val; rw [e]; show 0 * 56 + _ = _; omega

theorem iblk2_apply (c : Dev nD) (t : Fin cfg0.N) (y : S7168x512.Idx) :
    iblk m c 2 t y = m ((c : Thread nD τ).loc main_arg2)
      (ix2 (y 0) ⟨512 * (t.val % 16) + (y 1).val, by have h : (y 1).val < 512 := (y 1).isLt; omega⟩) := by
  have e := (win_idx t).2.2.1
  show V m c (Pipeline.arrRef spec0 2) _ = _
  rw [show V m c (Pipeline.arrRef spec0 2) = _ from V_main_arg2 m c]
  refine congrArg _ (funext fun a => Fin.ext ?_)
  match a with
  | ⟨0, _⟩ => show win0_2.index t 0 * 7168 + 1 * (y 0).val = (y 0).val; rw [e]; show 0 * 7168 + _ = _; omega
  | ⟨1, _⟩ => show win0_2.index t 1 * 512 + 1 * (y 1).val = 512 * (t.val % 16) + (y 1).val; rw [e]; show t.val % 16 * 512 + _ = _; omega

theorem iblk3_eq (c : Dev nD) (t : Fin cfg0.N) : iblk m c 3 t = m ((c : Thread nD τ).loc main_arg3) := by
  funext y
  have e := (win_idx t).2.2.2.1
  show V m c (Pipeline.arrRef spec0 3) _ = _
  rw [show V m c (Pipeline.arrRef spec0 3) = _ from V_main_arg3 m c]
  refine congrArg _ (funext fun a => Fin.ext ?_)
  match a with
  | ⟨0, _⟩ => show win0_3.index t 0 * 56 + 1 * (y 0).val = (y 0).val; rw [e]; show 0 * 56 + _ = _; omega
  | ⟨1, _⟩ => show win0_3.index t 1 * 64 + 1 * (y 1).val = (y 1).val; rw [e]; show 0 * 64 + _ = _; omega

theorem iblk4_apply (c : Dev nD) (t : Fin cfg0.N) (y : S512x512.Idx) :
    iblk m c 4 t y = m ((c : Thread nD τ).loc main_arg4)
      (ix2 ⟨512 * (t.val / 16) + (y 0).val, by have h : (y 0).val < 512 := (y 0).isLt; have := t_lt t; omega⟩
        ⟨512 * (t.val % 16) + (y 1).val, by have h : (y 1).val < 512 := (y 1).isLt; omega⟩) := by
  have e := (win_idx t).2.2.2.2.1
  show V m c (Pipeline.arrRef spec0 4) _ = _
  rw [show V m c (Pipeline.arrRef spec0 4) = _ from V_main_arg4 m c]
  refine congrArg _ (funext fun a => Fin.ext ?_)
  match a with
  | ⟨0, _⟩ => show win0_4.index t 0 * 512 + 1 * (y 0).val = 512 * (t.val / 16) + (y 0).val; rw [e]; show t.val / 16 * 512 + _ = _; omega
  | ⟨1, _⟩ => show win0_4.index t 1 * 512 + 1 * (y 1).val = 512 * (t.val % 16) + (y 1).val; rw [e]; show t.val % 16 * 512 + _ = _; omega

/-- A row block's first point leaves its widened rows in the scratch. -/
theorem carry_start (c : Dev nD) (t : Fin cfg0.N) (h0 : t.val % 16 = 0) (r : ℕ) (hr : r < 16) (er : t.val / 16 = r) :
    (outsAt0 m c t.val t.isLt).2
      = wideH (rowH r hr (m ((c : Thread nD τ).loc main_arg0))) (rowS r hr (m ((c : Thread nD τ).loc main_arg1))) := by
  rw [outsAt0_A m c t h0]
  dsimp only
  rw [sout_A_eq, iblk0_eq, iblk1_eq]
  subst er
  rfl

/-- The other points keep what the point before left in it. -/
theorem carry_step (c : Dev nD) (t : Fin cfg0.N) (h0 : ¬t.val % 16 = 0) (h : t.val - 1 < cfg0.N) :
    (outsAt0 m c t.val t.isLt).2 = (outsAt0 m c (t.val - 1) h).2 := by
  rw [outsAt0_B m c t h0]
  rfl

/-- The scratch carried between points holds the widened rows of the point's row block. -/
theorem carried (c : Dev nD) (n : ℕ) : ∀ (hn : n < cfg0.N) (r : ℕ) (hr : r < 16), n / 16 = r → (outsAt0 m c n hn).2
    = wideH (rowH r hr (m ((c : Thread nD τ).loc main_arg0))) (rowS r hr (m ((c : Thread nD τ).loc main_arg1))) := by
  induction n with
  | zero => exact fun hn r hr er => carry_start m c ⟨0, hn⟩ rfl r hr er
  | succ n ih =>
    intro hn r hr er
    by_cases h0 : (n + 1) % 16 = 0
    · exact carry_start m c ⟨n + 1, hn⟩ h0 r hr er
    · have hn' : n < cfg0.N := Nat.lt_of_succ_lt hn
      exact (carry_step m c ⟨n + 1, hn⟩ h0 hn').trans (ih hn' r hr (by omega))

/-- What a point writes back is its block of `downY`. -/
theorem tile_eq (c : Dev nD) (t : Fin cfg0.N) :
    (cfg0.win 5).cut (grid0.coords t) (tileY
      (wideH (rowH (t.val / 16) (by have := t_lt t; omega) (m ((c : Thread nD τ).loc main_arg0)))
        (rowS (t.val / 16) (by have := t_lt t; omega) (m ((c : Thread nD τ).loc main_arg1))))
      (wideW (grid0.coords t 1).val (grid0.coords t 1).isLt (iblk m c 2 t) (iblk m c 3 t)) (iblk m c 4 t))
    = ((cfg0.win 5).blk t).view.read (Elt Ideal) (downY (m ((c : Thread nD τ).loc main_arg0)) (m ((c : Thread nD τ).loc main_arg1))
        (m ((c : Thread nD τ).loc main_arg2)) (m ((c : Thread nD τ).loc main_arg3)) (m ((c : Thread nD τ).loc main_arg4))) := by
  funext y
  have e := (win_idx t).2.2.2.2.2
  have h0 : (y 0).val < 512 := (y 0).isLt
  have h1 : (y 1).val < 512 := (y 1).isLt
  have ht := t_lt t
  have hi : ((cfg0.win 5).blk t).view.emb y = (ix2 ⟨512 * (t.val / 16) + (y 0).val, by omega⟩ ⟨512 * (t.val % 16) + (y 1).val, by omega⟩ : S8192x8192.Idx) := by
    refine funext fun a => Fin.ext ?_
    match a with
    | ⟨0, _⟩ => show win0_5.index t 0 * 512 + 1 * (y 0).val = 512 * (t.val / 16) + (y 0).val; rw [e]; show t.val / 16 * 512 + _ = _; omega
    | ⟨1, _⟩ => show win0_5.index t 1 * 512 + 1 * (y 1).val = 512 * (t.val % 16) + (y 1).val; rw [e]; show t.val % 16 * 512 + _ = _; omega
  have hx : (cfg0.win 5).xinj (grid0.coords t) y = (ix2 ⟨(y 0).val, h0⟩ ⟨(y 1).val, h1⟩ : S512x512.Idx) := by
    refine funext fun a => Fin.ext ?_
    match a with
    | ⟨0, _⟩ => rfl
    | ⟨1, _⟩ => rfl
  show tileY _ _ _ ((cfg0.win 5).xinj (grid0.coords t) y) = downY _ _ _ _ _ (((cfg0.win 5).blk t).view.emb y)
  rw [hi, hx]
  unfold tileY downY wideH wideW rowH rowS
  rw [iblk3_eq, iblk4_apply]
  refine congrArg₂ (fun (a b : EReal) => a + b) rfl (Finset.sum_congr rfl fun k _ => ?_)
  rw [iblk2_apply]
  refine congrArg₂ (fun (a b : EReal) => a * b) rfl (congrArg₂ (fun (a b : EReal) => a * b) rfl (congrArg _ (funext fun a => Fin.ext ?_)))
  match a with
  | ⟨0, _⟩ => rfl
  | ⟨1, _⟩ =>
    show 4 * (grid0.coords t 1).val + (y 1).val / 128 = (512 * (t.val % 16) + (y 1).val) / 128
    rw [coord1]; omega

theorem flushed_eq (c : Dev nD) (t : Fin cfg0.N) :
    (dats m 0 c).flushed 5 t = ((cfg0.win 5).blk t).view.read (Elt Ideal) (downY (m ((c : Thread nD τ).loc main_arg0)) (m ((c : Thread nD τ).loc main_arg1))
        (m ((c : Thread nD τ).loc main_arg2)) (m ((c : Thread nD τ).loc main_arg3)) (m ((c : Thread nD τ).loc main_arg4))) := by
  by_cases h0 : t.val % 16 = 0
  · rw [Value.flushed5_A m c t h0, out_A_eq, iblk0_eq, iblk1_eq]
    exact tile_eq m c t
  · rw [Value.flushed5_B m c t h0, out_B_eq, carried m c (t.val - 1) _ (t.val / 16) (by have := t_lt t; omega) (by omega)]
    exact tile_eq m c t

/-- The kernel's output array after the run is `downY` of its arguments. -/
theorem final_eq (c : Dev nD) : (dats m 0 c).arrAt 5 cfg0.N = downY (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 _ (fun t _ => flushed_eq m c t) fun i => (Value.covered_iff5 i).2 (by
    have h0 : (i 0).val < 8192 := (i 0).isLt; have h1 : (i 1).val < 8192 := (i 1).isLt; omega)

end Cert.DownIdeal.Hand

end
-- ==== Proof.Down.Ref.lean ====
/- The reference down-projection's payload is `downY`: its casts are the identity at the ideal values and its reshapes only
   rename indices. -/
module

public import proofs.«01_k».proof.Proof.Down.Final
public import proofs.«01_k».proof.Proof.Gen.DownRefIdeal.Value

@[expose] public section

set_option maxRecDepth 16384

noncomputable section

namespace Cert.DownRefIdeal.Hand

open Cert.DownRefIdeal Cert.DownRefIdeal.Gen Idealize.ShloMosaic Idealize.ShloMosaic.TcCoe Idealize.SL.Sem
open scoped BigOperators

/-- The reference's stored value at an index. -/
theorem pay1_eq (a0 : Vec Ideal S8192x7168 .fp8e4m3) (a1 : Vec Ideal S8192x56 .f32) (a2 : Vec Ideal S7168x8192 .fp8e4m3)
    (a3 : Vec Ideal S56x64 .f32) (a4 : Vec Ideal S8192x8192 .bf16) :
    k0_pay1 (F := Ideal) a0 a1 a2 a3 a4 = Cert.DownIdeal.Hand.downY a0 a1 a2 a3 a4 := by
  funext y
  idx_vars y
  unfold Cert.DownIdeal.Hand.downY
  pointwise [k0_pay1]

end Cert.DownRefIdeal.Hand

end
-- ==== Proof.Down.Claims.lean ====
/- The claims about the down projection: both runs end with `downY` of the shared arguments. -/
module

public import proofs.«01_k».proof.Defs
public import proofs.«01_k».proof.Proof.Gen.Down.Frame
public import proofs.«01_k».proof.Proof.Gen.DownIdeal.Frame
public import proofs.«01_k».proof.Proof.Gen.DownRefIdeal.Frame
public import proofs.«01_k».proof.Proof.Down.Final
public import proofs.«01_k».proof.Proof.Down.Ref

@[expose] public section

set_option maxRecDepth 16384

noncomputable section

namespace Cert.Proof

open Idealize.ShloMosaic Idealize.SL.Sem

/-- The kernel at the ideal values and the reference leave the same output array: `downY` of the arguments. -/
theorem down_algebraic : Cert.algebraic_DownIdeal_DownRefIdeal (hDownIdeal := Cert.DownIdeal.Gen.facts) (hDownRefIdeal := Cert.DownRefIdeal.Gen.facts) := by
  intro m g m' g' _ hm
  refine ⟨fun c => Cert.DownIdeal.Hand.downY (m ((c.tc : Thread Cert.DownIdeal.nD Cert.DownIdeal.τ).loc Cert.DownIdeal.main_arg0)) (m ((c.tc : Thread Cert.DownIdeal.nD Cert.DownIdeal.τ).loc Cert.DownIdeal.main_arg1))
      (m ((c.tc : Thread Cert.DownIdeal.nD Cert.DownIdeal.τ).loc Cert.DownIdeal.main_arg2)) (m ((c.tc : Thread Cert.DownIdeal.nD Cert.DownIdeal.τ).loc Cert.DownIdeal.main_arg3))
      (m ((c.tc : Thread Cert.DownIdeal.nD Cert.DownIdeal.τ).loc Cert.DownIdeal.main_arg4)), ?_, ?_⟩
  · exact (θ_run _ _ _).mono (fun r h c => ⟨(h c).1.trans (Cert.DownIdeal.Hand.final_eq m c), (h c).2⟩) (Cert.DownIdeal.Value.run_blocks (F := Ideal) m g)
  · refine (θ_run _ _ _).mono (fun r h c => ⟨(h c).1.trans ?_, (h c).2⟩) (Cert.DownRefIdeal.Value.run (F := Ideal) m' g')
    obtain ⟨e0, e1, e2, e3, e4⟩ := hm c
    refine (Cert.DownRefIdeal.Hand.pay1_eq _ _ _ _ _).trans ?_
    rw [e0, e1, e2, e3, e4]

/-- The frames of the three programs, the ideal translation's preservation and the value claim. -/
theorem down_claims :
    Cert.quiescent_Down (hDown := Cert.Down.Gen.facts) ∧ Cert.quiescent_DownIdeal (hDownIdeal := Cert.DownIdeal.Gen.facts)
    ∧ Cert.quiescent_DownRefIdeal (hDownRefIdeal := Cert.DownRefIdeal.Gen.facts) ∧ Cert.preserves_Down_DownIdeal
    ∧ Cert.algebraic_DownIdeal_DownRefIdeal (hDownIdeal := Cert.DownIdeal.Gen.facts) (hDownRefIdeal := Cert.DownRefIdeal.Gen.facts) :=
  ⟨fun m ρ _ => Cert.Down.Gen.frame m ρ, fun m ρ _ => Cert.DownIdeal.Gen.frame m ρ, fun m ρ _ => Cert.DownRefIdeal.Gen.frame m ρ,
    trivial, down_algebraic⟩

end Cert.Proof

end
-- ==== Proof.Proj.Bits.Runs.lean ====
/- The input projection at bits, `Runs`: its argument arrays end unchanged; what the kernel leaves in its results is not named
   here. -/
module

public import proofs.«01_k».proof.Proof.Gen.Proj.Launch
public import proofs.«01_k».proof.Proof.Gen.Proj.Skeleton
public import proofs.«01_k».proof.Proof.Gen.Proj.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Proj`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 33) — by arithmetic of the point. -/
theorem hcond0_0 : ∀ t : Fin cfg0.N, cond0_0 (grid0.coords t) ↔ t.val % 33 = 0 :=
  (fun t => by
    have ht : t.val < 528 := Nat.lt_of_lt_of_eq t.isLt N_0
    have e0 : (grid0.coords t 0).val = t.val / 33 % 16 := Pipeline.Grid.coords_val t 0 (by decide) rfl
    have e1 : (grid0.coords t 1).val = t.val / 1 % 33 := Pipeline.Grid.coords_val t 1 (by decide) rfl
    simp only [cond0_0, e0, e1]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 4 — decided over the grid. -/
theorem hcond0_1 : ∀ t : Fin cfg0.N, cond0_1 (grid0.coords t) ↔ t.val % 33 ≤ 4 :=
  (by decide +kernel : ∀ t : Fin grid0.N, cond0_1 (grid0.coords t) ↔ t.val % 33 ≤ 4)

/-- The condition of the body's `scf.if` 2 (`k0_h3`), from the grid coordinates (the skeleton's scalar
    chain substituted). -/
abbrev cond0_2 (i : grid0.Coords) : Prop := k0_cond3 i = 1#1
/-- It holds at the points whose coordinates have i1 ≤ 3 — decided over the grid. -/
theorem hcond0_2 : ∀ t : Fin cfg0.N, cond0_2 (grid0.coords t) ↔ t.val % 33 ≤ 3 :=
  (by decide +kernel : ∀ t : Fin grid0.N, cond0_2 (grid0.coords t) ↔ t.val % 33 ≤ 3)

/-- The condition of the body's `scf.if` 3 (`k0_h4`), from the grid coordinates (the skeleton's scalar
    chain substituted). -/
abbrev cond0_3 (i : grid0.Coords) : Prop := k0_cond4 i = 1#1
/-- It holds at the points ≡ 4 (mod 33) — by arithmetic of the point. -/
theorem hcond0_3 : ∀ t : Fin cfg0.N, cond0_3 (grid0.coords t) ↔ t.val % 33 = 4 :=
  (fun t => by
    have ht : t.val < 528 := Nat.lt_of_lt_of_eq t.isLt N_0
    have e0 : (grid0.coords t 0).val = t.val / 33 % 16 := Pipeline.Grid.coords_val t 0 (by decide) rfl
    have e1 : (grid0.coords t 1).val = t.val / 1 % 33 := Pipeline.Grid.coords_val t 1 (by decide) rfl
    simp only [cond0_3, k0_cond4, e0, e1]
    word_cmp
   : ∀ t : Fin grid0.N, cond0_3 (grid0.coords t) ↔ t.val % 33 = 4)

/-- The condition of the body's `scf.if` 4 (`k0_h5`), from the grid coordinates (the skeleton's scalar
    chain substituted). -/
abbrev cond0_4 (i : grid0.Coords) : Prop := k0_cond5 i = 1#1
/-- It holds at the points whose coordinates have 5 ≤ i1 — decided over the grid. -/
theorem hcond0_4 : ∀ t : Fin cfg0.N, cond0_4 (grid0.coords t) ↔ 5 ≤ t.val % 33 :=
  (by decide +kernel : ∀ t : Fin grid0.N, cond0_4 (grid0.coords t) ↔ 5 ≤ t.val % 33)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S64x132 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x56 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x8192 .bf16 := Memref.whole cc0_scratch0
abbrev scM0_1 : Memref sig .tc .vmem S8192x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proj.Gen

end
-- ==== Proof.Proj.Bits.RunA.lean ====
/- The input projection at bits, `RunA`: its argument arrays end unchanged; what the kernel leaves in its results is not named
   here. -/
module

public import proofs.«01_k».proof.Proof.Proj.Bits.Runs

@[expose] public section

-- membership in a rectangle of production extents (`View.cover_of_tiled`): the elaborator's structural look
-- recurses once per coordinate of the long axes
set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9388000 in
/-- The body's triple IN CASE A (`scf.if` 0 taken, `scf.if` 1 taken, `scf.if` 2 taken, `scf.if` 3 not taken, `scf.if` 4 not taken: points 0, 33, … 495: 16 of 528): on whole staging memrefs — the inputs' at their contents,
    the FORGOTTEN outputs' (5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole) (hc0 : cond0_0 i) (hc1 : cond0_1 i) (hc2 : cond0_2 i) (hc3 : ¬cond0_3 i) (hc4 : ¬cond0_4 i)
    (x0 : Vec F S512x8192 .fp8e4m3) (x1 : Vec F S512x64 .f32) (x2 : Vec F S8192x256 .fp8e4m3) (x3 : Vec F S8192x256 .fp8e4m3) (x4 : Vec F S64x132 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K := by
    intro E K
    simp only [cc0_proj_eq_skeleton]; unfold cc0_proj_skel
    simp only [k0_part100_eq_skeleton, k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Proj.Gen

end
-- ==== Proof.Proj.Bits.RunB.lean ====
/- The input projection at bits, `RunB`: its argument arrays end unchanged; what the kernel leaves in its results is not named
   here. -/
module

public import proofs.«01_k».proof.Proof.Proj.Bits.RunA

@[expose] public section

-- membership in a rectangle of production extents (`View.cover_of_tiled`): the elaborator's structural look
-- recurses once per coordinate of the long axes
set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7972000 in
/-- The body's triple IN CASE B (`scf.if` 0 not taken, `scf.if` 1 taken, `scf.if` 2 taken, `scf.if` 3 not taken, `scf.if` 4 not taken: points 1, 2, … 498: 48 of 528): on whole staging memrefs — the inputs' at their contents,
    the FORGOTTEN outputs' (5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole) (hc0 : ¬cond0_0 i) (hc1 : cond0_1 i) (hc2 : cond0_2 i) (hc3 : ¬cond0_3 i) (hc4 : ¬cond0_4 i)
    (x0 : Vec F S512x8192 .fp8e4m3) (x1 : Vec F S512x64 .f32) (x2 : Vec F S8192x256 .fp8e4m3) (x3 : Vec F S8192x256 .fp8e4m3) (x4 : Vec F S64x132 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K := by
    intro E K
    simp only [cc0_proj_eq_skeleton]; unfold cc0_proj_skel
    simp only [k0_part100_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Proj.Gen

end
-- ==== Proof.Proj.Bits.RunC.lean ====
/- The input projection at bits, `RunC`: its argument arrays end unchanged; what the kernel leaves in its results is not named
   here. -/
module

public import proofs.«01_k».proof.Proof.Proj.Bits.RunB

@[expose] public section

-- membership in a rectangle of production extents (`View.cover_of_tiled`): the elaborator's structural look
-- recurses once per coordinate of the long axes
set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7980000 in
/-- The body's triple IN CASE C (`scf.if` 0 not taken, `scf.if` 1 taken, `scf.if` 2 not taken, `scf.if` 3 taken, `scf.if` 4 not taken: points 4, 37, … 499: 16 of 528): on whole staging memrefs — the inputs' at their contents,
    the FORGOTTEN outputs' (5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole) (hc0 : ¬cond0_0 i) (hc1 : cond0_1 i) (hc2 : ¬cond0_2 i) (hc3 : cond0_3 i) (hc4 : ¬cond0_4 i)
    (x0 : Vec F S512x8192 .fp8e4m3) (x1 : Vec F S512x64 .f32) (x2 : Vec F S8192x256 .fp8e4m3) (x3 : Vec F S8192x256 .fp8e4m3) (x4 : Vec F S64x132 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K := by
    intro E K
    simp only [cc0_proj_eq_skeleton]; unfold cc0_proj_skel
    simp only [k0_part100_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Proj.Gen

end
-- ==== Proof.Proj.Bits.RunD.lean ====
/- The input projection at bits, `RunD`: its argument arrays end unchanged; what the kernel leaves in its results is not named
   here. -/
module

public import proofs.«01_k».proof.Proof.Proj.Bits.RunC

@[expose] public section

-- membership in a rectangle of production extents (`View.cover_of_tiled`): the elaborator's structural look
-- recurses once per coordinate of the long axes
set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8004000 in
/-- The body's triple IN CASE D (`scf.if` 0 not taken, `scf.if` 1 not taken, `scf.if` 4 taken: points 5, 6, … 527: 448 of 528): on whole staging memrefs — the inputs' at their contents,
    the FORGOTTEN outputs' (5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole) (hc0 : ¬cond0_0 i) (hc1 : ¬cond0_1 i) (hc4 : cond0_4 i)
    (x0 : Vec F S512x8192 .fp8e4m3) (x1 : Vec F S512x64 .f32) (x2 : Vec F S8192x256 .fp8e4m3) (x3 : Vec F S8192x256 .fp8e4m3) (x4 : Vec F S64x132 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K := by
    intro E K
    simp only [cc0_proj_eq_skeleton]; unfold cc0_proj_skel
    simp only [k0_part100_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Proj.Gen

end
-- ==== Proof.Proj.Bits.Frame.lean ====
/- The input projection at bits, `Frame`: its argument arrays end unchanged; what the kernel leaves in its results is not named
   here. -/
module

public import proofs.«01_k».proof.Proof.Proj.Bits.RunD
public import Idealize.ShloMosaic.Lib.Claim

@[expose] public section

-- membership in a rectangle of production extents (`View.cover_of_tiled`): the elaborator's structural look
-- recurses once per coordinate of the long axes
set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9): nothing reads what the kernel leaves in them, so nothing
    of it is named (Lib/Pipeline/Dat.lean `Dat.toRForget`). -/
def forgets0 : Fin 10 → Bool := fun w => w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 528 := lt_of_lt_of_eq t.isLt (show cfg0.N = 528 from N_0)
  by_cases h0 : t.val % 33 = 0
  · by_cases h1 : t.val % 33 ≤ 4
    · by_cases h2 : t.val % 33 ≤ 3
      · by_cases h3 : t.val % 33 = 4
        · exfalso; omega
        · by_cases h4 : 5 ≤ t.val % 33
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_A c (grid0.coords t) _ _ _ _ _ _ _ _ _ _ _ _ _ _ _ _ _ _ _ _ _ _ _ _ ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t)) Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [H7]; · iexists _; iexact H7
            isplitl [H8]; · iexists _; iexact H8
            isplitl [H9]; · iexists _; iexact H9
            isplitl [HS0]; · iexact HS0
            isplitl [HS1]; · iexact HS1
            iintro ⟨H0, H1, H2, H3, H4, H5, H6, H7, H8, H9, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            iexact H9
      · exfalso; omega
    · exfalso; omega
  · by_cases h1 : t.val % 33 ≤ 4
    · by_cases h2 : t.val % 33 ≤ 3
      · by_cases h3 : t.val % 33 = 4
        · exfalso; omega
        · by_cases h4 : 5 ≤ t.val % 33
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_B c (grid0.coords t) _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t)) Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [H7]; · iexists _; iexact H7
            isplitl [H8]; · iexists _; iexact H8
            isplitl [H9]; · iexists _; iexact H9
            isplitl [HS0]; · iexact HS0
            isplitl [HS1]; · iexact HS1
            iintro ⟨H0, H1, H2, H3, H4, H5, H6, H7, H8, H9, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            iexact H9
      · by_cases h3 : t.val % 33 = 4
        · by_cases h4 : 5 ≤ t.val % 33
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_C c (grid0.coords t) _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t)) Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [H7]; · iexists _; iexact H7
            isplitl [H8]; · iexists _; iexact H8
            isplitl [H9]; · iexists _; iexact H9
            isplitl [HS0]; · iexact HS0
            isplitl [HS1]; · iexact HS1
            iintro ⟨H0, H1, H2, H3, H4, H5, H6, H7, H8, H9, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            iexact H9
        · exfalso; omega
    · by_cases h4 : 5 ≤ t.val % 33
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_D c (grid0.coords t) _ _ _ _ _ _ _ _ _ _ _ _ _ _ _ _ _ _ _ _ _ _ _ _ (fun h => h0 ((hcond0_0 t).mp h)) (fun h => h1 ((hcond0_1 t).mp h)) ((hcond0_4 t).mpr h4) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        iintro ⟨H0, H1, H2, H3, H4, H5, H6, H7, H8, H9, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Proj`'s statement (Defs.lean) at any `F` — Proof.lean cites it at `Bits`:
    `theorem Cert.Proof.claim : Cert.Claim := ⟨Cert.Proj.Gen.facts, fun m ρ _ => Cert.Proj.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proj.Gen

end
-- ==== Proof.Proj.Ideal.Runs.lean ====
/- The input projection: its body's branch conditions in closed form over the grid points, and the names of its staging and
   scratch buffers. -/
module

public import proofs.«01_k».proof.Proof.Gen.ProjIdeal.Frame
public import proofs.«01_k».proof.Proof.Gen.ProjIdeal.Skeleton
public import proofs.«01_k».proof.Proof.Gen.ProjIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ProjIdeal.Hand

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 33) — by arithmetic of the point. -/
theorem hcond0_0 : ∀ t : Fin cfg0.N, cond0_0 (grid0.coords t) ↔ t.val % 33 = 0 :=
  (fun t => by
    have ht : t.val < 528 := Nat.lt_of_lt_of_eq t.isLt N_0
    have e0 : (grid0.coords t 0).val = t.val / 33 % 16 := Pipeline.Grid.coords_val t 0 (by decide) rfl
    have e1 : (grid0.coords t 1).val = t.val / 1 % 33 := Pipeline.Grid.coords_val t 1 (by decide) rfl
    simp only [cond0_0, e0, e1]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 4 — decided over the grid. -/
theorem hcond0_1 : ∀ t : Fin cfg0.N, cond0_1 (grid0.coords t) ↔ t.val % 33 ≤ 4 :=
  (by decide +kernel : ∀ t : Fin grid0.N, cond0_1 (grid0.coords t) ↔ t.val % 33 ≤ 4)

/-- The condition of the body's `scf.if` 2 (`k0_h3`), from the grid coordinates (the skeleton's scalar
    chain substituted). -/
abbrev cond0_2 (i : grid0.Coords) : Prop := k0_cond3 i = 1#1
/-- It holds at the points whose coordinates have i1 ≤ 3 — decided over the grid. -/
theorem hcond0_2 : ∀ t : Fin cfg0.N, cond0_2 (grid0.coords t) ↔ t.val % 33 ≤ 3 :=
  (by decide +kernel : ∀ t : Fin grid0.N, cond0_2 (grid0.coords t) ↔ t.val % 33 ≤ 3)

/-- The condition of the body's `scf.if` 3 (`k0_h4`), from the grid coordinates (the skeleton's scalar
    chain substituted). -/
abbrev cond0_3 (i : grid0.Coords) : Prop := k0_cond4 i = 1#1
/-- It holds at the points ≡ 4 (mod 33) — by arithmetic of the point. -/
theorem hcond0_3 : ∀ t : Fin cfg0.N, cond0_3 (grid0.coords t) ↔ t.val % 33 = 4 :=
  (fun t => by
    have ht : t.val < 528 := Nat.lt_of_lt_of_eq t.isLt N_0
    have e0 : (grid0.coords t 0).val = t.val / 33 % 16 := Pipeline.Grid.coords_val t 0 (by decide) rfl
    have e1 : (grid0.coords t 1).val = t.val / 1 % 33 := Pipeline.Grid.coords_val t 1 (by decide) rfl
    simp only [cond0_3, k0_cond4, e0, e1]
    word_cmp
   : ∀ t : Fin grid0.N, cond0_3 (grid0.coords t) ↔ t.val % 33 = 4)

/-- The condition of the body's `scf.if` 4 (`k0_h5`), from the grid coordinates (the skeleton's scalar
    chain substituted). -/
abbrev cond0_4 (i : grid0.Coords) : Prop := k0_cond5 i = 1#1
/-- It holds at the points whose coordinates have 5 ≤ i1 — decided over the grid. -/
theorem hcond0_4 : ∀ t : Fin cfg0.N, cond0_4 (grid0.coords t) ↔ 5 ≤ t.val % 33 :=
  (by decide +kernel : ∀ t : Fin grid0.N, cond0_4 (grid0.coords t) ↔ 5 ≤ t.val % 33)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S64x132 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x56 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x8192 .bf16 := Memref.whole cc0_scratch0
abbrev scM0_1 : Memref sig .tc .vmem S8192x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.ProjIdeal.Hand

end
-- ==== Proof.Proj.Ideal.RunA.lean ====
/- The input projection's body at the first column point of a row: the widened rows are filled, then a block of q is stored. -/
module

public import proofs.«01_k».proof.Proof.Proj.Ideal.Runs

@[expose] public section

set_option maxRecDepth 16384

noncomputable section

namespace Cert.ProjIdeal.Hand

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: checking it walks past the default budget)
set_option maxHeartbeats 9388000 in
/-- The body at the first column point of a row: the widened rows are filled, then a block of q is stored. The stores into each buffer are recorded
    as the lists of pieces it returns; the widened weights' scratch is left at some contents, a buffer not named here is not touched. -/
def runA (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole)
    (hc0 : cond0_0 i) (hc1 : cond0_1 i) (hc2 : cond0_2 i) (hc3 : ¬cond0_3 i) (hc4 : ¬cond0_4 i) (x0 : Vec F S512x8192 .fp8e4m3) (x1 : Vec F S512x64 .f32) (x2 : Vec F S8192x256 .fp8e4m3) (x3 : Vec F S8192x256 .fp8e4m3) (x4 : Vec F S64x132 .f32) :
    Σ' (L7 : List (View.Piece (Elt F) S512x512 .bf16)), { L12 : List (View.Piece (Elt F) S512x8192 .bf16) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ (∃ d, owns (c : Thread nD τ) arg12 fullShare d)
            ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg12.view.loc (c : Thread nD τ) ↦[arg12.view.set]{fullShare} arg12.view.writes (Elt F) f L12) ∗ (∃ d, owns (c : Thread nD τ) arg13 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_proj_eq_skeleton]; unfold cc0_proj_skel
    simp only [k0_part100_eq_skeleton, k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H12]; · iexists _; iexact H12
    iexists _, _; isplitr; swap; · iexact H13
    ipureintro; rfl

end Cert.ProjIdeal.Hand

end
-- ==== Proof.Proj.Ideal.RunB.lean ====
/- The input projection's body at column points 1, 2 and 3 of a row: a block of q is stored. -/
module

public import proofs.«01_k».proof.Proof.Proj.Ideal.Runs

@[expose] public section

set_option maxRecDepth 16384

noncomputable section

namespace Cert.ProjIdeal.Hand

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: checking it walks past the default budget)
set_option maxHeartbeats 7972000 in
/-- The body at column points 1, 2 and 3 of a row: a block of q is stored. The stores into each buffer are recorded
    as the lists of pieces it returns; the widened weights' scratch is left at some contents, a buffer not named here is not touched. -/
def runB (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole)
    (hc0 : ¬cond0_0 i) (hc1 : cond0_1 i) (hc2 : cond0_2 i) (hc3 : ¬cond0_3 i) (hc4 : ¬cond0_4 i) (x2 : Vec F S8192x256 .fp8e4m3) (x3 : Vec F S8192x256 .fp8e4m3) (x4 : Vec F S64x132 .f32) (xs0 : Vec F S512x8192 .bf16) :
     { L7 : List (View.Piece (Elt F) S512x512 .bf16) //
      ∀ (E : Set ℕ) (K : PUnit → sProp 𝕄),
        iprop(owns (c : Thread nD τ) arg4 fullShare x2
            ∗ owns (c : Thread nD τ) arg5 fullShare x3
            ∗ owns (c : Thread nD τ) arg6 fullShare x4
            ∗ owns (c : Thread nD τ) arg12 fullShare xs0
            ∗ (∃ d, owns (c : Thread nD τ) arg7 fullShare d)
            ∗ (∃ d, owns (c : Thread nD τ) arg13 fullShare d)
            ∗ (iprop(owns (c : Thread nD τ) arg4 fullShare x2 ∗ owns (c : Thread nD τ) arg5 fullShare x3 ∗ owns (c : Thread nD τ) arg6 fullShare x4 ∗ owns (c : Thread nD τ) arg12 fullShare xs0 ∗ (∃ f, arg7.view.loc (c : Thread nD τ) ↦[arg7.view.set]{fullShare} arg7.view.writes (Elt F) f L7) ∗ (∃ d, owns (c : Thread nD τ) arg13 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_proj_eq_skeleton]; unfold cc0_proj_skel
    simp only [k0_part100_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f4, %hf4, H4⟩, ⟨%f5, %hf5, H5⟩, ⟨%f6, %hf6, H6⟩, ⟨%f12, %hf12, H12⟩, ⟨%d7, %f7, -, H7⟩, ⟨%d13, %f13, -, H13⟩, Hk⟩
    obtain rfl := harg4.eq_unread hf4; obtain rfl := harg5.eq_unread hf5; obtain rfl := harg6.eq_unread hf6; obtain rfl := harg12.eq_unread hf12
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H12]
    · iexists _; isplitr; · ipureintro; exact harg12.read_unread _
      iexact H12
    isplitl [H7]; · iexists _; iexact H7
    iexists _, _; isplitr; swap; · iexact H13
    ipureintro; rfl

end Cert.ProjIdeal.Hand

end
-- ==== Proof.Proj.Ideal.RunC.lean ====
/- The input projection's body at column point 4 of a row: the blocks of k and v are stored. -/
module

public import proofs.«01_k».proof.Proof.Proj.Ideal.Runs

@[expose] public section

set_option maxRecDepth 16384

noncomputable section

namespace Cert.ProjIdeal.Hand

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: checking it walks past the default budget)
set_option maxHeartbeats 7980000 in
/-- The body at column point 4 of a row: the blocks of k and v are stored. The stores into each buffer are recorded
    as the lists of pieces it returns; the widened weights' scratch is left at some contents, a buffer not named here is not touched. -/
def runC (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole)
    (hc0 : ¬cond0_0 i) (hc1 : cond0_1 i) (hc2 : ¬cond0_2 i) (hc3 : cond0_3 i) (hc4 : ¬cond0_4 i) (x2 : Vec F S8192x256 .fp8e4m3) (x3 : Vec F S8192x256 .fp8e4m3) (x4 : Vec F S64x132 .f32) (xs0 : Vec F S512x8192 .bf16) :
    Σ' (L8 : List (View.Piece (Elt F) S512x256 .bf16)), { L9 : List (View.Piece (Elt F) S512x256 .bf16) //
      ∀ (E : Set ℕ) (K : PUnit → sProp 𝕄),
        iprop(owns (c : Thread nD τ) arg4 fullShare x2
            ∗ owns (c : Thread nD τ) arg5 fullShare x3
            ∗ owns (c : Thread nD τ) arg6 fullShare x4
            ∗ owns (c : Thread nD τ) arg12 fullShare xs0
            ∗ (∃ d, owns (c : Thread nD τ) arg8 fullShare d)
            ∗ (∃ d, owns (c : Thread nD τ) arg9 fullShare d)
            ∗ (∃ d, owns (c : Thread nD τ) arg13 fullShare d)
            ∗ (iprop(owns (c : Thread nD τ) arg4 fullShare x2 ∗ owns (c : Thread nD τ) arg5 fullShare x3 ∗ owns (c : Thread nD τ) arg6 fullShare x4 ∗ owns (c : Thread nD τ) arg12 fullShare xs0 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg13 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_proj_eq_skeleton]; unfold cc0_proj_skel
    simp only [k0_part100_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f4, %hf4, H4⟩, ⟨%f5, %hf5, H5⟩, ⟨%f6, %hf6, H6⟩, ⟨%f12, %hf12, H12⟩, ⟨%d8, %f8, -, H8⟩, ⟨%d9, %f9, -, H9⟩, ⟨%d13, %f13, -, H13⟩, Hk⟩
    obtain rfl := harg4.eq_unread hf4; obtain rfl := harg5.eq_unread hf5; obtain rfl := harg6.eq_unread hf6; obtain rfl := harg12.eq_unread hf12
    sl_exec (disch := first | sl_exact hc0 | sl_exact hc1 | sl_exact hc2 | sl_exact hc3 | sl_exact hc4)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H12]
    · iexists _; isplitr; · ipureintro; exact harg12.read_unread _
      iexact H12
    isplitl [H8]; · iexists _; iexact H8
    isplitl [H9]; · iexists _; iexact H9
    iexists _, _; isplitr; swap; · iexact H13
    ipureintro; rfl

end Cert.ProjIdeal.Hand

end
-- ==== Proof.Proj.Ideal.RunD.lean ====
/- The input projection's body at column points 5 to 32 of a row: two groups of gated codes are stored, and their scales put into the row's scales. -/
module

public import proofs.«01_k».proof.Proof.Proj.Ideal.Runs

@[expose] public section

set_option maxRecDepth 16384

noncomputable section

namespace Cert.ProjIdeal.Hand

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: checking it walks past the default budget)
set_option maxHeartbeats 8004000 in
/-- The body at column points 5 to 32 of a row: two groups of gated codes are stored, and their scales put into the row's scales. The stores into each buffer are recorded
    as the lists of pieces it returns; the widened weights' scratch is left at some contents, a buffer not named here is not touched. -/
def runD (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole)
    (hc0 : ¬cond0_0 i) (hc1 : ¬cond0_1 i) (hc4 : cond0_4 i) (x2 : Vec F S8192x256 .fp8e4m3) (x3 : Vec F S8192x256 .fp8e4m3) (x4 : Vec F S64x132 .f32) (xs0 : Vec F S512x8192 .bf16) (x9 : Vec F S512x56 .f32) :
    Σ' (L10 : List (View.Piece (Elt F) S512x256 .fp8e4m3)), { L11 : List (View.Piece (Elt F) S512x56 .f32) //
      ∀ (E : Set ℕ) (K : PUnit → sProp 𝕄),
        iprop(owns (c : Thread nD τ) arg4 fullShare x2
            ∗ owns (c : Thread nD τ) arg5 fullShare x3
            ∗ owns (c : Thread nD τ) arg6 fullShare x4
            ∗ owns (c : Thread nD τ) arg12 fullShare xs0
            ∗ owns (c : Thread nD τ) arg11 fullShare x9
            ∗ (∃ d, owns (c : Thread nD τ) arg10 fullShare d)
            ∗ (∃ d, owns (c : Thread nD τ) arg13 fullShare d)
            ∗ (iprop(owns (c : Thread nD τ) arg4 fullShare x2 ∗ owns (c : Thread nD τ) arg5 fullShare x3 ∗ owns (c : Thread nD τ) arg6 fullShare x4 ∗ owns (c : Thread nD τ) arg12 fullShare xs0 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ d, owns (c : Thread nD τ) arg13 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_proj_eq_skeleton]; unfold cc0_proj_skel
    simp only [k0_part100_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part18_eq_skeleton, k0_part19_eq_skeleton, k0_part20_eq_skeleton, k0_part21_eq_skeleton, k0_part22_eq_skeleton]
    unfold owns
    iintro ⟨⟨%f4, %hf4, H4⟩, ⟨%f5, %hf5, H5⟩, ⟨%f6, %hf6, H6⟩, ⟨%f12, %hf12, H12⟩, ⟨%f11, %hf11, H11⟩, ⟨%d10, %f10, -, H10⟩, ⟨%d13, %f13, -, H13⟩, Hk⟩
    obtain rfl := harg4.eq_unread hf4; obtain rfl := harg5.eq_unread hf5; obtain rfl := harg6.eq_unread hf6; obtain rfl := harg12.eq_unread hf12; obtain rfl := harg11.eq_unread hf11
    sl_exec (disch := first | sl_exact hc0 | sl_exact hc1 | sl_exact hc4)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H12]
    · iexists _; isplitr; · ipureintro; exact harg12.read_unread _
      iexact H12
    isplitl [H10]; · iexists _; iexact H10
    isplitl [H11]; · iexists _; iexact H11
    iexists _, _; isplitr; swap; · iexact H13
    ipureintro; rfl

end Cert.ProjIdeal.Hand

end
-- ==== Proof.Proj.Ideal.Pieces.lean ====
/- What the input projection's body stores at a grid point, as numbered pieces: the 256 tiles of the widened weight block
   (the first 128 from one window, the others from the second), the 64 tiles of the widened activation rows, and the
   output blocks made of both. -/
module

public import proofs.«01_k».proof.Proof.Tiles
public import proofs.«01_k».proof.Proof.Proj.Ideal.RunA
public import proofs.«01_k».proof.Proof.Proj.Ideal.RunB
public import proofs.«01_k».proof.Proof.Proj.Ideal.RunC
public import proofs.«01_k».proof.Proof.Proj.Ideal.RunD

@[expose] public section

set_option maxRecDepth 16384

noncomputable section

namespace Cert.ProjIdeal.Hand

open Cert.ProjIdeal Cert.ProjIdeal.Gen Cert.Tiles Idealize.ShloMosaic Idealize.ShloMosaic.TcCoe Idealize.ShloMosaic.Tactic

variable {F : FTy → Type} [FloatOps F]

/-- Where tile `n` of a weight window lies in the window: row block `n / 2`, column block `n % 2`. -/
def cOff (n : ℕ) : Fin 2 → ℕ := ![128 * (n / 2 % 64), 128 * (n % 2)]
/-- It lies inside the window. -/
theorem cOff_inb (n : ℕ) : ∀ a, cOff n a + S128x128.size a ≤ S8192x256.size a := by
  intro a
  match a with
  | ⟨0, _⟩ => show 128 * (n / 2 % 64) + 128 ≤ 8192; omega
  | ⟨1, _⟩ => show 128 * (n % 2) + 128 ≤ 256; omega
/-- Where it is put in the widened block: the first window's tiles on the left, the second's on the right. -/
def wOff (h : Fin 2) (n : ℕ) : Fin 2 → ℕ := ![128 * (n / 2 % 64), 256 * h.val + 128 * (n % 2)]
/-- It lies inside the block. -/
theorem wOff_inb (h : Fin 2) (n : ℕ) : ∀ a, wOff h n a + S128x128.size a ≤ S8192x512.size a := by
  intro a
  have := h.isLt
  match a with
  | ⟨0, _⟩ => show 128 * (n / 2 % 64) + 128 ≤ 8192; omega
  | ⟨1, _⟩ => show 256 * h.val + 128 * (n % 2) + 128 ≤ 512; omega

/-- The scale column of a column point's first tile, as the body computes it, for the first window, -/
def colA (i : grid0.Coords) : BitVec 32 :=
  Scalar.select (Scalar.cmpi .slt (BitVec.ofNat 32 (i 1).val) 5#32) (Scalar.muli 4#32 (BitVec.ofNat 32 (i 1).val))
    (Scalar.addi 20#32 (Scalar.muli 2#32 (Scalar.subi (BitVec.ofNat 32 (i 1).val) 5#32)))
/-- and for the second. -/
def colB (i : grid0.Coords) : BitVec 32 :=
  Scalar.select (Scalar.cmpi .slt (BitVec.ofNat 32 (i 1).val) 5#32) (Scalar.addi (Scalar.muli 4#32 (BitVec.ofNat 32 (i 1).val)) 2#32)
    (Scalar.addi 76#32 (Scalar.muli 2#32 (Scalar.subi (BitVec.ofNat 32 (i 1).val) 5#32)))
/-- Where tile `n`'s scale lies in the scale table, the column of its first tile given. -/
def sOff (v : BitVec 32) (n : ℕ) : Fin 2 → ℕ := ![n / 2 % 64, (Scalar.indexCast (Scalar.addi v (BitVec.ofNat 32 (n % 2)))).toNat]

/-- The first scale column of the first window: four columns a point up to point 4, then two from column 20. -/
def natA (j : ℕ) : ℕ := if j < 5 then 4 * j else 10 + 2 * j
/-- The first scale column of the second window: two columns further up to point 4, then two from column 76. -/
def natB (j : ℕ) : ℕ := if j < 5 then 4 * j + 2 else 66 + 2 * j

/-- The computed columns are these. -/
theorem colA_eq : ∀ j : Fin 33, ∀ r : Fin 2, (Scalar.indexCast (Scalar.addi (Scalar.select (Scalar.cmpi .slt (BitVec.ofNat 32 j.val) 5#32) (Scalar.muli 4#32 (BitVec.ofNat 32 j.val))
    (Scalar.addi 20#32 (Scalar.muli 2#32 (Scalar.subi (BitVec.ofNat 32 j.val) 5#32)))) (BitVec.ofNat 32 r.val))).toNat = natA j.val + r.val := by decide +kernel
/-- The computed columns are these. -/
theorem colB_eq : ∀ j : Fin 33, ∀ r : Fin 2, (Scalar.indexCast (Scalar.addi (Scalar.select (Scalar.cmpi .slt (BitVec.ofNat 32 j.val) 5#32) (Scalar.addi (Scalar.muli 4#32 (BitVec.ofNat 32 j.val)) 2#32)
    (Scalar.addi 76#32 (Scalar.muli 2#32 (Scalar.subi (BitVec.ofNat 32 j.val) 5#32)))) (BitVec.ofNat 32 r.val))).toNat = natB j.val + r.val := by decide +kernel
/-- Where the first window's tile `n` has its scale, in plain numbers, -/
theorem sOffA_eq (i : grid0.Coords) (n : ℕ) : sOff (colA i) n = ![n / 2 % 64, natA (i 1).val + n % 2] := by
  unfold sOff; exact congrArg (fun k => ![n / 2 % 64, k]) (colA_eq (i 1) ⟨n % 2, Nat.mod_lt _ (by decide)⟩)
/-- and the second's. -/
theorem sOffB_eq (i : grid0.Coords) (n : ℕ) : sOff (colB i) n = ![n / 2 % 64, natB (i 1).val + n % 2] := by
  unfold sOff; exact congrArg (fun k => ![n / 2 % 64, k]) (colB_eq (i 1) ⟨n % 2, Nat.mod_lt _ (by decide)⟩)
/-- The columns in plain numbers lie inside the table. -/
theorem sInb (i : grid0.Coords) (n k : ℕ) (hk : k = natA (i 1).val + n % 2 ∨ k = natB (i 1).val + n % 2) : ∀ a, (![n / 2 % 64, k] : Fin 2 → ℕ) a + S1x1.size a ≤ S64x132.size a := by
  have h : (i 1).val < 33 := (i 1).isLt
  intro a
  match a with
  | ⟨0, _⟩ => show n / 2 % 64 + 1 ≤ 64; omega
  | ⟨1, _⟩ =>
    show k + 1 ≤ 132
    unfold natA natB at hk
    split at hk <;> omega
/-- So do the computed ones of the first window, -/
theorem sOffA_inb (i : grid0.Coords) (n : ℕ) : ∀ a, sOff (colA i) n a + S1x1.size a ≤ S64x132.size a := by
  rw [sOffA_eq]; exact sInb i n _ (Or.inl rfl)
/-- and of the second. -/
theorem sOffB_inb (i : grid0.Coords) (n : ℕ) : ∀ a, sOff (colB i) n a + S1x1.size a ≤ S64x132.size a := by
  rw [sOffB_eq]; exact sInb i n _ (Or.inr rfl)

/-- Where activation tile `n` lies: column block `n`. -/
def hOff (n : ℕ) : Fin 2 → ℕ := ![0, 128 * (n % 64)]
/-- It lies inside the rows. -/
theorem hOff_inb (n : ℕ) : ∀ a, hOff n a + S512x128.size a ≤ S512x8192.size a := by
  intro a
  match a with
  | ⟨0, _⟩ => show 0 + 512 ≤ 512; omega
  | ⟨1, _⟩ => show 128 * (n % 64) + 128 ≤ 8192; omega
/-- Where activation tile `n`'s scales lie: column `n` of the scale rows. -/
def gOff (n : ℕ) : Fin 2 → ℕ := ![0, n % 64]
/-- They lie inside the scale rows. -/
theorem gOff_inb (n : ℕ) : ∀ a, gOff n a + S512x1.size a ≤ S512x64.size a := by
  intro a
  match a with
  | ⟨0, _⟩ => show 0 + 512 ≤ 512; omega
  | ⟨1, _⟩ => show n % 64 + 1 ≤ 64; omega

/-! ## The gated block's two groups of 128 columns -/

section
variable (X : Vec F S512x8192 .bf16) (W : Vec F S8192x512 .bf16)

/-- The search of the left group's exponent fields, before its last two steps. -/
def fieldL : IVec S512x1 32 := k0_pay95 (k0_pay91 X W) (k0_pay92 X W) (k0_pay93 X W) (k0_pay94 X W)
/-- Whether its last step but one adds. -/
def testL : IVec S512x1 1 := k0_pay96 (k0_pay91 X W) (k0_pay92 X W) (k0_pay93 X W) (k0_pay94 X W)
/-- The field with that step added. -/
def nextL : IVec S512x1 32 := k0_pay97 (k0_pay91 X W) (k0_pay92 X W) (k0_pay93 X W) (k0_pay94 X W)
/-- The left group's codes, as the body makes them. -/
def codesL : FVec F S512x128 .fp8e4m3 := k0_pay99 (k0_pay90 X W) (k0_pay91 X W) (fieldL X W) (testL X W) (nextL X W)
/-- The right group's magnitudes. -/
def magsR : FVec F S512x128 .f32 := k0_pay102 (k0_pay88 X W)
/-- The right group's codes. -/
def codesR : FVec F S512x128 .fp8e4m3 :=
  k0_pay6 (k0_pay101 (k0_pay88 X W)) (k0_pay109 (k0_pay103 (magsR X W)) (k0_pay104 (magsR X W)) (k0_pay105 (magsR X W)) k0_pay106) 23#32
/-- The row's scales with both groups' put in, the scales before given. -/
def newScales (i : grid0.Coords) (S : Vec F S512x56 .f32) : FVec F S512x56 .f32 :=
  k0_pay7 (BitVec.ofNat 32 (i 1).val) (iota .tc S512x56 32 [1] iota_S512x56_d1_w32)
    (k0_pay100 (BitVec.ofNat 32 (i 1).val) (iota .tc S512x56 32 [1] iota_S512x56_d1_w32) (k0_pay89 S) (k0_pay91 X W) (fieldL X W) (testL X W) (nextL X W))
    (k0_pay108 (k0_pay103 (magsR X W)) (k0_pay104 (magsR X W)) (k0_pay105 (magsR X W)) k0_pay106)
end

section
variable (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole)
  (x0 : Vec F S512x8192 .fp8e4m3) (x1 : Vec F S512x64 .f32) (x2 : Vec F S8192x256 .fp8e4m3) (x3 : Vec F S8192x256 .fp8e4m3) (x4 : Vec F S64x132 .f32) (xs0 : Vec F S512x8192 .bf16) (x9 : Vec F S512x56 .f32)

/-- Tile `n` of the first weight window as the body stores it: the tile of codes widened, times its one scale. -/
def aPiece (n : ℕ) : View.Piece (Elt F) S8192x512 .bf16 :=
  ⟨Rect.unit (s := S8192x512) (wOff 0 n) S128x128.size (wOff_inb 0 n),
    k0_pay2 (View.readAt (Elt F) arg6.view (Rect.unit (s := S64x132) (sOff (colA i) n) S1x1.size (sOffA_inb i n)).toLoadRect (harg6.unread x4) (Shape.Idx.first (numel1_S1x1.symm ▸ Nat.one_pos)))
      (View.readAt (Elt F) arg4.view (Rect.unit (s := S8192x256) (cOff n) S128x128.size (cOff_inb n)).toLoadRect (harg4.unread x2))⟩
/-- Tile `n` of the second weight window, likewise. -/
def bPiece (n : ℕ) : View.Piece (Elt F) S8192x512 .bf16 :=
  ⟨Rect.unit (s := S8192x512) (wOff 1 n) S128x128.size (wOff_inb 1 n),
    k0_pay2 (View.readAt (Elt F) arg6.view (Rect.unit (s := S64x132) (sOff (colB i) n) S1x1.size (sOffB_inb i n)).toLoadRect (harg6.unread x4) (Shape.Idx.first (numel1_S1x1.symm ▸ Nat.one_pos)))
      (View.readAt (Elt F) arg5.view (Rect.unit (s := S8192x256) (cOff n) S128x128.size (cOff_inb n)).toLoadRect (harg5.unread x3))⟩
/-- The widened weight block's stores, the last first. -/
def wPieces : List (View.Piece (Elt F) S8192x512 .bf16) :=
  lastFirst (bPiece i arg5 harg5 arg6 harg6 x3 x4) 128 ++ lastFirst (aPiece i arg4 harg4 arg6 harg6 x2 x4) 128

/-- Activation tile `n` as the body stores it: the tile of codes widened, times its row's scale. -/
def hPiece (n : ℕ) : View.Piece (Elt F) S512x8192 .bf16 :=
  ⟨Rect.unit (s := S512x8192) (hOff n) S512x128.size (hOff_inb n),
    k0_pay8 (View.readAt (Elt F) arg2.view (Rect.unit (s := S512x8192) (hOff n) S512x128.size (hOff_inb n)).toLoadRect (harg2.unread x0))
      (View.readAt (Elt F) arg3.view (Rect.unit (s := S512x64) (gOff n) S512x1.size (gOff_inb n)).toLoadRect (harg3.unread x1))⟩

/-- The activation scratch as the body reads it back after filling it, -/
def xRead : Vec F S512x8192 .bf16 := arg12.view.readCov (lastFirst (hPiece arg2 harg2 arg3 harg3 x0 x1) 64) (Rect.unit (s := S512x8192) ![0, 0] S512x8192.size inb_S512x8192_S512x8192_0_0).toLoadRect
/-- as it reads it when it was filled before, -/
def xKept : Vec F S512x8192 .bf16 := View.readAt (Elt F) arg12.view (Rect.unit (s := S512x8192) ![0, 0] S512x8192.size inb_S512x8192_S512x8192_0_0).toLoadRect (harg12.unread xs0)
/-- and the widened weights as it reads them back. -/
def wRead : Vec F S8192x512 .bf16 := arg13.view.readCov (wPieces i arg4 harg4 arg5 harg5 arg6 harg6 x2 x3 x4) (Rect.unit (s := S8192x512) ![0, 0] S8192x512.size inb_S8192x512_S8192x512_0_0).toLoadRect

/-- At a row's first column point the activation scratch is left at the 64 activation tiles. -/
theorem runA_x (hc0 : cond0_0 i) (hc1 : cond0_1 i) (hc2 : cond0_2 i) (hc3 : ¬cond0_3 i) (hc4 : ¬cond0_4 i) :
    (runA c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4).2.1
      = lastFirst (hPiece arg2 harg2 arg3 harg3 x0 x1) 64 := by
  sl_kernel_rfl

/-- The block of q stored there. -/
theorem runA_q (hc0 : cond0_0 i) (hc1 : cond0_1 i) (hc2 : cond0_2 i) (hc3 : ¬cond0_3 i) (hc4 : ¬cond0_4 i) :
    (runA c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4).1
      = [⟨Rect.unit (s := S512x512) ![0, 0] S512x512.size inb_S512x512_S512x512_0_0,
          k0_pay3 (xRead arg2 harg2 arg3 harg3 arg12 x0 x1) (wRead i arg4 harg4 arg5 harg5 arg6 harg6 arg13 x2 x3 x4)⟩] := by
  sl_kernel_rfl

/-- The block of q stored at the next three column points. -/
theorem runB_q (hc0 : ¬cond0_0 i) (hc1 : cond0_1 i) (hc2 : cond0_2 i) (hc3 : ¬cond0_3 i) (hc4 : ¬cond0_4 i) :
    (runB c i arg2 harg2 arg3 harg3 arg4 harg4 arg5 harg5 arg6 harg6 arg7 harg7 arg8 harg8 arg9 harg9 arg10 harg10 arg11 harg11 arg12 harg12 arg13 harg13 hc0 hc1 hc2 hc3 hc4 x2 x3 x4 xs0).1
      = [⟨Rect.unit (s := S512x512) ![0, 0] S512x512.size inb_S512x512_S512x512_0_0,
          k0_pay3 (xKept arg12 harg12 xs0) (wRead i arg4 harg4 arg5 harg5 arg6 harg6 arg13 x2 x3 x4)⟩] := by
  sl_kernel_rfl

/-- The block of k stored at column point 4, -/
theorem runC_k (hc0 : ¬cond0_0 i) (hc1 : cond0_1 i) (hc2 : ¬cond0_2 i) (hc3 : cond0_3 i) (hc4 : ¬cond0_4 i) :
    (runC c i arg2 harg2 arg3 harg3 arg4 harg4 arg5 harg5 arg6 harg6 arg7 harg7 arg8 harg8 arg9 harg9 arg10 harg10 arg11 harg11 arg12 harg12 arg13 harg13 hc0 hc1 hc2 hc3 hc4 x2 x3 x4 xs0).1
      = [⟨Rect.unit (s := S512x256) ![0, 0] S512x256.size inb_S512x256_S512x256_0_0,
          k0_pay4 (xKept arg12 harg12 xs0) (wRead i arg4 harg4 arg5 harg5 arg6 harg6 arg13 x2 x3 x4)⟩] := by
  sl_kernel_rfl

/-- and the block of v. -/
theorem runC_v (hc0 : ¬cond0_0 i) (hc1 : cond0_1 i) (hc2 : ¬cond0_2 i) (hc3 : cond0_3 i) (hc4 : ¬cond0_4 i) :
    (runC c i arg2 harg2 arg3 harg3 arg4 harg4 arg5 harg5 arg6 harg6 arg7 harg7 arg8 harg8 arg9 harg9 arg10 harg10 arg11 harg11 arg12 harg12 arg13 harg13 hc0 hc1 hc2 hc3 hc4 x2 x3 x4 xs0).2.1
      = [⟨Rect.unit (s := S512x256) ![0, 0] S512x256.size inb_S512x256_S512x256_0_0,
          k0_pay5 (xKept arg12 harg12 xs0) (wRead i arg4 harg4 arg5 harg5 arg6 harg6 arg13 x2 x3 x4)⟩] := by
  sl_kernel_rfl

/-- The two groups of codes stored at a later column point, -/
theorem runD_codes (hc0 : ¬cond0_0 i) (hc1 : ¬cond0_1 i) (hc4 : cond0_4 i) :
    (runD c i arg2 harg2 arg3 harg3 arg4 harg4 arg5 harg5 arg6 harg6 arg7 harg7 arg8 harg8 arg9 harg9 arg10 harg10 arg11 harg11 arg12 harg12 arg13 harg13 hc0 hc1 hc4 x2 x3 x4 xs0 x9).1
      = [⟨Rect.unit (s := S512x256) ![0, 128] S512x128.size inb_S512x256_S512x128_0_128,
          codesR (xKept arg12 harg12 xs0) (wRead i arg4 harg4 arg5 harg5 arg6 harg6 arg13 x2 x3 x4)⟩,
         ⟨Rect.unit (s := S512x256) ![0, 0] S512x128.size inb_S512x256_S512x128_0_0,
          codesL (xKept arg12 harg12 xs0) (wRead i arg4 harg4 arg5 harg5 arg6 harg6 arg13 x2 x3 x4)⟩] := by
  sl_kernel_rfl

/-- and the row's scales with theirs put in. -/
theorem runD_scales (hc0 : ¬cond0_0 i) (hc1 : ¬cond0_1 i) (hc4 : cond0_4 i) :
    (runD c i arg2 harg2 arg3 harg3 arg4 harg4 arg5 harg5 arg6 harg6 arg7 harg7 arg8 harg8 arg9 harg9 arg10 harg10 arg11 harg11 arg12 harg12 arg13 harg13 hc0 hc1 hc4 x2 x3 x4 xs0 x9).2.1
      = [⟨Rect.unit (s := S512x56) ![0, 0] S512x56.size inb_S512x56_S512x56_0_0,
          newScales (xKept arg12 harg12 xs0) (wRead i arg4 harg4 arg5 harg5 arg6 harg6 arg13 x2 x3 x4) i
            (View.readAt (Elt F) arg11.view (Rect.unit (s := S512x56) ![0, 0] S512x56.size inb_S512x56_S512x56_0_0).toLoadRect (harg11.unread x9))⟩] := by
  sl_kernel_rfl

end

end Cert.ProjIdeal.Hand

end
-- ==== Proof.Quant.lean ====
/- The power-of-two scale of a group of 128 values, as the kernel finds it (a search of the exponent field of an f32 word)
   and as the reference states it (the floor of a base-two logarithm, clipped): one number, over the extended reals. -/
module

public import Idealize.ShloMosaic.PureOps.Ideal
public import Idealize.ShloMosaic.PureOps.Ideal.Laws
public import Idealize.ShloMosaic.Lib.IdealHost

@[expose] public section

noncomputable section

namespace Cert.Quant

open Idealize.ShloMosaic

/-- Two to the power `n - 127`, what the f32 word with exponent field `n` and no fraction denotes. -/
def pw (n : ℕ) : ℝ := (2 : ℝ) ^ ((n : ℤ) - 127)

theorem pw_pos (n : ℕ) : 0 < pw n := by unfold pw; positivity
theorem pw_mono {a b : ℕ} (h : a ≤ b) : pw a ≤ pw b :=
  zpow_le_zpow_right₀ (by norm_num) (by omega)

/-- The f32 word with exponent field `n` and no fraction denotes `pw n`. -/
theorem ofBits_pw (n : ℕ) (h1 : 1 ≤ n) (h2 : n ≤ 254) (b : BitVec 32) (hb : b.toNat = n * 2 ^ 23) :
    Ideal.ofBits .f32 b = (pw n : EReal) := by
  have e1 : (b.extractLsb' 31 1) = 0#1 := by
    apply BitVec.eq_of_toNat_eq
    rw [BitVec.extractLsb'_toNat, hb, Nat.shiftRight_eq_div_pow]
    show n * 2 ^ 23 / 2 ^ 31 % 2 ^ 1 = 0
    omega
  have e2 : (b.extractLsb' 23 8).toNat = n := by
    rw [BitVec.extractLsb'_toNat, hb, Nat.shiftRight_eq_div_pow]
    omega
  have e3 : (b.extractLsb' 0 23).toNat = 0 := by
    rw [BitVec.extractLsb'_toNat, hb, Nat.shiftRight_eq_div_pow]
    omega
  show Ideal.ieee 8 23 b = _
  unfold Ideal.ieee
  simp only [e2, e3, show (8 + 23 : ℕ) = 31 from rfl, e1]
  rw [if_neg (by omega), if_neg (by omega)]
  congr 1
  unfold pw
  have h : ((n : ℤ) - (2 ^ (8 - 1) - 1) - ((23 : ℕ) : ℤ)) = ((n : ℤ) - 127) - 23 := by norm_num
  rw [h, zpow_sub₀ (by norm_num : (2 : ℝ) ≠ 0)]
  have h0 : ((0#1 == 1#1) = true) = False := by decide
  simp only [h0, if_false]
  push_cast
  norm_num
  ring

/-- One step of the search: add `b` to the exponent field when the word so made is still at most `t`. -/
def step (t : EReal) (b e : BitVec 32) : BitVec 32 :=
  Scalar.select (FloatOps.cmpf (F := Ideal) (φ := .f32) .oge t (FloatOps.ofBits (F := Ideal) .f32 (IntOp.shli .vector (IntOp.addi e b) 23#32)))
    (IntOp.addi e b) e

/-- The search, from the field 0. -/
def field (t : EReal) : BitVec 32 :=
  step t 1#32 (step t 2#32 (step t 4#32 (step t 8#32 (step t 16#32 (step t 32#32 (step t 64#32 (step t 125#32 0#32)))))))

/-- The field the scale is made of: 126 (a scale of one) when nothing was found. -/
def kfield (t : EReal) : BitVec 32 := Scalar.select (IntOp.cmpi .eq (field t) 0#32) 126#32 (field t)

/-- The kernel's scale of a group whose largest magnitude over 448 is `t`, -/
def kscale (t : EReal) : EReal := FloatOps.ofBits (F := Ideal) .f32 (IntOp.shli .vector (IntOp.addi (kfield t) 1#32) 23#32)
/-- and the reciprocal it multiplies by. -/
def kinv (t : EReal) : EReal := FloatOps.ofBits (F := Ideal) .f32 (IntOp.shli .vector (IntOp.subi 253#32 (kfield t)) 23#32)

/-- The exponent the reference states. -/
def rexp (t : EReal) : EReal :=
  Scalar.select (FloatOps.cmpf (F := Ideal) (φ := .f32) .olt t (Ideal.ofBits .f32 0x00800000#32)) (Ideal.ofBits .f32 0x00000000#32)
    (min (Ideal.ofBits .f32 0x42FC0000#32) (max (Ideal.ofBits .f32 0xC2FA0000#32)
      (Ideal.liftRound Int.floor (Ideal.div (Ideal.log t) (Ideal.log (Ideal.ofBits .f32 0x40000000#32))) + Ideal.ofBits .f32 0x3F800000#32)))

/-- The word the search tests is `pw`'s. -/
theorem ofBits_word (n : ℕ) (h1 : 1 ≤ n) (h2 : n ≤ 254) (w : BitVec 32) (hw : w.toNat = n) :
    FloatOps.ofBits (F := Ideal) .f32 (IntOp.shli .vector w 23#32) = (pw n : EReal) := by
  refine ofBits_pw n h1 h2 _ ?_
  have : IntOp.shli .vector w 23#32 = w <<< 23 := rfl
  rw [this, BitVec.toNat_shiftLeft, hw, Nat.shiftLeft_eq]
  exact Nat.mod_eq_of_lt (by omega)

/-- What the search knows with `r` still to be added: the field found so far is at most `t`, and `t` lies below the word
    one above all that can still be added. -/
def Inv (t : EReal) (r : ℕ) (w : BitVec 32) : Prop :=
  (w.toNat = 0 ∨ (pw w.toNat : EReal) ≤ t) ∧ w.toNat + r ≤ 252 ∧ (t < (pw (w.toNat + r + 1) : EReal) ∨ w.toNat + r = 252)

theorem inv_step (t : EReal) (r : ℕ) (b w : BitVec 32) (h : Inv t (r + b.toNat) w) (hb0 : 1 ≤ b.toNat) (hb : b.toNat ≤ r + 1) :
    Inv t r (step t b w) := by
  obtain ⟨h1, h2, h3⟩ := h
  have hadd : (IntOp.addi w b).toNat = w.toNat + b.toNat := by
    show (w + b).toNat = _
    rw [BitVec.toNat_add]
    exact Nat.mod_eq_of_lt (by omega)
  have hw := ofBits_word (w.toNat + b.toNat) (by omega) (by omega) (IntOp.addi w b) hadd
  unfold step
  rw [hw]
  by_cases hle : (pw (w.toNat + b.toNat) : EReal) ≤ t
  · have : Scalar.select (FloatOps.cmpf (F := Ideal) (φ := .f32) .oge t (pw (w.toNat + b.toNat) : EReal)) (IntOp.addi w b) w = IntOp.addi w b := by
      show (if BitVec.ofBool (decide ((pw (w.toNat + b.toNat) : EReal) ≤ t)) = 1 then _ else _) = _
      rw [decide_eq_true hle]; rfl
    rw [this]
    refine ⟨Or.inr (by rw [hadd]; exact hle), by omega, ?_⟩
    rw [hadd, show w.toNat + b.toNat + r = w.toNat + (r + b.toNat) by omega]
    exact h3
  · have : Scalar.select (FloatOps.cmpf (F := Ideal) (φ := .f32) .oge t (pw (w.toNat + b.toNat) : EReal)) (IntOp.addi w b) w = w := by
      show (if BitVec.ofBool (decide ((pw (w.toNat + b.toNat) : EReal) ≤ t)) = 1 then _ else _) = _
      rw [decide_eq_false hle]; rfl
    rw [this]
    refine ⟨h1, by omega, Or.inl ?_⟩
    exact lt_of_lt_of_le (not_le.mp hle) (EReal.coe_le_coe_iff.mpr (pw_mono (by omega)))

/-- What the search ends with. -/
theorem inv_field (t : EReal) : Inv t 0 (field t) := by
  have h0 : Inv t (127 + (125#32).toNat) 0#32 := ⟨Or.inl rfl, by decide, Or.inr rfl⟩
  have h1 := inv_step t 127 125#32 _ h0 (by decide) (by decide)
  have h2 := inv_step t 63 64#32 _ h1 (by decide) (by decide)
  have h3 := inv_step t 31 32#32 _ h2 (by decide) (by decide)
  have h4 := inv_step t 15 16#32 _ h3 (by decide) (by decide)
  have h5 := inv_step t 7 8#32 _ h4 (by decide) (by decide)
  have h6 := inv_step t 3 4#32 _ h5 (by decide) (by decide)
  have h7 := inv_step t 1 2#32 _ h6 (by decide) (by decide)
  exact inv_step t 0 1#32 _ h7 (by decide) (by decide)

theorem ofBits_two : Ideal.ofBits .f32 0x40000000#32 = ((2 : ℝ) : EReal) := by
  rw [ofBits_pw 128 (by norm_num) (by norm_num) _ (by decide)]; unfold pw; norm_num
theorem ofBits_one : Ideal.ofBits .f32 0x3F800000#32 = ((1 : ℝ) : EReal) := by
  rw [ofBits_pw 127 (by norm_num) (by norm_num) _ (by decide)]; unfold pw; norm_num
theorem ofBits_min : Ideal.ofBits .f32 0x00800000#32 = (pw 1 : EReal) :=
  ofBits_pw 1 (by norm_num) (by norm_num) _ (by decide)
theorem ofBits_zero : Ideal.ofBits .f32 0x00000000#32 = ((0 : ℝ) : EReal) := by simp [Ideal.ofBits, Ideal.ieee]
theorem ofBits_hi : Ideal.ofBits .f32 0x42FC0000#32 = ((126 : ℝ) : EReal) := by
  simp [Ideal.ofBits, Ideal.ieee, -EReal.coe_mul]; norm_num
theorem ofBits_lo : Ideal.ofBits .f32 0xC2FA0000#32 = ((-125 : ℝ) : EReal) := by
  simp [Ideal.ofBits, Ideal.ieee, -EReal.coe_mul, -EReal.coe_neg]; norm_num

/-- Two to a whole power, as the reference takes it. -/
theorem exp2_int (k : ℤ) : Ideal.exp2 ((k : ℝ) : EReal) = (((2 : ℝ) ^ k : ℝ) : EReal) := by
  rw [Ideal.exp2_coe]; congr 1; exact Real.rpow_intCast 2 k

/-- The reference's exponent, once the field found is known: 0 when nothing was found, else the field less 126. -/
theorem rexp_eq (t : EReal) : rexp t = (((if (field t).toNat = 0 then (0 : ℤ) else ((field t).toNat : ℤ) - 126 : ℤ) : ℝ) : EReal) := by
  obtain ⟨h1, h2, h3⟩ := inv_field t
  generalize (field t).toNat = e at h1 h2 h3 ⊢
  unfold rexp
  rw [ofBits_min, ofBits_zero, ofBits_hi, ofBits_lo, ofBits_two, ofBits_one]
  by_cases he : e = 0
  · subst he
    have hlt : t < (pw 1 : EReal) := by
      rcases h3 with h | h
      · exact h
      · omega
    show (if BitVec.ofBool (decide (t < (pw 1 : EReal))) = 1 then _ else _) = _
    rw [decide_eq_true hlt]
    simp
  · have hle : (pw e : EReal) ≤ t := h1.resolve_left he
    have hnlt : ¬ t < (pw 1 : EReal) := not_lt.mpr (le_trans (EReal.coe_le_coe_iff.mpr (pw_mono (by omega))) hle)
    show (if BitVec.ofBool (decide (t < (pw 1 : EReal))) = 1 then _ else _) = _
    rw [decide_eq_false hnlt, if_neg (by decide), if_neg he]
    have hl2 : Ideal.log ((2 : ℝ) : EReal) = (Real.log 2 : EReal) := by
      rw [Ideal.log_coe, if_neg (by norm_num)]
    have hlog2 : (0 : ℝ) < Real.log 2 := Real.log_pos (by norm_num)
    rw [hl2, Ideal.div_coe hlog2.ne']
    induction t with
    | bot => exact absurd hle (by simp)
    | top =>
      have he' : e = 252 := by
        rcases h3 with h | h
        · exact absurd h (by simp)
        · omega
      subst he'
      have hp : (0 : EReal) < ((1 / Real.log 2 : ℝ) : EReal) := EReal.coe_pos.mpr (by positivity)
      rw [Ideal.log_top, EReal.top_mul_of_pos hp]
      show min _ (max _ ((⊤ : EReal) + _)) = _
      rw [EReal.top_add_coe, max_eq_right le_top, min_eq_left le_top]
      norm_num
    | coe r =>
      have hr : pw e ≤ r := EReal.coe_le_coe_iff.mp hle
      have hr0 : 0 < r := lt_of_lt_of_le (pw_pos e) hr
      rw [Ideal.log_coe, if_neg (not_le.mpr hr0), ← EReal.coe_mul]
      show min _ (max _ (((⌊Real.log r * (1 / Real.log 2)⌋ : ℝ) : EReal) + _)) = _
      have hlog : Real.log r * (1 / Real.log 2) = Real.log r / Real.log 2 := by ring
      rw [hlog]
      have hge : ((e : ℤ) - 127) ≤ ⌊Real.log r / Real.log 2⌋ := by
        rw [Int.le_floor, le_div_iff₀ hlog2, ← Real.log_zpow]
        exact Real.log_le_log (pw_pos e) hr
      have hup : ⌊Real.log r / Real.log 2⌋ < ((e : ℤ) - 126) ∨ e = 252 := by
        rcases h3 with h | h
        · left
          rw [Int.floor_lt, div_lt_iff₀ hlog2, ← Real.log_zpow]
          have h' := EReal.coe_lt_coe_iff.mp h
          unfold pw at h'
          rw [show ((e + 0 + 1 : ℕ) : ℤ) - 127 = (e : ℤ) - 126 by push_cast; ring] at h'
          exact Real.log_lt_log hr0 h'
        · right; omega
      rw [← EReal.coe_add, ← EReal.coe_strictMono.monotone.map_max, ← EReal.coe_strictMono.monotone.map_min]
      congr 1
      generalize ⌊Real.log r / Real.log 2⌋ = k at hge hup
      have hk : min (126 : ℤ) (max (-125) (k + 1)) = (e : ℤ) - 126 := by omega
      rw [← hk]; push_cast; norm_num

theorem kfield_toNat (t : EReal) : (kfield t).toNat = if (field t).toNat = 0 then 126 else (field t).toNat := by
  unfold kfield
  generalize field t = w
  by_cases h : w = 0#32
  · subst h; simp [Scalar.select, IntOp.cmpi]
  · have h' : w.toNat ≠ 0 := fun e => h (BitVec.eq_of_toNat_eq (by simpa using e))
    rw [if_neg h']
    have hc : IntOp.cmpi .eq w 0#32 = 0#1 := by
      show BitVec.ofBool (w == 0#32) = _
      rw [beq_false_of_ne h]; rfl
    rw [hc]; simp [Scalar.select]

/-- The kernel's scale is two to the reference's exponent, -/
theorem kscale_eq (t : EReal) : kscale t = Ideal.exp2 (rexp t) := by
  obtain ⟨h1, h2, h3⟩ := inv_field t
  have hk := kfield_toNat t
  have hadd : (IntOp.addi (kfield t) 1#32).toNat = (if (field t).toNat = 0 then 126 else (field t).toNat) + 1 := by
    show (kfield t + 1#32).toNat = _
    rw [BitVec.toNat_add, hk]
    exact Nat.mod_eq_of_lt (by split <;> simp <;> omega)
  unfold kscale
  rw [ofBits_word _ (by omega) (by split <;> omega) _ hadd, rexp_eq, exp2_int]
  congr 1; unfold pw; congr 1
  split <;> push_cast <;> omega

/-- and its reciprocal two to the negated exponent. -/
theorem kinv_eq (t : EReal) : kinv t = Ideal.exp2 (Ideal.ofBits .f32 0x00000000#32 - rexp t) := by
  obtain ⟨h1, h2, h3⟩ := inv_field t
  have hk := kfield_toNat t
  have hsub : (IntOp.subi 253#32 (kfield t)).toNat = 253 - (if (field t).toNat = 0 then 126 else (field t).toNat) := by
    show (253#32 - kfield t).toNat = _
    rw [BitVec.toNat_sub, hk]
    split <;> simp <;> omega
  unfold kinv
  rw [ofBits_word _ (by split <;> omega) (by split <;> omega) _ hsub, rexp_eq, ofBits_zero, ← EReal.coe_sub]
  rw [show ((0 : ℝ) - ((if (field t).toNat = 0 then (0 : ℤ) else ((field t).toNat : ℤ) - 126 : ℤ) : ℝ))
    = ((-(if (field t).toNat = 0 then (0 : ℤ) else ((field t).toNat : ℤ) - 126) : ℤ) : ℝ) by push_cast; ring, exp2_int]
  congr 1; unfold pw; congr 1
  split <;> push_cast <;> omega

end Cert.Quant

end
-- ==== Proof.Proj.Spec.lean ====
/- What the input projection computes, over the extended reals: the product of the dequantised activations and the
   dequantised weight, its query, key and value columns, and the gated columns quantised again in groups of 128. -/
module

public import proofs.«01_k».proof.ProjIdeal
public import proofs.«01_k».proof.Proof.Quant
public import Idealize.ShloMosaic.Lib.Pointwise

@[expose] public section

set_option maxRecDepth 16384

noncomputable section

namespace Cert.ProjIdeal.Hand

open Cert.ProjIdeal Idealize.ShloMosaic Idealize.ShloMosaic.TcCoe
open scoped BigOperators

/-- A group's largest magnitude over 448, as both programs take it. -/
def groupT (h : Fin 128 → EReal) : EReal :=
  (Finset.univ : Finset (Fin 128)).fold max (Ideal.ofBits .f32 0xFF800000#32) (fun k => FloatOps.absf (F := Ideal) (φ := .f32) (h k)) * Ideal.ofBits .f32 0x3B124925#32
/-- Clipped to the range of the eight-bit codes. -/
def clip (x : EReal) : EReal := min (Ideal.ofBits .f32 0x43E00000#32) (max (Ideal.ofBits .f32 0xC3E00000#32) x)
/-- The gate: `a` times its logistic, times `b`. -/
def gated (a b : EReal) : EReal := a * Ideal.logistic a * b

/-- The product of the dequantised activations and the dequantised weight. -/
def projP (a0 : Vec Ideal S8192x8192 .fp8e4m3) (a1 : Vec Ideal S8192x64 .f32) (a2 : Vec Ideal S8192x16896 .fp8e4m3) (a3 : Vec Ideal S64x132 .f32)
    (r : Fin 8192) (c : Fin 16896) : EReal :=
  ∑ k : Fin 8192, (a0 (ix2 r k) * a1 (ix2 r ⟨k.val / 128, by have := k.isLt; omega⟩))
    * (a2 (ix2 k c) * a3 (ix2 ⟨k.val / 128, by have := k.isLt; omega⟩ ⟨c.val / 128, by have := c.isLt; omega⟩))

section
variable (a0 : Vec Ideal S8192x8192 .fp8e4m3) (a1 : Vec Ideal S8192x64 .f32) (a2 : Vec Ideal S8192x16896 .fp8e4m3) (a3 : Vec Ideal S64x132 .f32)

/-- The query columns, the first 2048. -/
def projQ : Vec Ideal S8192x2048 .bf16 :=
  fun y => projP a0 a1 a2 a3 (y 0) ⟨(y 1).val, by have h : (y 1).val < 2048 := (y 1).isLt; omega⟩
/-- The key columns, the next 256. -/
def projK : Vec Ideal S8192x256 .bf16 :=
  fun y => projP a0 a1 a2 a3 (y 0) ⟨2048 + (y 1).val, by have h : (y 1).val < 256 := (y 1).isLt; omega⟩
/-- The value columns, the next 256. -/
def projV : Vec Ideal S8192x256 .bf16 :=
  fun y => projP a0 a1 a2 a3 (y 0) ⟨2304 + (y 1).val, by have h : (y 1).val < 256 := (y 1).isLt; omega⟩
/-- The gated hidden channels. -/
def projH (r : Fin 8192) (f : Fin 7168) : EReal :=
  gated (projP a0 a1 a2 a3 r ⟨2560 + f.val, by have := f.isLt; omega⟩) (projP a0 a1 a2 a3 r ⟨9728 + f.val, by have := f.isLt; omega⟩)
/-- A group's largest magnitude over 448. -/
def projT (r : Fin 8192) (g : Fin 56) : EReal :=
  groupT fun k => projH a0 a1 a2 a3 r ⟨g.val * 128 + k.val, by have := g.isLt; have := k.isLt; omega⟩
/-- The hidden channels' codes. -/
def projHC : Vec Ideal S8192x7168 .fp8e4m3 :=
  fun y => clip (projH a0 a1 a2 a3 (y 0) (y 1) * Cert.Quant.kinv (projT a0 a1 a2 a3 (y 0) ⟨(y 1).val / 128, by have h : (y 1).val < 7168 := (y 1).isLt; omega⟩))
/-- The hidden channels' scales. -/
def projHS : Vec Ideal S8192x56 .f32 := fun y => Cert.Quant.kscale (projT a0 a1 a2 a3 (y 0) (y 1))
end

end Cert.ProjIdeal.Hand

end
-- ==== Proof.Proj.Ideal.Value.lean ====
/- What the input projection's stores hold, in closed form over the extended reals: the widened blocks, their product, its
   query, key and value columns, and the two groups of gated columns with their codes and scales. -/
module

public import proofs.«01_k».proof.Proof.Proj.Ideal.Pieces
public import proofs.«01_k».proof.Proof.Proj.Spec

@[expose] public section

set_option maxRecDepth 16384

noncomputable section

namespace Cert.ProjIdeal.Hand

open Cert.ProjIdeal Cert.ProjIdeal.Gen Cert.Tiles Cert.Quant Idealize.ShloMosaic Idealize.ShloMosaic.TcCoe Idealize.SL.Sem
open scoped BigOperators

/-- A window's block of codes on the left, another's on the right, each code times the scale of its 128 × 128 tile: the
    widened weight block of column point `j`. -/
def wideW (j : ℕ) (hj : j < 33) (x2 x3 : Vec Ideal S8192x256 .fp8e4m3) (x4 : Vec Ideal S64x132 .f32) : Vec Ideal S8192x512 .bf16 :=
  fun y => if h : (y 1).val < 256
    then x2 (ix2 (y 0) ⟨(y 1).val, h⟩) * x4 (ix2 ⟨(y 0).val / 128, by have h : (y 0).val < 8192 := (y 0).isLt; omega⟩
      ⟨natA j + (y 1).val / 128, by unfold natA; split <;> omega⟩)
    else x3 (ix2 (y 0) ⟨(y 1).val - 256, by have h : (y 1).val < 512 := (y 1).isLt; omega⟩) * x4 (ix2 ⟨(y 0).val / 128, by have h : (y 0).val < 8192 := (y 0).isLt; omega⟩
      ⟨natB j + ((y 1).val - 256) / 128, by have h : (y 1).val < 512 := (y 1).isLt; unfold natB; split <;> omega⟩)

/-- The widened activation rows: each code times the scale of its row and group of 128 channels. -/
def wideX (x0 : Vec Ideal S512x8192 .fp8e4m3) (x1 : Vec Ideal S512x64 .f32) : Vec Ideal S512x8192 .bf16 :=
  fun y => x0 y * x1 (ix2 (y 0) ⟨(y 1).val / 128, by have h : (y 1).val < 8192 := (y 1).isLt; omega⟩)

section
variable (X : Vec Ideal S512x8192 .bf16) (W : Vec Ideal S8192x512 .bf16)

/-- The product of the widened blocks, -/
def blkP (r : Fin 512) (c : Fin 512) : EReal := ∑ k : Fin 8192, X (ix2 r k) * W (ix2 k c)
/-- as the block of q stored, -/
def blkQ : Vec Ideal S512x512 .bf16 := fun y => blkP X W (y 0) (y 1)
/-- its left half, the block of k, -/
def blkK : Vec Ideal S512x256 .bf16 := fun y => blkP X W (y 0) ⟨(y 1).val, by have h : (y 1).val < 256 := (y 1).isLt; omega⟩
/-- and its right half, the block of v. -/
def blkV : Vec Ideal S512x256 .bf16 := fun y => blkP X W (y 0) ⟨256 + (y 1).val, by have h : (y 1).val < 256 := (y 1).isLt; omega⟩
/-- The gated columns: the left half gates the right. -/
def blkH (r : Fin 512) (f : Fin 256) : EReal :=
  gated (blkP X W r ⟨f.val, by have := f.isLt; omega⟩) (blkP X W r ⟨256 + f.val, by have := f.isLt; omega⟩)
/-- The largest magnitude over 448 of group `b` of the two. -/
def blkT (r : Fin 512) (b : Fin 2) : EReal :=
  groupT fun k => blkH X W r ⟨128 * b.val + k.val, by have := b.isLt; have := k.isLt; omega⟩
/-- The codes of both groups. -/
def blkHC : Vec Ideal S512x256 .fp8e4m3 :=
  fun y => clip (blkH X W (y 0) (y 1) * kinv (blkT X W (y 0) ⟨(y 1).val / 128, by have h : (y 1).val < 256 := (y 1).isLt; omega⟩))
/-- The row's scales with the two groups' put in at lanes `2 j - 10` and `2 j - 9`. -/
def blkHS (j : ℕ) (S : Vec Ideal S512x56 .f32) : Vec Ideal S512x56 .f32 :=
  fun y => if (y 1).val = 2 * (j - 5) + 1 then kscale (blkT X W (y 0) 1) else if (y 1).val = 2 * (j - 5) then kscale (blkT X W (y 0) 0) else S y

theorem pay3_eq : k0_pay3 (F := Ideal) X W = blkQ X W := by
  funext y; idx_vars y
  unfold blkQ blkP
  pointwise [k0_pay3]

theorem pay4_eq : k0_pay4 (F := Ideal) X W = blkK X W := by
  funext y; idx_vars y
  unfold blkK blkP
  pointwise [k0_pay4, k0_pay3]

theorem pay5_eq : k0_pay5 (F := Ideal) X W = blkV X W := by
  funext y; idx_vars y
  unfold blkV blkP
  pointwise [k0_pay5, k0_pay3]

theorem pay88_eq (r : Fin 512) (f : Fin 256) : k0_pay88 (F := Ideal) X W (ix2 r f) = blkH X W r f := by
  unfold blkH gated blkP Ideal.logistic
  pointwise [k0_pay88]
  simp only [zero_sub]

/-- The left group's largest magnitudes over 448, -/
theorem pay91_eq (r : Fin 512) (z : Fin 1) : k0_pay91 (F := Ideal) X W (ix2 r z) = blkT X W r 0 := by
  unfold blkT groupT
  simp only [← pay88_eq]
  pointwise [k0_pay91, k0_pay90]

/-- and the right group's. -/
theorem pay103_eq (r : Fin 512) (z : Fin 1) : k0_pay103 (F := Ideal) (magsR X W) (ix2 r z) = blkT X W r 1 := by
  unfold blkT groupT
  simp only [← pay88_eq]
  pointwise [k0_pay103, magsR, k0_pay102, k0_pay101]

/-! ### The search of the exponent field, step by step -/

/-- One step of the search, on a column of rows. -/
def stepV (T : FVec Ideal S512x1 .f32) (b : BitVec 32) (e : IVec S512x1 32) : IVec S512x1 32 :=
  select (cmpf .oge T (bitcastToFloat .f32 (shli (addi e (broadcast S512x1 b)) (broadcast S512x1 23#32)))) (addi e (broadcast S512x1 b)) e

/-- At a row it is the search's step. -/
theorem stepV_apply (T : FVec Ideal S512x1 .f32) (b : BitVec 32) (e : IVec S512x1 32) (y : S512x1.Idx) : stepV T b e y = step (T y) b (e y) := rfl

/-- The field found, on a column of rows. -/
def fieldV (T : FVec Ideal S512x1 .f32) : IVec S512x1 32 :=
  stepV T 1#32 (stepV T 2#32 (stepV T 4#32 (stepV T 8#32 (stepV T 16#32 (stepV T 32#32 (stepV T 64#32 (stepV T 125#32 (broadcast S512x1 0#32))))))))
theorem fieldV_apply (T : FVec Ideal S512x1 .f32) (y : S512x1.Idx) : fieldV T y = field (T y) := rfl
/-- The field the scale is made of. -/
def kfieldV (T : FVec Ideal S512x1 .f32) : IVec S512x1 32 := select (cmpi .eq (fieldV T) (broadcast S512x1 0#32)) (broadcast S512x1 126#32) (fieldV T)
theorem kfieldV_apply (T : FVec Ideal S512x1 .f32) (y : S512x1.Idx) : kfieldV T y = kfield (T y) := rfl

/-- The left group's field is the search's, -/
theorem pay98_eq : k0_pay98 (F := Ideal) (k0_pay91 X W) (fieldL X W) (testL X W) (nextL X W) = kfieldV (k0_pay91 X W) := rfl
/-- and the right group's. -/
theorem pay107_eq (H : FVec Ideal S512x128 .f32) : k0_pay107 (F := Ideal) (k0_pay103 H) (k0_pay104 H) (k0_pay105 H) k0_pay106 = kfieldV (k0_pay103 H) := rfl

/-- The left group's codes, -/
theorem codesL_apply (r : Fin 512) (l : Fin 128) :
    codesL (F := Ideal) X W (ix2 r l) = clip (blkH X W r ⟨l.val, by have := l.isLt; omega⟩ * kinv (blkT X W r 0)) := by
  unfold codesL clip kinv k0_pay99
  rw [pay98_eq, ← pay91_eq X W r 0, ← kfieldV_apply, ← pay88_eq]
  pointwise [k0_pay90]

/-- and the right group's. -/
theorem codesR_apply (r : Fin 512) (l : Fin 128) :
    codesR (F := Ideal) X W (ix2 r l) = clip (blkH X W r ⟨128 + l.val, by have := l.isLt; omega⟩ * kinv (blkT X W r 1)) := by
  unfold codesR clip kinv k0_pay109
  rw [pay107_eq, ← pay103_eq X W r 0, ← kfieldV_apply, ← pay88_eq]
  pointwise [k0_pay6, k0_pay101]

/-- The lane a group's scale is put into, as the body compares it. -/
theorem lane_eq : ∀ j < 33, ∀ g : Fin 56, 5 ≤ j →
    IntOp.cmpi .eq (BitVec.ofNat 32 g.val) (Scalar.addi (Scalar.muli 2#32 (Scalar.subi (BitVec.ofNat 32 j) 5#32)) 1#32) = BitVec.ofBool (decide (g.val = 2 * (j - 5) + 1))
    ∧ IntOp.cmpi .eq (BitVec.ofNat 32 g.val) (Scalar.addi (Scalar.muli 2#32 (Scalar.subi (BitVec.ofNat 32 j) 5#32)) 0#32) = BitVec.ofBool (decide (g.val = 2 * (j - 5))) := by
  decide +kernel
/-- A decided proposition as a one-bit word. -/
theorem ofBool_decide (p : Prop) [Decidable p] : (BitVec.ofBool (decide p) = 1) = p := by
  by_cases h : p <;> simp [h]

/-- The scales with the two groups' put in. -/
theorem newScales_eq (i : grid0.Coords) (h5 : 5 ≤ (i 1).val) (S : Vec Ideal S512x56 .f32) : newScales (F := Ideal) X W i S = blkHS X W (i 1).val S := by
  funext y; idx_vars y
  pointwise [newScales, k0_pay7, k0_pay100, k0_pay108, k0_pay89]
  rw [pay107_eq, pay98_eq, kfieldV_apply, kfieldV_apply, pay103_eq, pay91_eq, (lane_eq _ (i 1).isLt y1 h5).1, (lane_eq _ (i 1).isLt y1 h5).2]
  show (if BitVec.ofBool (decide (y1.val = 2 * ((i 1).val - 5) + 1)) = 1 then kscale (blkT X W y0 1)
    else if BitVec.ofBool (decide (y1.val = 2 * ((i 1).val - 5))) = 1 then kscale (blkT X W y0 0) else S (ix2 y0 y1))
    = if y1.val = 2 * ((i 1).val - 5) + 1 then kscale (blkT X W y0 1) else if y1.val = 2 * ((i 1).val - 5) then kscale (blkT X W y0 0) else S (ix2 y0 y1)
  simp only [ofBool_decide]
end

end Cert.ProjIdeal.Hand

end
-- ==== Proof.Proj.Ideal.Closed.lean ====
/- The input projection's stored blocks as functions of what the body reads: the tiles make up the widened blocks, and each
   output buffer ends at its block in closed form. -/
module

public import proofs.«01_k».proof.Proof.Proj.Ideal.Value

@[expose] public section

set_option maxRecDepth 16384

noncomputable section

namespace Cert.ProjIdeal.Hand

open Cert.ProjIdeal Cert.ProjIdeal.Gen Cert.Tiles Cert.Quant Idealize.ShloMosaic Idealize.ShloMosaic.TcCoe Idealize.SL.Sem
open scoped BigOperators

section
variable (c : Dev nD) (i : grid0.Coords) (arg2 : Memref sig .tc .vmem S512x8192 .fp8e4m3) (harg2 : arg2.IsWhole) (arg3 : Memref sig .tc .vmem S512x64 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .smem S64x132 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .fp8e4m3) (harg10 : arg10.IsWhole) (arg11 : Memref sig .tc .vmem S512x56 .f32) (harg11 : arg11.IsWhole) (arg12 : Memref sig .tc .vmem S512x8192 .bf16) (harg12 : arg12.IsWhole) (arg13 : Memref sig .tc .vmem S8192x512 .bf16) (harg13 : arg13.IsWhole)
  (x0 : Vec Ideal S512x8192 .fp8e4m3) (x1 : Vec Ideal S512x64 .f32) (x2 : Vec Ideal S8192x256 .fp8e4m3) (x3 : Vec Ideal S8192x256 .fp8e4m3) (x4 : Vec Ideal S64x132 .f32) (xs0 : Vec Ideal S512x8192 .bf16) (x9 : Vec Ideal S512x56 .f32)

/-- Each tile of the first weight window is its rectangle of the widened weight block, -/
theorem aPiece_eq (n : ℕ) (x : (aPiece (F := Ideal) i arg4 harg4 arg6 harg6 x2 x4 n).1.shape.Idx) :
    (aPiece (F := Ideal) i arg4 harg4 arg6 harg6 x2 x4 n).2 x
      = wideW (i 1).val (i 1).isLt x2 x3 x4 ((aPiece (F := Ideal) i arg4 harg4 arg6 harg6 x2 x4 n).1.emb x) := by
  have h0 : (x 0).val < 128 := (x 0).isLt
  have h1 : (x 1).val < 128 := (x 1).isLt
  refine Eq.trans ?_ (dif_pos (by show 256 * 0 + 128 * (n % 2) + 1 * (x 1).val < 256; omega)).symm
  unfold aPiece k0_pay2
  dsimp only
  rw [shapeCast_self, View.readAt_eq_ld, View.readAt_eq_ld, harg6.read_unread, harg4.read_unread]
  refine congrArg₂ (fun (a b : EReal) => a * b) (congrArg x2 (funext fun a => Fin.ext ?_)) (congrArg x4 (funext fun a => Fin.ext ?_))
  · match a with
    | ⟨0, _⟩ => rfl
    | ⟨1, _⟩ => show 128 * (n % 2) + 1 * (x 1).val = 256 * 0 + 128 * (n % 2) + 1 * (x 1).val; omega
  · match a with
    | ⟨0, _⟩ =>
      show sOff (colA i) n 0 + 1 * 0 = (128 * (n / 2 % 64) + 1 * (x 0).val) / 128
      rw [sOffA_eq]; show n / 2 % 64 + 1 * 0 = _; omega
    | ⟨1, _⟩ =>
      show sOff (colA i) n 1 + 1 * 0 = natA (i 1).val + (256 * 0 + 128 * (n % 2) + 1 * (x 1).val) / 128
      rw [sOffA_eq]; show natA (i 1).val + n % 2 + 1 * 0 = _; omega

/-- and each tile of the second. -/
theorem bPiece_eq (n : ℕ) (x : (bPiece (F := Ideal) i arg5 harg5 arg6 harg6 x3 x4 n).1.shape.Idx) :
    (bPiece (F := Ideal) i arg5 harg5 arg6 harg6 x3 x4 n).2 x
      = wideW (i 1).val (i 1).isLt x2 x3 x4 ((bPiece (F := Ideal) i arg5 harg5 arg6 harg6 x3 x4 n).1.emb x) := by
  have h0 : (x 0).val < 128 := (x 0).isLt
  have h1 : (x 1).val < 128 := (x 1).isLt
  refine Eq.trans ?_ (dif_neg (by show ¬256 * 1 + 128 * (n % 2) + 1 * (x 1).val < 256; omega)).symm
  unfold bPiece k0_pay2
  dsimp only
  rw [shapeCast_self, View.readAt_eq_ld, View.readAt_eq_ld, harg6.read_unread, harg5.read_unread]
  refine congrArg₂ (fun (a b : EReal) => a * b) (congrArg x3 (funext fun a => Fin.ext ?_)) (congrArg x4 (funext fun a => Fin.ext ?_))
  · match a with
    | ⟨0, _⟩ => rfl
    | ⟨1, _⟩ => show 128 * (n % 2) + 1 * (x 1).val = 256 * 1 + 128 * (n % 2) + 1 * (x 1).val - 256; omega
  · match a with
    | ⟨0, _⟩ =>
      show sOff (colB i) n 0 + 1 * 0 = (128 * (n / 2 % 64) + 1 * (x 0).val) / 128
      rw [sOffB_eq]; show n / 2 % 64 + 1 * 0 = _; omega
    | ⟨1, _⟩ =>
      show sOff (colB i) n 1 + 1 * 0 = natB (i 1).val + (256 * 1 + 128 * (n % 2) + 1 * (x 1).val - 256) / 128
      rw [sOffB_eq]; show natB (i 1).val + n % 2 + 1 * 0 = _; omega

/-- The weight scratch, its 256 tiles stored, holds the widened weight block. -/
theorem canon_w : View.canon (wPieces (F := Ideal) i arg4 harg4 arg5 harg5 arg6 harg6 x2 x3 x4) = wideW (i 1).val (i 1).isLt x2 x3 x4 := by
  funext y
  have h0 : (y 0).val < 8192 := (y 0).isLt
  have h1 : (y 1).val < 512 := (y 1).isLt
  unfold wPieces
  refine View.canon_apply_of_pieces _ _ (fun q hq x => ?_) y ?_
  · rcases List.mem_append.mp hq with hq | hq
    · obtain ⟨k, _, rfl⟩ := exists_of_mem_lastFirst hq
      exact bPiece_eq i arg5 harg5 arg6 harg6 x2 x3 x4 k x
    · obtain ⟨k, _, rfl⟩ := exists_of_mem_lastFirst hq
      exact aPiece_eq i arg4 harg4 arg6 harg6 x2 x3 x4 k x
  · by_cases h : (y 1).val < 256
    · refine ⟨_, List.mem_append_right _ (mem_lastFirst _ (k := 2 * ((y 0).val / 128) + (y 1).val / 128) (by omega)), ?_⟩
      refine (Rect.mem_set_unit (inb := wOff_inb 0 _)).mpr fun a => ?_
      match a with
      | ⟨0, _⟩ => show 128 * ((2 * ((y 0).val / 128) + (y 1).val / 128) / 2 % 64) ≤ (y 0).val ∧ (y 0).val < 128 * ((2 * ((y 0).val / 128) + (y 1).val / 128) / 2 % 64) + 128; omega
      | ⟨1, _⟩ => show 256 * 0 + 128 * ((2 * ((y 0).val / 128) + (y 1).val / 128) % 2) ≤ (y 1).val ∧ (y 1).val < 256 * 0 + 128 * ((2 * ((y 0).val / 128) + (y 1).val / 128) % 2) + 128; omega
    · refine ⟨_, List.mem_append_left _ (mem_lastFirst _ (k := 2 * ((y 0).val / 128) + ((y 1).val - 256) / 128) (by omega)), ?_⟩
      refine (Rect.mem_set_unit (inb := wOff_inb 1 _)).mpr fun a => ?_
      match a with
      | ⟨0, _⟩ => show 128 * ((2 * ((y 0).val / 128) + ((y 1).val - 256) / 128) / 2 % 64) ≤ (y 0).val ∧ (y 0).val < 128 * ((2 * ((y 0).val / 128) + ((y 1).val - 256) / 128) / 2 % 64) + 128; omega
      | ⟨1, _⟩ => show 256 * 1 + 128 * ((2 * ((y 0).val / 128) + ((y 1).val - 256) / 128) % 2) ≤ (y 1).val ∧ (y 1).val < 256 * 1 + 128 * ((2 * ((y 0).val / 128) + ((y 1).val - 256) / 128) % 2) + 128; omega

/-- Each stored activation tile is its rectangle of the widened rows. -/
theorem hPiece_eq (n : ℕ) (x : (hPiece (F := Ideal) arg2 harg2 arg3 harg3 x0 x1 n).1.shape.Idx) :
    (hPiece (F := Ideal) arg2 harg2 arg3 harg3 x0 x1 n).2 x = wideX x0 x1 ((hPiece (F := Ideal) arg2 harg2 arg3 harg3 x0 x1 n).1.emb x) := by
  have h0 : (x 0).val < 512 := (x 0).isLt
  have h1 : (x 1).val < 128 := (x 1).isLt
  unfold hPiece k0_pay8
  dsimp only
  rw [shapeCast_self, View.readAt_eq_ld, View.readAt_eq_ld, harg3.read_unread, harg2.read_unread]
  refine congrArg₂ (fun (a b : EReal) => a * b) rfl ?_
  refine (Idealize.ShloMosaic.broadcastTo_apply _ _ x (ix2 ⟨(x 0).val, h0⟩ ⟨0, by decide⟩) fun a => ?_).trans (congrArg x1 (funext fun a => Fin.ext ?_))
  · match a with
    | ⟨0, _⟩ => rfl
    | ⟨1, _⟩ => rfl
  · match a with
    | ⟨0, _⟩ => rfl
    | ⟨1, _⟩ => show n % 64 + 1 * 0 = (128 * (n % 64) + 1 * (x 1).val) / 128; omega

/-- The 64 tiles cover the rows. -/
theorem hCover (y : S512x8192.Idx) : ∃ k < 64, y ∈ (hPiece (F := Ideal) arg2 harg2 arg3 harg3 x0 x1 k).1.set := by
  have h0 : (y 0).val < 512 := (y 0).isLt
  have h1 : (y 1).val < 8192 := (y 1).isLt
  refine ⟨(y 1).val / 128, by omega, ?_⟩
  refine (Rect.mem_set_unit (inb := hOff_inb _)).mpr fun a => ?_
  match a with
  | ⟨0, _⟩ => show 0 ≤ (y 0).val ∧ (y 0).val < 0 + 512; omega
  | ⟨1, _⟩ => show 128 * ((y 1).val / 128 % 64) ≤ (y 1).val ∧ (y 1).val < 128 * ((y 1).val / 128 % 64) + 128; omega

/-- The activation scratch, its 64 tiles stored, holds the widened rows. -/
theorem canon_h : View.canon (lastFirst (hPiece (F := Ideal) arg2 harg2 arg3 harg3 x0 x1) 64) = wideX x0 x1 :=
  canon_lastFirst _ _ _ (fun n _ x => hPiece_eq arg2 harg2 arg3 harg3 x0 x1 n x) (hCover arg2 harg2 arg3 harg3 x0 x1)

/-- The two zero offsets of a whole-block access. -/
theorem hz2 : (![0, 0] : Fin 2 → ℕ) = fun _ => 0 := funext fun a => by fin_cases a <;> rfl

/-- The activation scratch read back after it is filled is the widened rows; -/
theorem xRead_eq : xRead (F := Ideal) arg2 harg2 arg3 harg3 arg12 x0 x1 = wideX x0 x1 := by
  unfold xRead
  rw [View.readCov_eq_canon', canon_h]
  exact View.ld_unit_zero hz2 _ _
/-- filled before, it is read as it was left. -/
theorem xKept_eq : xKept (F := Ideal) arg12 harg12 xs0 = xs0 := by
  unfold xKept
  rw [View.readAt_eq_ld, harg12.read_unread, View.ld_unit_zero hz2]
/-- The widened weights read back. -/
theorem wRead_eq : wRead (F := Ideal) i arg4 harg4 arg5 harg5 arg6 harg6 arg13 x2 x3 x4 = wideW (i 1).val (i 1).isLt x2 x3 x4 := by
  unfold wRead
  rw [View.readCov_eq_canon', canon_w]
  exact View.ld_unit_zero hz2 _ _

/-- Stores that cover a buffer leave what they leave in any buffer. -/
theorem read_of_canon {κ : Kind} {sp : Space} {S : Shape} {e : EltTy} (v : View sig κ sp S e) (f : v.ty.Contents (Elt Ideal)) (L : List (View.Piece (Elt Ideal) S e))
    (G : S.Idx → Elt Ideal e) (hc : ∀ y, ∃ p ∈ L, y ∈ p.1.set) (hG : View.canon L = G) : v.read (Elt Ideal) (v.writes (Elt Ideal) f L) = G := by
  rw [View.read_writes_of_cover v f v v.junk L hc, View.read_writes_junk_eq_canon, hG]

/-- Both blocks of codes are their rectangles of the codes of both groups: the right one, -/
theorem codesR_emb (X : Vec Ideal S512x8192 .bf16) (W : Vec Ideal S8192x512 .bf16) (x : S512x128.Idx) :
    codesR (F := Ideal) X W x = blkHC X W ((Rect.unit (s := S512x256) ![0, 128] S512x128.size inb_S512x256_S512x128_0_128).emb x) := by
  idx_vars x
  refine (codesR_apply X W x0 x1).trans ?_
  have h1 := x1.isLt
  refine congrArg clip (congrArg₂ (fun a b : EReal => a * b) (congrArg₂ (blkH X W) (Fin.ext ?_) (Fin.ext ?_)) (congrArg kinv (congrArg₂ (blkT X W) (Fin.ext ?_) (Fin.ext ?_))))
  · show x0.val = 0 + 1 * x0.val; omega
  · show 128 + x1.val = 128 + 1 * x1.val; omega
  · show x0.val = 0 + 1 * x0.val; omega
  · show 1 = (128 + 1 * x1.val) / 128; omega
/-- and the left one. -/
theorem codesL_emb (X : Vec Ideal S512x8192 .bf16) (W : Vec Ideal S8192x512 .bf16) (x : S512x128.Idx) :
    codesL (F := Ideal) X W x = blkHC X W ((Rect.unit (s := S512x256) ![0, 0] S512x128.size inb_S512x256_S512x128_0_0).emb x) := by
  idx_vars x
  refine (codesL_apply X W x0 x1).trans ?_
  have h1 := x1.isLt
  refine congrArg clip (congrArg₂ (fun a b : EReal => a * b) (congrArg₂ (blkH X W) (Fin.ext ?_) (Fin.ext ?_)) (congrArg kinv (congrArg₂ (blkT X W) (Fin.ext ?_) (Fin.ext ?_))))
  · show x0.val = 0 + 1 * x0.val; omega
  · show x1.val = 0 + 1 * x1.val; omega
  · show x0.val = 0 + 1 * x0.val; omega
  · show 0 = (0 + 1 * x1.val) / 128; omega

/-- The stores of both blocks of codes. -/
def codePieces (X : Vec Ideal S512x8192 .bf16) (W : Vec Ideal S8192x512 .bf16) : List (View.Piece (Elt Ideal) S512x256 .fp8e4m3) :=
  [⟨Rect.unit (s := S512x256) ![0, 128] S512x128.size inb_S512x256_S512x128_0_128, codesR (F := Ideal) X W⟩,
    ⟨Rect.unit (s := S512x256) ![0, 0] S512x128.size inb_S512x256_S512x128_0_0, codesL (F := Ideal) X W⟩]
/-- They cover the block. -/
theorem codeCover (X : Vec Ideal S512x8192 .bf16) (W : Vec Ideal S8192x512 .bf16) (y : S512x256.Idx) : ∃ p ∈ codePieces X W, y ∈ p.1.set := by
  have h0 : (y 0).val < 512 := (y 0).isLt
  have h1 : (y 1).val < 256 := (y 1).isLt
  by_cases h : (y 1).val < 128
  · refine ⟨_, List.mem_cons_of_mem _ List.mem_cons_self, (Rect.mem_set_unit (inb := inb_S512x256_S512x128_0_0)).mpr fun a => ?_⟩
    match a with
    | ⟨0, _⟩ => show 0 ≤ (y 0).val ∧ (y 0).val < 0 + 512; omega
    | ⟨1, _⟩ => show 0 ≤ (y 1).val ∧ (y 1).val < 0 + 128; omega
  · refine ⟨_, List.mem_cons_self, (Rect.mem_set_unit (inb := inb_S512x256_S512x128_0_128)).mpr fun a => ?_⟩
    match a with
    | ⟨0, _⟩ => show 0 ≤ (y 0).val ∧ (y 0).val < 0 + 512; omega
    | ⟨1, _⟩ => show 128 ≤ (y 1).val ∧ (y 1).val < 128 + 128; omega
/-- Stored, they leave the codes of both groups. -/
theorem canon_codes (X : Vec Ideal S512x8192 .bf16) (W : Vec Ideal S8192x512 .bf16) : View.canon (codePieces X W) = blkHC X W := by
  funext y
  refine View.canon_apply_of_pieces _ _ (fun q hq x => ?_) y (codeCover X W y)
  unfold codePieces at hq
  rcases List.mem_cons.mp hq with rfl | hq
  · exact codesR_emb X W x
  · obtain rfl := List.mem_singleton.mp hq
    exact codesL_emb X W x

/-- One store over a whole block. -/
theorem wholeCover {S : Shape} {e : EltTy} {z : Fin S.rank → ℕ} (hz : z = fun _ => 0) (inb : ∀ a, z a + S.size a ≤ S.size a) (w : S.Idx → Elt Ideal e)
    (y : S.Idx) : ∃ p ∈ ([⟨Rect.unit (s := S) z S.size inb, w⟩] : List (View.Piece (Elt Ideal) S e)), y ∈ p.1.set := by
  refine ⟨_, List.mem_cons_self, (Rect.mem_set_unit (inb := inb)).mpr fun a => ?_⟩
  subst hz
  exact ⟨Nat.zero_le _, by rw [Nat.zero_add]; exact (y a).isLt⟩

/-! ## What each buffer ends at, whatever it held -/

/-- The activation scratch after a row's first column point. -/
theorem readA_x (v : View sig .tc .vmem S512x8192 .bf16) (f : v.ty.Contents (Elt Ideal)) (hc0 : cond0_0 i) (hc1 : cond0_1 i) (hc2 : cond0_2 i) (hc3 : ¬cond0_3 i) (hc4 : ¬cond0_4 i) :
    v.read (Elt Ideal) (v.writes (Elt Ideal) f (runA c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4).2.1) = wideX x0 x1 := by
  rw [runA_x]
  refine read_of_canon v f _ _ (fun y => ?_) (canon_h arg2 harg2 arg3 harg3 x0 x1)
  obtain ⟨k, hk, hy⟩ := hCover arg2 harg2 arg3 harg3 x0 x1 y
  exact ⟨_, mem_lastFirst _ hk, hy⟩
/-- The block of q stored there, -/
theorem readA_q (v : View sig .tc .vmem S512x512 .bf16) (f : v.ty.Contents (Elt Ideal)) (hc0 : cond0_0 i) (hc1 : cond0_1 i) (hc2 : cond0_2 i) (hc3 : ¬cond0_3 i) (hc4 : ¬cond0_4 i) :
    v.read (Elt Ideal) (v.writes (Elt Ideal) f (runA c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4).1)
      = blkQ (wideX x0 x1) (wideW (i 1).val (i 1).isLt x2 x3 x4) := by
  rw [runA_q, xRead_eq, wRead_eq, pay3_eq]
  exact read_of_canon v f _ _ (wholeCover hz2 _ _) (View.canon_unit_zero hz2 _ _)
/-- and at the next three. -/
theorem readB_q (v : View sig .tc .vmem S512x512 .bf16) (f : v.ty.Contents (Elt Ideal)) (hc0 : ¬cond0_0 i) (hc1 : cond0_1 i) (hc2 : cond0_2 i) (hc3 : ¬cond0_3 i) (hc4 : ¬cond0_4 i) :
    v.read (Elt Ideal) (v.writes (Elt Ideal) f (runB c i arg2 harg2 arg3 harg3 arg4 harg4 arg5 harg5 arg6 harg6 arg7 harg7 arg8 harg8 arg9 harg9 arg10 harg10 arg11 harg11 arg12 harg12 arg13 harg13 hc0 hc1 hc2 hc3 hc4 x2 x3 x4 xs0).1)
      = blkQ xs0 (wideW (i 1).val (i 1).isLt x2 x3 x4) := by
  rw [runB_q, xKept_eq, wRead_eq, pay3_eq]
  exact read_of_canon v f _ _ (wholeCover hz2 _ _) (View.canon_unit_zero hz2 _ _)
/-- The block of k, -/
theorem readC_k (v : View sig .tc .vmem S512x256 .bf16) (f : v.ty.Contents (Elt Ideal)) (hc0 : ¬cond0_0 i) (hc1 : cond0_1 i) (hc2 : ¬cond0_2 i) (hc3 : cond0_3 i) (hc4 : ¬cond0_4 i) :
    v.read (Elt Ideal) (v.writes (Elt Ideal) f (runC c i arg2 harg2 arg3 harg3 arg4 harg4 arg5 harg5 arg6 harg6 arg7 harg7 arg8 harg8 arg9 harg9 arg10 harg10 arg11 harg11 arg12 harg12 arg13 harg13 hc0 hc1 hc2 hc3 hc4 x2 x3 x4 xs0).1)
      = blkK xs0 (wideW (i 1).val (i 1).isLt x2 x3 x4) := by
  rw [runC_k, xKept_eq, wRead_eq, pay4_eq]
  exact read_of_canon v f _ _ (wholeCover hz2 _ _) (View.canon_unit_zero hz2 _ _)
/-- and of v. -/
theorem readC_v (v : View sig .tc .vmem S512x256 .bf16) (f : v.ty.Contents (Elt Ideal)) (hc0 : ¬cond0_0 i) (hc1 : cond0_1 i) (hc2 : ¬cond0_2 i) (hc3 : cond0_3 i) (hc4 : ¬cond0_4 i) :
    v.read (Elt Ideal) (v.writes (Elt Ideal) f (runC c i arg2 harg2 arg3 harg3 arg4 harg4 arg5 harg5 arg6 harg6 arg7 harg7 arg8 harg8 arg9 harg9 arg10 harg10 arg11 harg11 arg12 harg12 arg13 harg13 hc0 hc1 hc2 hc3 hc4 x2 x3 x4 xs0).2.1)
      = blkV xs0 (wideW (i 1).val (i 1).isLt x2 x3 x4) := by
  rw [runC_v, xKept_eq, wRead_eq, pay5_eq]
  exact read_of_canon v f _ _ (wholeCover hz2 _ _) (View.canon_unit_zero hz2 _ _)
/-- The two groups' codes, -/
theorem readD_codes (v : View sig .tc .vmem S512x256 .fp8e4m3) (f : v.ty.Contents (Elt Ideal)) (hc0 : ¬cond0_0 i) (hc1 : ¬cond0_1 i) (hc4 : cond0_4 i) :
    v.read (Elt Ideal) (v.writes (Elt Ideal) f (runD c i arg2 harg2 arg3 harg3 arg4 harg4 arg5 harg5 arg6 harg6 arg7 harg7 arg8 harg8 arg9 harg9 arg10 harg10 arg11 harg11 arg12 harg12 arg13 harg13 hc0 hc1 hc4 x2 x3 x4 xs0 x9).1)
      = blkHC xs0 (wideW (i 1).val (i 1).isLt x2 x3 x4) := by
  rw [runD_codes, xKept_eq, wRead_eq]
  exact read_of_canon v f _ _ (codeCover _ _) (canon_codes _ _)
/-- and the scales with theirs put in. -/
theorem readD_scales (v : View sig .tc .vmem S512x56 .f32) (f : v.ty.Contents (Elt Ideal)) (hc0 : ¬cond0_0 i) (hc1 : ¬cond0_1 i) (hc4 : cond0_4 i) (h5 : 5 ≤ (i 1).val) :
    v.read (Elt Ideal) (v.writes (Elt Ideal) f (runD c i arg2 harg2 arg3 harg3 arg4 harg4 arg5 harg5 arg6 harg6 arg7 harg7 arg8 harg8 arg9 harg9 arg10 harg10 arg11 harg11 arg12 harg12 arg13 harg13 hc0 hc1 hc4 x2 x3 x4 xs0 x9).2.1)
      = blkHS xs0 (wideW (i 1).val (i 1).isLt x2 x3 x4) (i 1).val x9 := by
  rw [runD_scales, xKept_eq, wRead_eq, newScales_eq _ _ i h5, View.readAt_eq_ld, harg11.read_unread, View.ld_unit_zero hz2]
  exact read_of_canon v f _ _ (wholeCover hz2 _ _) (View.canon_unit_zero hz2 _ _)
end

end Cert.ProjIdeal.Hand

end
-- ==== Proof.Proj.Ideal.Blocks.lean ====
/- The input projection's blocks are blocks of its results: a row block of the activations and a column point's two blocks
   of the weight, widened and multiplied, are the point's columns of the whole product. -/
module

public import proofs.«01_k».proof.Proof.Proj.Ideal.Closed

@[expose] public section

set_option maxRecDepth 16384

noncomputable section

namespace Cert.ProjIdeal.Hand

open Cert.ProjIdeal Cert.ProjIdeal.Gen Cert.Tiles Cert.Quant Idealize.ShloMosaic Idealize.ShloMosaic.TcCoe Idealize.SL.Sem
open scoped BigOperators

/-- Row `y` of row block `r`. -/
def rowAt (r : ℕ) (hr : r < 16) (y : Fin 512) : Fin 8192 := ⟨512 * r + y.val, by have := y.isLt; omega⟩
/-- The column of the whole product that column `c` of column point `j`'s block is. -/
def colAt (j : ℕ) (hj : j < 33) (c : Fin 512) : Fin 16896 :=
  ⟨if c.val < 256 then 128 * natA j + c.val else 128 * natB j + (c.val - 256), by
    have := c.isLt; unfold natA natB; split <;> split <;> omega⟩

/-- The first window's columns lie inside the weight, -/
theorem natA_le (j : ℕ) (hj : j < 33) : 128 * natA j + 256 ≤ 16896 := by unfold natA; split <;> omega
/-- and so do the second's. -/
theorem natB_le (j : ℕ) (hj : j < 33) : 128 * natB j + 256 ≤ 16896 := by unfold natB; split <;> omega

/-- Row block `r` of the codes of the activations, -/
def rowC (r : ℕ) (hr : r < 16) (a : Vec Ideal S8192x8192 .fp8e4m3) : Vec Ideal S512x8192 .fp8e4m3 := fun y => a (ix2 (rowAt r hr (y 0)) (y 1))
/-- and of their scales. -/
def rowS (r : ℕ) (hr : r < 16) (a : Vec Ideal S8192x64 .f32) : Vec Ideal S512x64 .f32 := fun y => a (ix2 (rowAt r hr (y 0)) (y 1))
/-- The 256 columns of the weight from column `o`. -/
def colW (o : ℕ) (ho : o + 256 ≤ 16896) (a : Vec Ideal S8192x16896 .fp8e4m3) : Vec Ideal S8192x256 .fp8e4m3 :=
  fun y => a (ix2 (y 0) ⟨o + (y 1).val, by have h : (y 1).val < 256 := (y 1).isLt; omega⟩)

section
variable (a0 : Vec Ideal S8192x8192 .fp8e4m3) (a1 : Vec Ideal S8192x64 .f32) (a2 : Vec Ideal S8192x16896 .fp8e4m3) (a3 : Vec Ideal S64x132 .f32)
/-- The widened rows of row block `r`. -/
def xAt (r : ℕ) (hr : r < 16) : Vec Ideal S512x8192 .bf16 := wideX (rowC r hr a0) (rowS r hr a1)

section
variable (j : ℕ) (hj : j < 33)
/-- The widened columns of column point `j`. -/
def wAt : Vec Ideal S8192x512 .bf16 := wideW j hj (colW _ (natA_le j hj) a2) (colW _ (natB_le j hj) a2) a3

/-- A widened weight of the block is the whole weight's, dequantised. -/
theorem wAt_apply (k : Fin 8192) (c : Fin 512) :
    wAt a2 a3 j hj (ix2 k c) = a2 (ix2 k (colAt j hj c))
      * a3 (ix2 ⟨k.val / 128, by have := k.isLt; omega⟩ ⟨(colAt j hj c).val / 128, by have := (colAt j hj c).isLt; omega⟩) := by
  have hc := c.isLt
  by_cases h : c.val < 256
  · refine Eq.trans (dif_pos h) (congrArg₂ (fun a b : EReal => a * b) (congrArg a2 (congrArg (ix2 k) (Fin.ext ?_))) (congrArg a3 (congrArg (ix2 _) (Fin.ext ?_))))
    · show 128 * natA j + c.val = if c.val < 256 then 128 * natA j + c.val else 128 * natB j + (c.val - 256)
      rw [if_pos h]
    · show natA j + c.val / 128 = (if c.val < 256 then 128 * natA j + c.val else 128 * natB j + (c.val - 256)) / 128
      rw [if_pos h]; omega
  · refine Eq.trans (dif_neg h) (congrArg₂ (fun a b : EReal => a * b) (congrArg a2 (congrArg (ix2 k) (Fin.ext ?_))) (congrArg a3 (congrArg (ix2 _) (Fin.ext ?_))))
    · show 128 * natB j + (c.val - 256) = if c.val < 256 then 128 * natA j + c.val else 128 * natB j + (c.val - 256)
      rw [if_neg h]
    · show natB j + (c.val - 256) / 128 = (if c.val < 256 then 128 * natA j + c.val else 128 * natB j + (c.val - 256)) / 128
      rw [if_neg h]; omega

end

variable (r : ℕ) (hr : r < 16) (j : ℕ) (hj : j < 33)

/-- The block's product is its part of the whole product. -/
theorem blkP_eq (y : Fin 512) (c : Fin 512) :
    blkP (xAt a0 a1 r hr) (wAt a2 a3 j hj) y c = projP a0 a1 a2 a3 (rowAt r hr y) (colAt j hj c) := by
  unfold blkP projP
  exact Finset.sum_congr rfl fun k _ => congrArg₂ (fun a b : EReal => a * b) rfl (wAt_apply a2 a3 j hj k c)

/-- A block of q is its block of the query columns. -/
theorem blkQ_eq (h : j ≤ 3) (y : S512x512.Idx) : blkQ (xAt a0 a1 r hr) (wAt a2 a3 j hj) y
    = projQ a0 a1 a2 a3 (ix2 (rowAt r hr (y 0)) ⟨512 * j + (y 1).val, by have h : (y 1).val < 512 := (y 1).isLt; omega⟩) := by
  have h1 : (y 1).val < 512 := (y 1).isLt
  refine (blkP_eq a0 a1 a2 a3 r hr j hj (y 0) (y 1)).trans (congrArg (projP a0 a1 a2 a3 (rowAt r hr (y 0))) (Fin.ext ?_))
  show (if (y 1).val < 256 then 128 * natA j + (y 1).val else 128 * natB j + ((y 1).val - 256)) = 512 * j + (y 1).val
  unfold natA natB; split <;> split <;> omega

/-- The block of k is its rows of the key columns, -/
theorem blkK_eq (h : j = 4) (y : S512x256.Idx) : blkK (xAt a0 a1 r hr) (wAt a2 a3 j hj) y = projK a0 a1 a2 a3 (ix2 (rowAt r hr (y 0)) (y 1)) := by
  have h1 : (y 1).val < 256 := (y 1).isLt
  refine (blkP_eq a0 a1 a2 a3 r hr j hj (y 0) _).trans (congrArg (projP a0 a1 a2 a3 (rowAt r hr (y 0))) (Fin.ext ?_))
  show (if (y 1).val < 256 then 128 * natA j + (y 1).val else 128 * natB j + ((y 1).val - 256)) = 2048 + (y 1).val
  subst h; rw [show natA 4 = 16 from rfl, if_pos h1]

/-- and the block of v of the value columns. -/
theorem blkV_eq (h : j = 4) (y : S512x256.Idx) : blkV (xAt a0 a1 r hr) (wAt a2 a3 j hj) y = projV a0 a1 a2 a3 (ix2 (rowAt r hr (y 0)) (y 1)) := by
  have h1 : (y 1).val < 256 := (y 1).isLt
  refine (blkP_eq a0 a1 a2 a3 r hr j hj (y 0) _).trans (congrArg (projP a0 a1 a2 a3 (rowAt r hr (y 0))) (Fin.ext ?_))
  show (if 256 + (y 1).val < 256 then 128 * natA j + (256 + (y 1).val) else 128 * natB j + (256 + (y 1).val - 256)) = 2304 + (y 1).val
  subst h; rw [show natB 4 = 18 from rfl, if_neg (by omega)]; omega

/-- The gated columns are theirs of the hidden channels, -/
theorem blkH_eq (h : 5 ≤ j) (y : Fin 512) (f : Fin 256) : blkH (xAt a0 a1 r hr) (wAt a2 a3 j hj) y f
    = projH a0 a1 a2 a3 (rowAt r hr y) ⟨256 * (j - 5) + f.val, by have := f.isLt; omega⟩ := by
  have h1 := f.isLt
  unfold blkH projH
  rw [blkP_eq, blkP_eq]
  refine congrArg₂ gated (congrArg (projP a0 a1 a2 a3 (rowAt r hr y)) (Fin.ext ?_)) (congrArg (projP a0 a1 a2 a3 (rowAt r hr y)) (Fin.ext ?_))
  · show (if f.val < 256 then 128 * natA j + f.val else 128 * natB j + (f.val - 256)) = 2560 + (256 * (j - 5) + f.val)
    rw [if_pos h1]; unfold natA; rw [if_neg (by omega)]; omega
  · show (if 256 + f.val < 256 then 128 * natA j + (256 + f.val) else 128 * natB j + (256 + f.val - 256)) = 9728 + (256 * (j - 5) + f.val)
    rw [if_neg (by omega)]; unfold natB; rw [if_neg (by omega)]; omega

/-- the two groups' largest magnitudes are theirs, -/
theorem blkT_eq (h : 5 ≤ j) (y : Fin 512) (b : Fin 2) : blkT (xAt a0 a1 r hr) (wAt a2 a3 j hj) y b
    = projT a0 a1 a2 a3 (rowAt r hr y) ⟨2 * (j - 5) + b.val, by have := b.isLt; omega⟩ := by
  have hb := b.isLt
  unfold blkT projT
  refine congrArg groupT (funext fun k => (blkH_eq a0 a1 a2 a3 r hr j hj h y _).trans (congrArg (projH a0 a1 a2 a3 (rowAt r hr y)) (Fin.ext ?_)))
  show 256 * (j - 5) + (128 * b.val + k.val) = (2 * (j - 5) + b.val) * 128 + k.val
  omega

/-- the codes are their block of the hidden channels' codes, -/
theorem blkHC_eq (h : 5 ≤ j) (y : S512x256.Idx) : blkHC (xAt a0 a1 r hr) (wAt a2 a3 j hj) y
    = projHC a0 a1 a2 a3 (ix2 (rowAt r hr (y 0)) ⟨256 * (j - 5) + (y 1).val, by have h : (y 1).val < 256 := (y 1).isLt; omega⟩) := by
  have h1 : (y 1).val < 256 := (y 1).isLt
  unfold blkHC projHC
  refine congrArg clip (congrArg₂ (fun a b : EReal => a * b) (blkH_eq a0 a1 a2 a3 r hr j hj h (y 0) (y 1))
    (congrArg kinv ((blkT_eq a0 a1 a2 a3 r hr j hj h (y 0) _).trans (congrArg (projT a0 a1 a2 a3 (rowAt r hr (y 0))) (Fin.ext ?_)))))
  show 2 * (j - 5) + (y 1).val / 128 = (256 * (j - 5) + (y 1).val) / 128
  omega

/-- and the scales put in make two more lanes of the hidden channels' scales. -/
theorem blkHS_eq (h : 5 ≤ j) (S : Vec Ideal S512x56 .f32)
    (hS : ∀ y : S512x56.Idx, (y 1).val < 2 * (j - 5) → S y = projHS a0 a1 a2 a3 (ix2 (rowAt r hr (y 0)) (y 1)))
    (y : S512x56.Idx) (hy : (y 1).val < 2 * (j - 4)) :
    blkHS (xAt a0 a1 r hr) (wAt a2 a3 j hj) j S y = projHS a0 a1 a2 a3 (ix2 (rowAt r hr (y 0)) (y 1)) := by
  unfold blkHS
  by_cases e1 : (y 1).val = 2 * (j - 5) + 1
  · rw [if_pos e1]
    exact congrArg kscale ((blkT_eq a0 a1 a2 a3 r hr j hj h (y 0) 1).trans (congrArg (projT a0 a1 a2 a3 (rowAt r hr (y 0))) (Fin.ext e1.symm)))
  · by_cases e0 : (y 1).val = 2 * (j - 5)
    · rw [if_neg e1, if_pos e0]
      exact congrArg kscale ((blkT_eq a0 a1 a2 a3 r hr j hj h (y 0) 0).trans (congrArg (projT a0 a1 a2 a3 (rowAt r hr (y 0))) (Fin.ext e0.symm)))
    · rw [if_neg e1, if_neg e0]
      exact hS y (by omega)
end

/-! ## The windows' blocks -/

/-- The windows' block numbers: rows follow the point's first coordinate; the weight's columns, the query's and the codes'
    follow the second. -/
theorem win_idx : ∀ t : Fin cfg0.N, win0_0.index t = ![t.val / 33, 0] ∧ win0_1.index t = ![t.val / 33, 0]
    ∧ win0_2.index t = ![0, natA (t.val % 33) / 2] ∧ win0_3.index t = ![0, natB (t.val % 33) / 2] ∧ win0_4.index t = ![0, 0] :=
  (by decide +kernel : ∀ t : Fin grid0.N, _)

/-- Both scale columns of a point are even: its weight blocks are whole ones. -/
theorem nat_even (j : ℕ) : natA j / 2 * 256 = 128 * natA j ∧ natB j / 2 * 256 = 128 * natB j := by
  unfold natA natB; split <;> omega

/-- There are 528 points: 16 row blocks of 33 column points. -/
theorem t_lt (t : Fin cfg0.N) : t.val < 528 := lt_of_lt_of_eq t.isLt N_0
theorem t_div (t : Fin cfg0.N) : t.val / 33 < 16 := by have := t_lt t; omega
theorem t_mod (t : Fin cfg0.N) : t.val % 33 < 33 := Nat.mod_lt _ (by decide)

/-- A point's second grid coordinate. -/
theorem coord1 (t : Fin cfg0.N) : (grid0.coords t 1).val = t.val % 33 :=
  (Pipeline.Grid.coords_val (S := 1) (B := 33) t 1 (by decide) rfl).trans (by rw [Nat.div_one])

variable (m : (ℓ : Loc nD τ sig) → Buf (Elt Ideal) ℓ)

theorem iblk0_eq (c : Dev nD) (t : Fin cfg0.N) : iblk m c 0 t = rowC (t.val / 33) (t_div t) (m ((c : Thread nD τ).loc main_arg0)) := by
  funext y
  have e := (win_idx t).1
  show V m c (Pipeline.arrRef spec0 0) _ = _
  rw [show V m c (Pipeline.arrRef spec0 0) = _ from V_main_arg0 m c]
  refine congrArg _ (funext fun a => Fin.ext ?_)
  match a with
  | ⟨0, _⟩ => show win0_0.index t 0 * 512 + 1 * (y 0).val = 512 * (t.val / 33) + (y 0).val; rw [e]; show t.val / 33 * 512 + _ = _; omega
  | ⟨1, _⟩ => show win0_0.index t 1 * 8192 + 1 * (y 1).val = (y 1).val; rw [e]; show 0 * 8192 + _ = _; omega

theorem iblk1_eq (c : Dev nD) (t : Fin cfg0.N) : iblk m c 1 t = rowS (t.val / 33) (t_div t) (m ((c : Thread nD τ).loc main_arg1)) := by
  funext y
  have e := (win_idx t).2.1
  show V m c (Pipeline.arrRef spec0 1) _ = _
  rw [show V m c (Pipeline.arrRef spec0 1) = _ from V_main_arg1 m c]
  refine congrArg _ (funext fun a => Fin.ext ?_)
  match a with
  | ⟨0, _⟩ => show win0_1.index t 0 * 512 + 1 * (y 0).val = 512 * (t.val / 33) + (y 0).val; rw [e]; show t.val / 33 * 512 + _ = _; omega
  | ⟨1, _⟩ => show win0_1.index t 1 * 64 + 1 * (y 1).val = (y 1).val; rw [e]; show 0 * 64 + _ = _; omega

theorem iblk2_eq (c : Dev nD) (t : Fin cfg0.N) : iblk m c 2 t = colW _ (natA_le (t.val % 33) (t_mod t)) (m ((c : Thread nD τ).loc main_arg2)) := by
  funext y
  have e := (win_idx t).2.2.1
  have ev := (nat_even (t.val % 33)).1
  show V m c (Pipeline.arrRef spec0 2) _ = _
  rw [show V m c (Pipeline.arrRef spec0 2) = _ from V_main_arg2 m c]
  refine congrArg _ (funext fun a => Fin.ext ?_)
  match a with
  | ⟨0, _⟩ => show win0_2.index t 0 * 8192 + 1 * (y 0).val = (y 0).val; rw [show win0_2.index t 0 = 0 from congrFun e 0, Nat.zero_mul, Nat.zero_add, Nat.one_mul]
  | ⟨1, _⟩ => show win0_2.index t 1 * 256 + 1 * (y 1).val = 128 * natA (t.val % 33) + (y 1).val; rw [e]; show natA (t.val % 33) / 2 * 256 + _ = _; omega

theorem iblk3_eq (c : Dev nD) (t : Fin cfg0.N) : iblk m c 3 t = colW _ (natB_le (t.val % 33) (t_mod t)) (m ((c : Thread nD τ).loc main_arg2)) := by
  funext y
  have e := (win_idx t).2.2.2.1
  have ev := (nat_even (t.val % 33)).2
  show V m c (Pipeline.arrRef spec0 3) _ = _
  rw [show V m c (Pipeline.arrRef spec0 3) = _ from V_main_arg2 m c]
  refine congrArg _ (funext fun a => Fin.ext ?_)
  match a with
  | ⟨0, _⟩ => show win0_3.index t 0 * 8192 + 1 * (y 0).val = (y 0).val; rw [show win0_3.index t 0 = 0 from congrFun e 0, Nat.zero_mul, Nat.zero_add, Nat.one_mul]
  | ⟨1, _⟩ => show win0_3.index t 1 * 256 + 1 * (y 1).val = 128 * natB (t.val % 33) + (y 1).val; rw [e]; show natB (t.val % 33) / 2 * 256 + _ = _; omega

theorem iblk4_eq (c : Dev nD) (t : Fin cfg0.N) : iblk m c 4 t = m ((c : Thread nD τ).loc main_arg3) := by
  funext y
  have e := (win_idx t).2.2.2.2
  show V m c (Pipeline.arrRef spec0 4) _ = _
  rw [show V m c (Pipeline.arrRef spec0 4) = _ from V_main_arg3 m c]
  refine congrArg _ (funext fun a => Fin.ext ?_)
  match a with
  | ⟨0, _⟩ => show win0_4.index t 0 * 64 + 1 * (y 0).val = (y 0).val; rw [e]; show 0 * 64 + _ = _; omega
  | ⟨1, _⟩ => show win0_4.index t 1 * 132 + 1 * (y 1).val = (y 1).val; rw [e]; show 0 * 132 + _ = _; omega

/-- The rows a point widens are its row block's, -/
theorem wideX_eq (c : Dev nD) (t : Fin cfg0.N) : wideX (iblk m c 0 t) (iblk m c 1 t)
    = xAt (m ((c : Thread nD τ).loc main_arg0)) (m ((c : Thread nD τ).loc main_arg1)) (t.val / 33) (t_div t) := by
  rw [iblk0_eq, iblk1_eq]; rfl

/-- The same column point named twice. -/
theorem wideW_congr {j j' : ℕ} (e : j = j') (hj : j < 33) (hj' : j' < 33) (x2 x3 : Vec Ideal S8192x256 .fp8e4m3) (x4 : Vec Ideal S64x132 .f32) :
    wideW j hj x2 x3 x4 = wideW j' hj' x2 x3 x4 := by subst e; rfl

/-- and the weights its column point's. -/
theorem wideW_eq (c : Dev nD) (t : Fin cfg0.N) : wideW (grid0.coords t 1).val (grid0.coords t 1).isLt (iblk m c 2 t) (iblk m c 3 t) (iblk m c 4 t)
    = wAt (m ((c : Thread nD τ).loc main_arg2)) (m ((c : Thread nD τ).loc main_arg3)) (t.val % 33) (t_mod t) := by
  refine (wideW_congr (coord1 t) _ (t_mod t) _ _ _).trans ?_
  rw [iblk2_eq, iblk3_eq, iblk4_eq]; rfl

end Cert.ProjIdeal.Hand

end
-- ==== Proof.Proj.Ideal.Body.lean ====
/- The input projection's body at every grid point: what each result's buffer holds after it, in the whole product's terms,
   from what the point before left there. -/
module

public import proofs.«01_k».proof.Proof.Proj.Ideal.Blocks
public import Idealize.ShloMosaic.Lib.Pipeline.DatRel
public import Idealize.ShloMosaic.Lib.Pipeline.ArrRel

@[expose] public section

set_option maxRecDepth 16384

noncomputable section

namespace Cert.ProjIdeal.Hand

open Cert.ProjIdeal Cert.ProjIdeal.Gen Cert.Tiles Cert.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat cellOf)

local notation "𝕄" => MT nD τ sig Unit (Elt Ideal) ℕ (UR sig nD τ) ℕ

variable (m : (ℓ : Loc nD τ sig) → Buf (Elt Ideal) ℓ) (ρ : Dev nD → PrngReg)

/-! ## What the buffers hold -/

/-- The four arguments of a core. -/
abbrev A0 (c : Dev nD) : Vec Ideal S8192x8192 .fp8e4m3 := m ((c : Thread nD τ).loc main_arg0)
abbrev A1 (c : Dev nD) : Vec Ideal S8192x64 .f32 := m ((c : Thread nD τ).loc main_arg1)
abbrev A2 (c : Dev nD) : Vec Ideal S8192x16896 .fp8e4m3 := m ((c : Thread nD τ).loc main_arg2)
abbrev A3 (c : Dev nD) : Vec Ideal S64x132 .f32 := m ((c : Thread nD τ).loc main_arg3)

/-- The buffer of q after point `t`: the rows of its row block, and the last query block no later than its column point. -/
def isQ (c : Dev nD) (t : Fin cfg0.N) (X : Vec Ideal S512x512 .bf16) : Prop :=
  ∀ (y : S512x512.Idx) (r : Fin 8192) (q : Fin 2048), r.val = 512 * (t.val / 33) + (y 0).val → q.val = 512 * min (t.val % 33) 3 + (y 1).val →
    X y = projQ (A0 m c) (A1 m c) (A2 m c) (A3 m c) (ix2 r q)
/-- The buffer of k, from the fifth column point on, -/
def isK (c : Dev nD) (t : Fin cfg0.N) (X : Vec Ideal S512x256 .bf16) : Prop :=
  4 ≤ t.val % 33 → ∀ (y : S512x256.Idx) (r : Fin 8192) (q : Fin 256), r.val = 512 * (t.val / 33) + (y 0).val → q.val = (y 1).val →
    X y = projK (A0 m c) (A1 m c) (A2 m c) (A3 m c) (ix2 r q)
/-- and of v. -/
def isV (c : Dev nD) (t : Fin cfg0.N) (X : Vec Ideal S512x256 .bf16) : Prop :=
  4 ≤ t.val % 33 → ∀ (y : S512x256.Idx) (r : Fin 8192) (q : Fin 256), r.val = 512 * (t.val / 33) + (y 0).val → q.val = (y 1).val →
    X y = projV (A0 m c) (A1 m c) (A2 m c) (A3 m c) (ix2 r q)
/-- The buffer of the hidden codes, from the sixth column point on: that point's 256 channels. -/
def isHC (c : Dev nD) (t : Fin cfg0.N) (X : Vec Ideal S512x256 .fp8e4m3) : Prop :=
  5 ≤ t.val % 33 → ∀ (y : S512x256.Idx) (r : Fin 8192) (q : Fin 7168), r.val = 512 * (t.val / 33) + (y 0).val →
    q.val = 256 * (t.val % 33 - 5) + (y 1).val → X y = projHC (A0 m c) (A1 m c) (A2 m c) (A3 m c) (ix2 r q)
/-- The buffer of the hidden scales: the lanes of the points done. -/
def isHS (c : Dev nD) (t : Fin cfg0.N) (X : Vec Ideal S512x56 .f32) : Prop :=
  5 ≤ t.val % 33 → ∀ (y : S512x56.Idx) (r : Fin 8192) (q : Fin 56), r.val = 512 * (t.val / 33) + (y 0).val → q.val = (y 1).val →
    (y 1).val < 2 * (t.val % 33 - 4) → X y = projHS (A0 m c) (A1 m c) (A2 m c) (A3 m c) (ix2 r q)
/-- The activation scratch between points: inside a row block, its widened rows. -/
def Carried (c : Dev nD) (n : ℕ) (X : Vec Ideal S512x8192 .bf16) : Prop :=
  ∀ hr : n / 33 < 16, n % 33 ≠ 0 → X = xAt (A0 m c) (A1 m c) (n / 33) hr

/-- Equal indices. -/
theorem ix2_congr {a b : ℕ} {r r' : Fin a} {q q' : Fin b} (hr : r.val = r'.val) (hq : q.val = q'.val) : ix2 r q = ix2 r' q' := by
  obtain rfl := Fin.ext hr; obtain rfl := Fin.ext hq; rfl

/-- The same row block named twice. -/
theorem xAt_congr (a0 : Vec Ideal S8192x8192 .fp8e4m3) (a1 : Vec Ideal S8192x64 .f32) {r r' : ℕ} (e : r = r') (hr : r < 16) (hr' : r' < 16) :
    xAt a0 a1 r hr = xAt a0 a1 r' hr' := by subst e; rfl

/-- A point leaves its row block's widened rows to the next. -/
theorem carried_next (c : Dev nD) (t : Fin cfg0.N) : Carried m c (t.val + 1) (xAt (A0 m c) (A1 m c) (t.val / 33) (t_div t)) :=
  fun hr h0 => xAt_congr _ _ (by omega) _ _

/-- The first four column points' block is their block of q, -/
theorem put_Q (c : Dev nD) (t : Fin cfg0.N) (h : t.val % 33 ≤ 3) :
    isQ m c t (blkQ (xAt (A0 m c) (A1 m c) (t.val / 33) (t_div t)) (wAt (A2 m c) (A3 m c) (t.val % 33) (t_mod t))) := by
  intro y r q hr hq
  have e : min (t.val % 33) 3 = t.val % 33 := Nat.min_eq_left h
  rw [e] at hq
  exact (blkQ_eq _ _ _ _ _ _ _ _ h y).trans (congrArg _ (ix2_congr hr.symm hq.symm))
/-- the fifth's its block of k -/
theorem put_K (c : Dev nD) (t : Fin cfg0.N) (h : t.val % 33 = 4) :
    isK m c t (blkK (xAt (A0 m c) (A1 m c) (t.val / 33) (t_div t)) (wAt (A2 m c) (A3 m c) (t.val % 33) (t_mod t))) :=
  fun _ y r q hr hq => (blkK_eq _ _ _ _ _ _ _ _ h y).trans (congrArg _ (ix2_congr hr.symm hq.symm))
/-- and of v, -/
theorem put_V (c : Dev nD) (t : Fin cfg0.N) (h : t.val % 33 = 4) :
    isV m c t (blkV (xAt (A0 m c) (A1 m c) (t.val / 33) (t_div t)) (wAt (A2 m c) (A3 m c) (t.val % 33) (t_mod t))) :=
  fun _ y r q hr hq => (blkV_eq _ _ _ _ _ _ _ _ h y).trans (congrArg _ (ix2_congr hr.symm hq.symm))
/-- and the others' their channels' codes -/
theorem put_HC (c : Dev nD) (t : Fin cfg0.N) :
    isHC m c t (blkHC (xAt (A0 m c) (A1 m c) (t.val / 33) (t_div t)) (wAt (A2 m c) (A3 m c) (t.val % 33) (t_mod t))) :=
  fun h y r q hr hq => (blkHC_eq _ _ _ _ _ _ _ _ h y).trans (congrArg _ (ix2_congr hr.symm hq.symm))
/-- and scales, put into those that were there. -/
theorem put_HS (c : Dev nD) (t : Fin cfg0.N) (h : 5 ≤ t.val % 33) (S : Vec Ideal S512x56 .f32)
    (hS : ∀ (y : S512x56.Idx) (r : Fin 8192) (q : Fin 56), r.val = 512 * (t.val / 33) + (y 0).val → q.val = (y 1).val →
      (y 1).val < 2 * (t.val % 33 - 5) → S y = projHS (A0 m c) (A1 m c) (A2 m c) (A3 m c) (ix2 r q)) :
    isHS m c t (blkHS (xAt (A0 m c) (A1 m c) (t.val / 33) (t_div t)) (wAt (A2 m c) (A3 m c) (t.val % 33) (t_mod t)) (t.val % 33) S) :=
  fun _ y r q hr hq hy => (blkHS_eq _ _ _ _ _ (t_div t) _ (t_mod t) h S (fun y hy => hS y _ _ rfl rfl hy) y hy).trans
    (congrArg _ (ix2_congr hr.symm hq.symm))

/-! ## The proof data -/

/-- The results' windows: what is said of them is said by a property, not by naming their contents. -/
def held : Fin 10 → Bool := fun w => w.val == 5 || w.val == 6 || w.val == 7 || w.val == 8 || w.val == 9

/-- What the body leaves in a result's buffer. -/
def Leaves (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => isQ m c t
  | ⟨6, _⟩ => isK m c t
  | ⟨7, _⟩ => isV m c t
  | ⟨8, _⟩ => isHC m c t
  | ⟨9, _⟩ => isHS m c t

/-- Between points: the activation scratch as carried, the weight scratch and the generator's register at anything. -/
def PhiAt (c : Dev nD) (n : ℕ) : sProp 𝕄 :=
  iprop(((∃ X, ⌜Carried m c n X⌝ ∗ owns (c : Thread nD τ) scM0_0 fullShare X) ∗ (∃ d, owns (c : Thread nD τ) scM0_1 fullShare d)) ∗ (∃ r, prngReg c r))

/-- The proof data on core `c`: the arrays as the pipeline finds them, each input's buffer at its block after every point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiAt m c t.val
  q w := Pipeline.shareOf spec0 w
  owed _ := 0

/-- Its relational reading: the results' windows held to `Leaves`. -/
abbrev rdat (c : Dev nD) : RDat τ (Elt Ideal) Unit ℕ (UR sig nD τ) ℕ cfg0 c := (dats m 0 c).toRRel held (Leaves m c)

/-- Its arrays are the pipeline's. -/
theorem A_eq (c : Dev nD) (w : Fin cfg0.W) : (dats m 0 c).A w = V m c (Pipeline.arrRef spec0 w) := by dsimp only [dats]

/-- What the body leaves in each input's buffer: its block, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- which it found there. -/
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- The buffers of q and of the hidden codes are not written back where their block goes on, -/
theorem noflush5 : ∀ t : Fin cfg0.N, 3 ≤ t.val % 33 → t.val % 33 ≠ 32 → (cfg0.win 5).flush t = false := (by decide +kernel : ∀ t : Fin grid0.N, _)
/-- and the others' not inside a row block. -/
theorem noflush6 : ∀ t : Fin cfg0.N, t.val % 33 ≠ 32 → (cfg0.win 6).flush t = false := (by decide +kernel : ∀ t : Fin grid0.N, _)
theorem noflush7 : ∀ t : Fin cfg0.N, t.val % 33 ≠ 32 → (cfg0.win 7).flush t = false := (by decide +kernel : ∀ t : Fin grid0.N, _)
theorem noflush9 : ∀ t : Fin cfg0.N, t.val % 33 ≠ 32 → (cfg0.win 9).flush t = false := (by decide +kernel : ∀ t : Fin grid0.N, _)

/-- A result's buffer not written back holds what the point before left. -/
theorem kept (c : Dev nD) (w : Fin cfg0.W) (hw : held w = true) (ho : (cfg0.win w).isOut = true) (t : Fin cfg0.N) (ht : t.val ≠ 0)
    (hf : (cfg0.win w).flush ⟨t.val - 1, Nat.lt_of_le_of_lt (Nat.sub_le _ _) t.isLt⟩ = false) {Y : (cfg0.win w).block.Idx → Elt Ideal (cfg0.win w).elt}
    (h : (rdat m c).Finds w t Y) : Leaves m c w ⟨t.val - 1, Nat.lt_of_le_of_lt (Nat.sub_le _ _) t.isLt⟩ Y := by
  rcases ((rdat m c).finds_of_pos (Window.fetch_out _ ho t) ht Y).mp h with h1 | h1
  · rw [hf] at h1; exact absurd h1 (by decide)
  · exact (dats m 0 c).toRRel_leaves hw h1

/-- So the buffer of q goes on after its last block, -/
theorem keep_Q (c : Dev nD) (t : Fin cfg0.N) (h : 4 ≤ t.val % 33) {Y : Vec Ideal S512x512 .bf16} (hF : (rdat m c).Finds 5 t Y) : isQ m c t Y := by
  have h1 : isQ m c ⟨t.val - 1, _⟩ Y := kept m c 5 rfl rfl t (by omega)
    (noflush5 _ (by show 3 ≤ (t.val - 1) % 33; omega) (by show (t.val - 1) % 33 ≠ 32; omega)) hF
  intro y r q hr hq
  refine h1 y r q ?_ ?_
  · show r.val = 512 * ((t.val - 1) / 33) + (y 0).val; omega
  · show q.val = 512 * min ((t.val - 1) % 33) 3 + (y 1).val; omega
/-- that of k -/
theorem keep_K (c : Dev nD) (t : Fin cfg0.N) (h : t.val % 33 ≠ 4) {Y : Vec Ideal S512x256 .bf16} (hF : (rdat m c).Finds 6 t Y) : isK m c t Y := by
  intro h4 y r q hr hq
  have h1 : isK m c ⟨t.val - 1, _⟩ Y := kept m c 6 rfl rfl t (by omega) (noflush6 _ (by show (t.val - 1) % 33 ≠ 32; omega)) hF
  refine h1 ?_ y r q ?_ hq
  · show 4 ≤ (t.val - 1) % 33; omega
  · show r.val = 512 * ((t.val - 1) / 33) + (y 0).val; omega
/-- and of v too, -/
theorem keep_V (c : Dev nD) (t : Fin cfg0.N) (h : t.val % 33 ≠ 4) {Y : Vec Ideal S512x256 .bf16} (hF : (rdat m c).Finds 7 t Y) : isV m c t Y := by
  intro h4 y r q hr hq
  have h1 : isV m c ⟨t.val - 1, _⟩ Y := kept m c 7 rfl rfl t (by omega) (noflush7 _ (by show (t.val - 1) % 33 ≠ 32; omega)) hF
  refine h1 ?_ y r q ?_ hq
  · show 4 ≤ (t.val - 1) % 33; omega
  · show r.val = 512 * ((t.val - 1) / 33) + (y 0).val; omega
/-- and the scales' lanes of the points done are still there. -/
theorem keep_HS (c : Dev nD) (t : Fin cfg0.N) (h : 5 ≤ t.val % 33) {Y : Vec Ideal S512x56 .f32} (hF : (rdat m c).Finds 9 t Y)
    (y : S512x56.Idx) (r : Fin 8192) (q : Fin 56) (hr : r.val = 512 * (t.val / 33) + (y 0).val) (hq : q.val = (y 1).val)
    (hy : (y 1).val < 2 * (t.val % 33 - 5)) : Y y = projHS (A0 m c) (A1 m c) (A2 m c) (A3 m c) (ix2 r q) := by
  have h1 : isHS m c ⟨t.val - 1, _⟩ Y := kept m c 9 rfl rfl t (by omega) (noflush9 _ (by show (t.val - 1) % 33 ≠ 32; omega)) hF
  refine h1 ?_ y r q ?_ hq ?_
  · show 5 ≤ (t.val - 1) % 33; omega
  · show r.val = 512 * ((t.val - 1) / 33) + (y 0).val; omega
  · show (y 1).val < 2 * ((t.val - 1) % 33 - 4); omega

/-! ## The body, case by case -/

/-- What the body is called with at point `t`, beside what it never touches, -/
def pre (c : Dev nD) (t : Fin cfg0.N) (R : sProp 𝕄) : sProp 𝕄 :=
  iprop(PhiAt m c t.val ∗ R
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y))

/-- and what it returns. -/
def post (c : Dev nD) (t : Fin cfg0.N) (R : sProp 𝕄) : sProp 𝕄 :=
  iprop(PhiAt m c (t.val + 1) ∗ R
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (∃ X, ⌜isQ m c t X⌝ ∗ owns (c : Thread nD τ) (ms0_5 t) fullShare X)
    ∗ (∃ X, ⌜isK m c t X⌝ ∗ owns (c : Thread nD τ) (ms0_6 t) fullShare X)
    ∗ (∃ X, ⌜isV m c t X⌝ ∗ owns (c : Thread nD τ) (ms0_7 t) fullShare X)
    ∗ (∃ X, ⌜isHC m c t X⌝ ∗ owns (c : Thread nD τ) (ms0_8 t) fullShare X)
    ∗ (∃ X, ⌜isHS m c t X⌝ ∗ owns (c : Thread nD τ) (ms0_9 t) fullShare X))

set_option maxHeartbeats 4800000 in
/-- A row block's first column point widens its rows, and stores their first block of q. -/
theorem sound_A (c : Dev nD) (t : Fin cfg0.N) (R : sProp 𝕄) (h0 : t.val % 33 = 0) :
    pre m c t R ⊢ wp frame (wpE (defs₀ (F := Ideal)) Variants.none c none) Set.univ (bodyAt0 t) (fun _ => post m c t R) := by
  unfold pre post bodyAt0 PhiAt
  iintro ⟨⟨⟨⟨%X, %hX, HX⟩, HW⟩, Hg⟩, HR, H0, H1, H2, H3, H4, ⟨%Y5, %hY5, H5⟩, ⟨%Y6, %hY6, H6⟩, ⟨%Y7, %hY7, H7⟩, ⟨%Y8, %hY8, H8⟩, ⟨%Y9, %hY9, H9⟩⟩
  iapply ((runA c (grid0.coords t) _ _ _ _ _ _ _ _ _ _ _ _ _ _ _ _ _ _ _ _ _ _ _ _ ((hcond0_0 t).mpr h0) ((hcond0_1 t).mpr (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HX]; · iexists _; iexact HX
  isplitl [HW]; · iexact HW
  iintro ⟨H0, H1, H2, H3, H4, ⟨%f5, H5⟩, ⟨%fX, HX⟩, HW⟩
  isplitl [HX HW Hg]
  · isplitl [HX HW]
    · isplitl [HX]
      · iexists (xAt (A0 m c) (A1 m c) (t.val / 33) (t_div t)); isplitr; · ipureintro; exact carried_next m c t
        unfold owns; iexists _; isplitr; swap; · iexact HX
        ipureintro; exact (readA_x ..).trans (wideX_eq m c t)
      iexact HW
    iexact Hg
  isplitl [HR]; · iexact HR
  isplitl [H0]; · iexact H0
  isplitl [H1]; · iexact H1
  isplitl [H2]; · iexact H2
  isplitl [H3]; · iexact H3
  isplitl [H4]; · iexact H4
  isplitl [H5]
  · iexists (blkQ (xAt (A0 m c) (A1 m c) (t.val / 33) (t_div t)) (wAt (A2 m c) (A3 m c) (t.val % 33) (t_mod t))); isplitr; · ipureintro; exact put_Q m c t (by omega)
    unfold owns; iexists _; isplitr; swap; · iexact H5
    ipureintro; exact (readA_q ..).trans (congrArg₂ blkQ (wideX_eq m c t) (wideW_eq m c t))
  isplitl [H6]
  · iexists Y6; isplitr; · ipureintro; exact keep_K m c t (by omega) hY6
    iexact H6
  isplitl [H7]
  · iexists Y7; isplitr; · ipureintro; exact keep_V m c t (by omega) hY7
    iexact H7
  isplitl [H8]
  · iexists Y8; isplitr; · ipureintro; exact fun h => absurd h (by omega)
    iexact H8
  iexists Y9; isplitr; · ipureintro; exact fun h => absurd h (by omega)
  iexact H9

set_option maxHeartbeats 4800000 in
/-- The next three store the next blocks of q. -/
theorem sound_B (c : Dev nD) (t : Fin cfg0.N) (R : sProp 𝕄) (h0 : t.val % 33 ≠ 0) (h3 : t.val % 33 ≤ 3) :
    pre m c t R ⊢ wp frame (wpE (defs₀ (F := Ideal)) Variants.none c none) Set.univ (bodyAt0 t) (fun _ => post m c t R) := by
  unfold pre post bodyAt0 PhiAt
  iintro ⟨⟨⟨⟨%X, %hX, HX⟩, HW⟩, Hg⟩, HR, H0, H1, H2, H3, H4, ⟨%Y5, %hY5, H5⟩, ⟨%Y6, %hY6, H6⟩, ⟨%Y7, %hY7, H7⟩, ⟨%Y8, %hY8, H8⟩, ⟨%Y9, %hY9, H9⟩⟩
  obtain rfl := hX (t_div t) h0
  iapply ((runB c (grid0.coords t) _ _ _ _ _ _ _ _ _ _ _ _ _ _ _ _ _ _ _ _ _ _ _ _ (fun h => h0 ((hcond0_0 t).mp h)) ((hcond0_1 t).mpr (by omega)) ((hcond0_2 t).mpr h3) (fun h => absurd ((hcond0_3 t).mp h) (by omega)) (fun h => absurd ((hcond0_4 t).mp h) (by omega)) (iblk m c 2 t) (iblk m c 3 t) (iblk m c 4 t) _).2 Set.univ _)
  isplitl [H2]; · iexact H2
  isplitl [H3]; · iexact H3
  isplitl [H4]; · iexact H4
  isplitl [HX]; · iexact HX
  isplitl [H5]; · iexists _; iexact H5
  isplitl [HW]; · iexact HW
  iintro ⟨H2, H3, H4, HX, ⟨%f5, H5⟩, HW⟩
  isplitl [HX HW Hg]
  · isplitl [HX HW]
    · isplitl [HX]
      · iexists (xAt (A0 m c) (A1 m c) (t.val / 33) (t_div t)); isplitr; · ipureintro; exact carried_next m c t
        iexact HX
      iexact HW
    iexact Hg
  isplitl [HR]; · iexact HR
  isplitl [H0]; · iexact H0
  isplitl [H1]; · iexact H1
  isplitl [H2]; · iexact H2
  isplitl [H3]; · iexact H3
  isplitl [H4]; · iexact H4
  isplitl [H5]
  · iexists (blkQ (xAt (A0 m c) (A1 m c) (t.val / 33) (t_div t)) (wAt (A2 m c) (A3 m c) (t.val % 33) (t_mod t))); isplitr; · ipureintro; exact put_Q m c t h3
    unfold owns; iexists _; isplitr; swap; · iexact H5
    ipureintro; exact (readB_q ..).trans (congrArg (blkQ _) (wideW_eq m c t))
  isplitl [H6]
  · iexists Y6; isplitr; · ipureintro; exact keep_K m c t (by omega) hY6
    iexact H6
  isplitl [H7]
  · iexists Y7; isplitr; · ipureintro; exact keep_V m c t (by omega) hY7
    iexact H7
  isplitl [H8]
  · iexists Y8; isplitr; · ipureintro; exact fun h => absurd h (by omega)
    iexact H8
  iexists Y9; isplitr; · ipureintro; exact fun h => absurd h (by omega)
  iexact H9

set_option maxHeartbeats 4800000 in
/-- The fifth stores the blocks of k and v. -/
theorem sound_C (c : Dev nD) (t : Fin cfg0.N) (R : sProp 𝕄) (h0 : t.val % 33 ≠ 0) (h4 : t.val % 33 = 4) :
    pre m c t R ⊢ wp frame (wpE (defs₀ (F := Ideal)) Variants.none c none) Set.univ (bodyAt0 t) (fun _ => post m c t R) := by
  unfold pre post bodyAt0 PhiAt
  iintro ⟨⟨⟨⟨%X, %hX, HX⟩, HW⟩, Hg⟩, HR, H0, H1, H2, H3, H4, ⟨%Y5, %hY5, H5⟩, ⟨%Y6, %hY6, H6⟩, ⟨%Y7, %hY7, H7⟩, ⟨%Y8, %hY8, H8⟩, ⟨%Y9, %hY9, H9⟩⟩
  obtain rfl := hX (t_div t) h0
  iapply ((runC c (grid0.coords t) _ _ _ _ _ _ _ _ _ _ _ _ _ _ _ _ _ _ _ _ _ _ _ _ (fun h => h0 ((hcond0_0 t).mp h)) ((hcond0_1 t).mpr (by omega)) (fun h => absurd ((hcond0_2 t).mp h) (by omega)) ((hcond0_3 t).mpr h4) (fun h => absurd ((hcond0_4 t).mp h) (by omega)) (iblk m c 2 t) (iblk m c 3 t) (iblk m c 4 t) _).2.2 Set.univ _)
  isplitl [H2]; · iexact H2
  isplitl [H3]; · iexact H3
  isplitl [H4]; · iexact H4
  isplitl [HX]; · iexact HX
  isplitl [H6]; · iexists _; iexact H6
  isplitl [H7]; · iexists _; iexact H7
  isplitl [HW]; · iexact HW
  iintro ⟨H2, H3, H4, HX, ⟨%f6, H6⟩, ⟨%f7, H7⟩, HW⟩
  isplitl [HX HW Hg]
  · isplitl [HX HW]
    · isplitl [HX]
      · iexists (xAt (A0 m c) (A1 m c) (t.val / 33) (t_div t)); isplitr; · ipureintro; exact carried_next m c t
        iexact HX
      iexact HW
    iexact Hg
  isplitl [HR]; · iexact HR
  isplitl [H0]; · iexact H0
  isplitl [H1]; · iexact H1
  isplitl [H2]; · iexact H2
  isplitl [H3]; · iexact H3
  isplitl [H4]; · iexact H4
  isplitl [H5]
  · iexists Y5; isplitr; · ipureintro; exact keep_Q m c t (by omega) hY5
    iexact H5
  isplitl [H6]
  · iexists (blkK (xAt (A0 m c) (A1 m c) (t.val / 33) (t_div t)) (wAt (A2 m c) (A3 m c) (t.val % 33) (t_mod t))); isplitr; · ipureintro; exact put_K m c t h4
    unfold owns; iexists _; isplitr; swap; · iexact H6
    ipureintro; exact (readC_k ..).trans (congrArg (blkK _) (wideW_eq m c t))
  isplitl [H7]
  · iexists (blkV (xAt (A0 m c) (A1 m c) (t.val / 33) (t_div t)) (wAt (A2 m c) (A3 m c) (t.val % 33) (t_mod t))); isplitr; · ipureintro; exact put_V m c t h4
    unfold owns; iexists _; isplitr; swap; · iexact H7
    ipureintro; exact (readC_v ..).trans (congrArg (blkV _) (wideW_eq m c t))
  isplitl [H8]
  · iexists Y8; isplitr; · ipureintro; exact fun h => absurd h (by omega)
    iexact H8
  iexists Y9; isplitr; · ipureintro; exact fun h => absurd h (by omega)
  iexact H9

set_option maxHeartbeats 4800000 in
/-- The others store their channels' codes, and put their scales into the row block's. -/
theorem sound_D (c : Dev nD) (t : Fin cfg0.N) (R : sProp 𝕄) (h0 : t.val % 33 ≠ 0) (h5 : 5 ≤ t.val % 33) :
    pre m c t R ⊢ wp frame (wpE (defs₀ (F := Ideal)) Variants.none c none) Set.univ (bodyAt0 t) (fun _ => post m c t R) := by
  unfold pre post bodyAt0 PhiAt
  iintro ⟨⟨⟨⟨%X, %hX, HX⟩, HW⟩, Hg⟩, HR, H0, H1, H2, H3, H4, ⟨%Y5, %hY5, H5⟩, ⟨%Y6, %hY6, H6⟩, ⟨%Y7, %hY7, H7⟩, ⟨%Y8, %hY8, H8⟩, ⟨%Y9, %hY9, H9⟩⟩
  obtain rfl := hX (t_div t) h0
  iapply ((runD c (grid0.coords t) _ _ _ _ _ _ _ _ _ _ _ _ _ _ _ _ _ _ _ _ _ _ _ _ (fun h => h0 ((hcond0_0 t).mp h)) (fun h => absurd ((hcond0_1 t).mp h) (by omega)) ((hcond0_4 t).mpr h5) (iblk m c 2 t) (iblk m c 3 t) (iblk m c 4 t) _ Y9).2.2 Set.univ _)
  isplitl [H2]; · iexact H2
  isplitl [H3]; · iexact H3
  isplitl [H4]; · iexact H4
  isplitl [HX]; · iexact HX
  isplitl [H9]; · iexact H9
  isplitl [H8]; · iexists _; iexact H8
  isplitl [HW]; · iexact HW
  iintro ⟨H2, H3, H4, HX, ⟨%f8, H8⟩, ⟨%f9, H9⟩, HW⟩
  isplitl [HX HW Hg]
  · isplitl [HX HW]
    · isplitl [HX]
      · iexists (xAt (A0 m c) (A1 m c) (t.val / 33) (t_div t)); isplitr; · ipureintro; exact carried_next m c t
        iexact HX
      iexact HW
    iexact Hg
  isplitl [HR]; · iexact HR
  isplitl [H0]; · iexact H0
  isplitl [H1]; · iexact H1
  isplitl [H2]; · iexact H2
  isplitl [H3]; · iexact H3
  isplitl [H4]; · iexact H4
  isplitl [H5]
  · iexists Y5; isplitr; · ipureintro; exact keep_Q m c t (by omega) hY5
    iexact H5
  isplitl [H6]
  · iexists Y6; isplitr; · ipureintro; exact keep_K m c t (by omega) hY6
    iexact H6
  isplitl [H7]
  · iexists Y7; isplitr; · ipureintro; exact keep_V m c t (by omega) hY7
    iexact H7
  isplitl [H8]
  · iexists (blkHC (xAt (A0 m c) (A1 m c) (t.val / 33) (t_div t)) (wAt (A2 m c) (A3 m c) (t.val % 33) (t_mod t))); isplitr; · ipureintro; exact put_HC m c t
    unfold owns; iexists _; isplitr; swap; · iexact H8
    ipureintro; exact (readD_codes ..).trans (congrArg (blkHC _) (wideW_eq m c t))
  iexists (blkHS (xAt (A0 m c) (A1 m c) (t.val / 33) (t_div t)) (wAt (A2 m c) (A3 m c) (t.val % 33) (t_mod t)) (t.val % 33) Y9); isplitr; · ipureintro; exact put_HS m c t h5 Y9 (keep_HS m c t h5 hY9)
  unfold owns; iexists _; isplitr; swap; · iexact H9
  ipureintro; exact (readD_scales (h5 := by rw [coord1 t]; exact h5) ..).trans (congrArg₂ (fun W j => blkHS _ W j Y9) (wideW_eq m c t) (coord1 t))

/-- The body at any point. -/
theorem sound_body (c : Dev nD) (t : Fin cfg0.N) (R : sProp 𝕄) :
    pre m c t R ⊢ wp frame (wpE (defs₀ (F := Ideal)) Variants.none c none) Set.univ (bodyAt0 t) (fun _ => post m c t R) := by
  by_cases h0 : t.val % 33 = 0
  · exact sound_A m c t R h0
  · by_cases h3 : t.val % 33 ≤ 3
    · exact sound_B m c t R h0 h3
    · by_cases h4 : t.val % 33 = 4
      · exact sound_C m c t R h0 h4
      · exact sound_D m c t R h0 (by omega)

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The pipeline's call of the body finds what the body needs, -/
def callPre (c : Dev nD) (t : Fin cfg0.N) (R : sProp 𝕄) : sProp 𝕄 :=
  iprop(PhiAt m c t.val ∗ R
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y))

theorem callPre_pre (c : Dev nD) (t : Fin cfg0.N) (R : sProp 𝕄) : callPre m c t R ⊢ pre m c t R := by
  unfold callPre pre
  simp only [before0_0, before0_1, before0_2, before0_3, before0_4]
  iintro ⟨HP, HR, ⟨%d0, H0⟩, ⟨%d1, H1⟩, ⟨%d2, H2⟩, ⟨%d3, H3⟩, ⟨%d4, H4⟩, H5⟩
  isplitl [HP]; · iexact HP
  isplitl [HR]; · iexact HR
  isplitl [H0]; · iexact H0
  isplitl [H1]; · iexact H1
  isplitl [H2]; · iexact H2
  isplitl [H3]; · iexact H3
  isplitl [H4]; · iexact H4
  iexact H5

/-- so the library's body obligation holds. -/
theorem body_obligation (c : Dev nD) : Pipeline.BodyObligationRel (dats m 0 c) (defs₀ (F := Ideal)) Variants.none () Set.univ held (Leaves m c) := fun t => by
  rw [bigSep_W0, bigSep_W0, defs₀_row]
  exact triple_restated ((callPre_pre m c t _).trans (sound_body m c t _)) rfl .rfl fun _ => .rfl

end Cert.ProjIdeal.Hand

end
-- ==== Proof.Proj.Ideal.Final.lean ====
/- The input projection's run: its arrays end at the whole product's columns, gated and quantised where they are hidden
   channels, and its arguments end unchanged. -/
module

public import proofs.«01_k».proof.Proof.Proj.Ideal.Body
public import Idealize.ShloMosaic.Lib.Claim

@[expose] public section

set_option maxRecDepth 16384

noncomputable section

namespace Cert.ProjIdeal.Hand

open Cert.ProjIdeal Cert.ProjIdeal.Gen Cert.Tiles Cert.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat cellOf)

local notation "𝕄" => MT nD τ sig Unit (Elt Ideal) ℕ (UR sig nD τ) ℕ

variable (m : (ℓ : Loc nD τ sig) → Buf (Elt Ideal) ℓ) (ρ : Dev nD → PrngReg)

/-! ## The run -/

/-- Before the first point nothing is carried, -/
theorem enter (c : Dev nD) : (Pipeline.ΦA spec0 c : sProp 𝕄) ⊢ PhiAt m c 0 := by
  rw [PhiA0_eq]; unfold PhiAt
  iintro ⟨⟨⟨%X, HX⟩, HW⟩, Hg⟩
  isplitl [HX HW]
  · isplitl [HX]
    · iexists X; isplitr; · ipureintro; exact fun _ h => absurd rfl h
      iexact HX
    iexact HW
  iexact Hg

/-- and after the last what is carried is dropped. -/
theorem leave (c : Dev nD) (n : ℕ) : PhiAt m c n ⊢ (Pipeline.ΦA spec0 c : sProp 𝕄) := by
  rw [PhiA0_eq]; unfold PhiAt
  iintro ⟨⟨⟨%X, %hX, HX⟩, HW⟩, Hg⟩
  isplitl [HX HW]
  · isplitl [HX]
    · iexists X; iexact HX
    iexact HW
  iexact Hg

-- the library theorem's implicit arguments are found by unfolding plain definitions in a metavariable's type
set_option backward.isDefEq.respectTransparency.types false in
/-- The run: every window's array at what the points leave, every semaphore counter at zero. -/
theorem run_main : θ_run defs (onTc (τ := τ) (main (F := Ideal))) (s₀ m ρ)
    (fun r => Pipeline.RDat.FramePost (cfgs 0) (rdat m) (V m) r ∧ r.2.sem = fun _ => 0) :=
  Pipeline.RDat.θ_run_frame_track_shared cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m)
    (hin := fun c => enter m c) (hout := fun c => leave m c _) (Q' := _)

/-! ## The arrays -/

/-- The results' block numbers. -/
theorem out_idx : ∀ t : Fin cfg0.N, win0_5.index t = ![t.val / 33, min (t.val % 33) 3] ∧ win0_6.index t = ![t.val / 33, 0]
    ∧ win0_7.index t = ![t.val / 33, 0] ∧ win0_8.index t = ![t.val / 33, t.val % 33 - 5] ∧ win0_9.index t = ![t.val / 33, 0] :=
  (by decide +kernel : ∀ t : Fin grid0.N, _)

/-- The blocks of the hidden codes are written back from the sixth column point on. -/
theorem flush8 : ∀ t : Fin cfg0.N, (cfg0.win 8).flush t = true → 5 ≤ t.val % 33 := (by decide +kernel : ∀ t : Fin grid0.N, _)

/-- An index is its two coordinates. -/
theorem eta2 {a b : ℕ} (j : (⟨2, ![a, b]⟩ : Shape).Idx) (r : Fin a) (q : Fin b) (hr : (j 0).val = r.val) (hq : (j 1).val = q.val) : j = ix2 r q := by
  refine funext fun x => Fin.ext ?_
  match x with
  | ⟨0, _⟩ => exact hr
  | ⟨1, _⟩ => exact hq

variable (c : Dev nD) (after : (w : Fin cfg0.W) → Fin cfg0.N → (cfg0.win w).block.Idx → Elt Ideal (cfg0.win w).elt)
  (h : ∀ (w : Fin cfg0.W) (t : Fin cfg0.N), (cfg0.win w).flush t = true → (rdat m c).Leaves w t (after w t))

include h in
/-- q ends at the query columns, -/
theorem array_q : ((rdat m c).withAfter after).arrAt 5 cfg0.N = projQ (A0 m c) (A1 m c) (A2 m c) (A3 m c) := by
  refine ((rdat m c).withAfter after).arrAt_eq_of_covers 5 _ (by decide +kernel) fun t hf y => ?_
  have e := (out_idx t).1
  have hX : isQ m c t (after 5 t) := (dats m 0 c).toRRel_leaves rfl (h 5 t hf)
  have y1 : (y 1).val < 512 := (y 1).isLt
  have er : ((((cfg0.win 5).blk t).view.emb y : (S8192x2048).Idx) 0).val = 512 * (t.val / 33) + (y 0).val := by
    show win0_5.index t 0 * 512 + 1 * (y 0).val = _
    rw [show win0_5.index t 0 = t.val / 33 from congrFun e 0]; omega
  have eq : ((((cfg0.win 5).blk t).view.emb y : (S8192x2048).Idx) 1).val = 512 * min (t.val % 33) 3 + (y 1).val := by
    show win0_5.index t 1 * 512 + 1 * (y 1).val = _
    rw [show win0_5.index t 1 = min (t.val % 33) 3 from congrFun e 1]; omega
  exact (hX ((cfg0.win 5).xinj (grid0.coords t) y) _ _ er eq).trans
    (congrArg (projQ (A0 m c) (A1 m c) (A2 m c) (A3 m c)) (eta2 (((cfg0.win 5).blk t).view.emb y : (S8192x2048).Idx) _ _ rfl rfl).symm)

include h in
/-- k at the key columns, -/
theorem array_k : ((rdat m c).withAfter after).arrAt 6 cfg0.N = projK (A0 m c) (A1 m c) (A2 m c) (A3 m c) := by
  refine ((rdat m c).withAfter after).arrAt_eq_of_covers 6 _ (by decide +kernel) fun t hf y => ?_
  have e := (out_idx t).2.1
  have hX : isK m c t (after 6 t) := (dats m 0 c).toRRel_leaves rfl (h 6 t hf)
  have y1 : (y 1).val < 256 := (y 1).isLt
  have h32 := (flush0_6 t).mp hf
  have er : ((((cfg0.win 6).blk t).view.emb y : (S8192x256).Idx) 0).val = 512 * (t.val / 33) + (y 0).val := by
    show win0_6.index t 0 * 512 + 1 * (y 0).val = _
    rw [show win0_6.index t 0 = t.val / 33 from congrFun e 0]; omega
  have eq : ((((cfg0.win 6).blk t).view.emb y : (S8192x256).Idx) 1).val = (y 1).val := by
    show win0_6.index t 1 * 256 + 1 * (y 1).val = _
    rw [show win0_6.index t 1 = 0 from congrFun e 1]; omega
  exact (hX (by omega) ((cfg0.win 6).xinj (grid0.coords t) y) _ _ er eq).trans
    (congrArg (projK (A0 m c) (A1 m c) (A2 m c) (A3 m c)) (eta2 (((cfg0.win 6).blk t).view.emb y : (S8192x256).Idx) _ _ rfl rfl).symm)

include h in
/-- v at the value columns, -/
theorem array_v : ((rdat m c).withAfter after).arrAt 7 cfg0.N = projV (A0 m c) (A1 m c) (A2 m c) (A3 m c) := by
  refine ((rdat m c).withAfter after).arrAt_eq_of_covers 7 _ (by decide +kernel) fun t hf y => ?_
  have e := (out_idx t).2.2.1
  have hX : isV m c t (after 7 t) := (dats m 0 c).toRRel_leaves rfl (h 7 t hf)
  have y1 : (y 1).val < 256 := (y 1).isLt
  have h32 := (flush0_7 t).mp hf
  have er : ((((cfg0.win 7).blk t).view.emb y : (S8192x256).Idx) 0).val = 512 * (t.val / 33) + (y 0).val := by
    show win0_7.index t 0 * 512 + 1 * (y 0).val = _
    rw [show win0_7.index t 0 = t.val / 33 from congrFun e 0]; omega
  have eq : ((((cfg0.win 7).blk t).view.emb y : (S8192x256).Idx) 1).val = (y 1).val := by
    show win0_7.index t 1 * 256 + 1 * (y 1).val = _
    rw [show win0_7.index t 1 = 0 from congrFun e 1]; omega
  exact (hX (by omega) ((cfg0.win 7).xinj (grid0.coords t) y) _ _ er eq).trans
    (congrArg (projV (A0 m c) (A1 m c) (A2 m c) (A3 m c)) (eta2 (((cfg0.win 7).blk t).view.emb y : (S8192x256).Idx) _ _ rfl rfl).symm)

include h in
/-- the hidden codes at theirs -/
theorem array_hc : ((rdat m c).withAfter after).arrAt 8 cfg0.N = projHC (A0 m c) (A1 m c) (A2 m c) (A3 m c) := by
  refine ((rdat m c).withAfter after).arrAt_eq_of_covers 8 _ (by decide +kernel) fun t hf y => ?_
  have e := (out_idx t).2.2.2.1
  have hX : isHC m c t (after 8 t) := (dats m 0 c).toRRel_leaves rfl (h 8 t hf)
  have y1 : (y 1).val < 256 := (y 1).isLt
  have er : ((((cfg0.win 8).blk t).view.emb y : (S8192x7168).Idx) 0).val = 512 * (t.val / 33) + (y 0).val := by
    show win0_8.index t 0 * 512 + 1 * (y 0).val = _
    rw [show win0_8.index t 0 = t.val / 33 from congrFun e 0]; omega
  have eq : ((((cfg0.win 8).blk t).view.emb y : (S8192x7168).Idx) 1).val = 256 * (t.val % 33 - 5) + (y 1).val := by
    show win0_8.index t 1 * 256 + 1 * (y 1).val = _
    rw [show win0_8.index t 1 = t.val % 33 - 5 from congrFun e 1]; omega
  exact (hX (flush8 t hf) ((cfg0.win 8).xinj (grid0.coords t) y) _ _ er eq).trans
    (congrArg (projHC (A0 m c) (A1 m c) (A2 m c) (A3 m c)) (eta2 (((cfg0.win 8).blk t).view.emb y : (S8192x7168).Idx) _ _ rfl rfl).symm)

include h in
/-- and the hidden scales at theirs. -/
theorem array_hs : ((rdat m c).withAfter after).arrAt 9 cfg0.N = projHS (A0 m c) (A1 m c) (A2 m c) (A3 m c) := by
  refine ((rdat m c).withAfter after).arrAt_eq_of_covers 9 _ (by decide +kernel) fun t hf y => ?_
  have e := (out_idx t).2.2.2.2
  have hX : isHS m c t (after 9 t) := (dats m 0 c).toRRel_leaves rfl (h 9 t hf)
  have y1 : (y 1).val < 56 := (y 1).isLt
  have h32 := (flush0_9 t).mp hf
  have er : ((((cfg0.win 9).blk t).view.emb y : (S8192x56).Idx) 0).val = 512 * (t.val / 33) + (y 0).val := by
    show win0_9.index t 0 * 512 + 1 * (y 0).val = _
    rw [show win0_9.index t 0 = t.val / 33 from congrFun e 0]; omega
  have eq : ((((cfg0.win 9).blk t).view.emb y : (S8192x56).Idx) 1).val = (y 1).val := by
    show win0_9.index t 1 * 56 + 1 * (y 1).val = _
    rw [show win0_9.index t 1 = 0 from congrFun e 1]; omega
  exact (hX (by omega) ((cfg0.win 9).xinj (grid0.coords t) y) _ _ er eq (by show (y 1).val < 2 * (t.val % 33 - 4); omega)).trans
    (congrArg (projHS (A0 m c) (A1 m c) (A2 m c) (A3 m c)) (eta2 (((cfg0.win 9).blk t).view.emb y : (S8192x56).Idx) _ _ rfl rfl).symm)

/-- The run's results and arguments. -/
theorem run_value : θ_run defs (onTc (τ := τ) (main (F := Ideal))) ⟨m, fun _ => 0, ρ⟩ (fun r => (∀ c : Dev nD,
      (r.2.mem ((c.tc : Thread nD τ).loc main_v0_0) = projQ (A0 m c) (A1 m c) (A2 m c) (A3 m c)
      ∧ r.2.mem ((c.tc : Thread nD τ).loc main_v0_1) = projK (A0 m c) (A1 m c) (A2 m c) (A3 m c)
      ∧ r.2.mem ((c.tc : Thread nD τ).loc main_v0_2) = projV (A0 m c) (A1 m c) (A2 m c) (A3 m c)
      ∧ r.2.mem ((c.tc : Thread nD τ).loc main_v0_3) = projHC (A0 m c) (A1 m c) (A2 m c) (A3 m c)
      ∧ r.2.mem ((c.tc : Thread nD τ).loc main_v0_4) = projHS (A0 m c) (A1 m c) (A2 m c) (A3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain ⟨after, hl, ha⟩ := h.1.exists_exact c
    exact ⟨⟨(ha 5).trans (array_q m c after hl), (ha 6).trans (array_k m c after hl), (ha 7).trans (array_v m c after hl),
        (ha 8).trans (array_hc m c after hl), (ha 9).trans (array_hs m c after hl)⟩,
      (h.1.arr_in c 0 rfl).trans ((A_eq m c 0).trans (V_main_arg0 m c)), (h.1.arr_in c 1 rfl).trans ((A_eq m c 1).trans (V_main_arg1 m c)),
      (h.1.arr_in c 3 rfl).trans ((A_eq m c 3).trans (V_main_arg2 m c)), (h.1.arr_in c 4 rfl).trans ((A_eq m c 4).trans (V_main_arg3 m c))⟩, h.2⟩)
    (run_main m ρ)

/-- THE FRAME: the argument arrays end unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2, h.2⟩) (run_value m ρ)

end Cert.ProjIdeal.Hand

end
-- ==== Proof.Proj.Ref.lean ====
/- The reference input projection's payloads: its casts are the identity at the ideal values, its reshapes only rename
   indices, and its power-of-two scale is the one the search finds. -/
module

public import proofs.«01_k».proof.Proof.Proj.Spec
public import proofs.«01_k».proof.Proof.Gen.ProjRefIdeal.Value

@[expose] public section

set_option maxRecDepth 16384

noncomputable section

namespace Cert.ProjRefIdeal.Hand

open Cert.ProjRefIdeal Cert.ProjRefIdeal.Gen Idealize.ShloMosaic Idealize.ShloMosaic.TcCoe Idealize.SL.Sem
open Cert.ProjIdeal.Hand (projP projQ projK projV projH projT projHC projHS groupT clip gated)
open scoped BigOperators

/-- A group's maximum, as a fold over its 128 channels. -/
theorem groupMax_eq (v : Vec Ideal S8192x56x128 .f32) (r : Fin 8192) (g : Fin 56) :
    multiReduction (F := Ideal) .maximumf [2] S8192x56 v 0xFF800000#32 reduces_S8192x56x128_S8192x56 (.inl rfl) rfl (ix2 r g)
      = (Finset.univ : Finset (Fin 128)).fold max (Ideal.ofBits .f32 0xFF800000#32) (fun k => v (ix3 r g k)) := by
  refine (Ideal.multiReduction_maximumf_single v _ _ _ _ _).trans ?_
  refine congrArg (fun f : Fin 128 → EReal => (Finset.univ : Finset (Fin 128)).fold max (Ideal.ofBits .f32 0xFF800000#32) f) (funext fun k => ?_)
  refine congrArg v (funext fun a => ?_)
  match a with
  | ⟨0, _⟩ => rfl
  | ⟨1, _⟩ => rfl
  | ⟨2, _⟩ => rfl

/-- The groups' largest magnitudes over 448, of any channels. -/
def groupMaxes (h : Vec Ideal S8192x56x128 .f32) : Vec Ideal S8192x56 .f32 :=
  mulf (F := Ideal) (multiReduction (F := Ideal) .maximumf [2] S8192x56 (absf (F := Ideal) h) 0xFF800000#32 reduces_S8192x56x128_S8192x56 (.inl rfl) rfl)
    (broadcast S8192x56 (Scalar.ofBits (F := Ideal) .f32 0x3B124925#32))
/-- A product of arrays, at an index, -/
theorem mulf_at {S : Shape} (a b : FVec Ideal S .f32) (y : S.Idx) : mulf (F := Ideal) a b y = (a y * b y : EReal) := rfl
/-- and magnitudes. -/
theorem absf_at {S : Shape} (a : FVec Ideal S .f32) (y : S.Idx) : absf (F := Ideal) a y = FloatOps.absf (F := Ideal) (φ := .f32) (a y) := rfl
/-- One of them. -/
theorem groupMaxes_apply (h : Vec Ideal S8192x56x128 .f32) (r : Fin 8192) (g : Fin 56) :
    groupMaxes h (ix2 r g) = groupT fun k => h (ix3 r g k) := by
  unfold groupMaxes groupT
  rw [mulf_at, groupMax_eq]
  simp only [absf_at]
  refine congrArg₂ (fun a b : EReal => a * b) (Eq.refl _) ?_
  rfl

/-- The exponents. -/
theorem pay1_eq (T : Vec Ideal S8192x56 .f32) (y : S8192x56.Idx) :
    k0_pay1 (F := Ideal) T (log T) (Scalar.ofBits .f32 0x40000000#32) y = Cert.Quant.rexp (T y) := rfl
/-- The scales, of any groups' maxima. -/
theorem pay2_apply (T : Vec Ideal S8192x56 .f32) (y : S8192x56.Idx) :
    k0_pay2 (F := Ideal) T (log T) (Scalar.ofBits .f32 0x40000000#32) y = Ideal.exp2 (Cert.Quant.rexp (T y)) := rfl

section
variable (a0 : Vec Ideal S8192x8192 .fp8e4m3) (a1 : Vec Ideal S8192x64 .f32) (a2 : Vec Ideal S8192x16896 .fp8e4m3) (a3 : Vec Ideal S64x132 .f32)

/-- The whole product. -/
theorem pay4_eq (r : Fin 8192) (c : Fin 16896) : k0_pay4 (F := Ideal) a0 a1 a2 a3 (ix2 r c) = projP a0 a1 a2 a3 r c := by
  unfold projP
  pointwise [k0_pay4]

/-- The query columns. -/
theorem pay5_eq : k0_pay5 (F := Ideal) a0 a1 a2 a3 = projQ a0 a1 a2 a3 := by
  funext y; idx_vars y
  refine Eq.trans ?_ (pay4_eq a0 a1 a2 a3 y0 ⟨y1.val, by have := y1.isLt; omega⟩)
  pointwise [k0_pay5]

/-- The key columns. -/
theorem pay6_eq : k0_pay6 (F := Ideal) a0 a1 a2 a3 = projK a0 a1 a2 a3 := by
  funext y; idx_vars y
  refine Eq.trans ?_ (pay4_eq a0 a1 a2 a3 y0 ⟨2048 + y1.val, by have := y1.isLt; omega⟩)
  pointwise [k0_pay6]

/-- The value columns. -/
theorem pay7_eq : k0_pay7 (F := Ideal) a0 a1 a2 a3 = projV a0 a1 a2 a3 := by
  funext y; idx_vars y
  refine Eq.trans ?_ (pay4_eq a0 a1 a2 a3 y0 ⟨2304 + y1.val, by have := y1.isLt; omega⟩)
  pointwise [k0_pay7]

/-- The gated channels, in groups. -/
theorem pay8_eq (r : Fin 8192) (g : Fin 56) (k : Fin 128) :
    k0_pay8 (F := Ideal) a0 a1 a2 a3 (ix3 r g k) = projH a0 a1 a2 a3 r ⟨g.val * 128 + k.val, by have := g.isLt; have := k.isLt; omega⟩ := by
  unfold projH gated; rw [← pay4_eq, ← pay4_eq]
  pointwise [k0_pay8]

/-- The program's maxima are those of its gated channels. -/
theorem pay9_def : k0_pay9 (F := Ideal) a0 a1 a2 a3 = groupMaxes (k0_pay8 a0 a1 a2 a3) := rfl
/-- And their logarithms. -/
theorem pay10_def : k0_pay10 (F := Ideal) a0 a1 a2 a3 = log (k0_pay9 a0 a1 a2 a3) := rfl
/-- The groups' largest magnitudes over 448. -/
theorem pay9_eq (r : Fin 8192) (g : Fin 56) : k0_pay9 (F := Ideal) a0 a1 a2 a3 (ix2 r g) = projT a0 a1 a2 a3 r g := by
  rw [pay9_def, groupMaxes_apply]
  unfold projT
  exact congrArg groupT (funext fun k => pay8_eq a0 a1 a2 a3 r g k)

/-- The scales. -/
theorem pay2_eq : k0_pay2 (F := Ideal) (k0_pay9 a0 a1 a2 a3) (k0_pay10 a0 a1 a2 a3) (Scalar.ofBits .f32 0x40000000#32) = projHS a0 a1 a2 a3 := by
  rw [pay10_def]
  funext y; idx_vars y
  rw [pay2_apply, pay9_eq, ← Cert.Quant.kscale_eq]
  unfold projHS
  exact congrArg Cert.Quant.kscale (congrArg₂ (projT a0 a1 a2 a3) rfl rfl)

/-- A code, from the group's exponent. -/
theorem pay3_apply (H : Vec Ideal S8192x56x128 .f32) (T : Vec Ideal S8192x56 .f32) (r : Fin 8192) (f : Fin 7168) :
    k0_pay3 (F := Ideal) H T (log T) (Scalar.ofBits .f32 0x40000000#32) (ix2 r f)
      = clip (H (ix3 r ⟨f.val / 128, by have := f.isLt; omega⟩ ⟨f.val % 128, by omega⟩) * Ideal.exp2 (Ideal.ofBits .f32 0x00000000#32 - Cert.Quant.rexp (T (ix2 r ⟨f.val / 128, by have := f.isLt; omega⟩)))) := by
  unfold clip; rw [← pay1_eq]
  pointwise [k0_pay3]
  rfl

/-- The codes. -/
theorem pay3_eq : k0_pay3 (F := Ideal) (k0_pay8 a0 a1 a2 a3) (k0_pay9 a0 a1 a2 a3) (k0_pay10 a0 a1 a2 a3) (Scalar.ofBits .f32 0x40000000#32) = projHC a0 a1 a2 a3 := by
  rw [pay10_def]
  funext y; idx_vars y
  rw [pay3_apply]
  rw [← Cert.Quant.kinv_eq, pay8_eq, pay9_eq]
  refine congrArg (fun f => clip (projH a0 a1 a2 a3 y0 f * Cert.Quant.kinv (projT a0 a1 a2 a3 y0 ⟨y1.val / 128, by have := y1.isLt; omega⟩))) (Fin.ext ?_)
  exact Nat.div_add_mod' y1.val 128

/-- A load of a whole array reads the array, so the maxima as the program stores them are those above, -/
theorem pay11_eq : k0_pay11 (F := Ideal) a0 a1 a2 a3 = k0_pay9 a0 a1 a2 a3 := by
  unfold k0_pay11
  rw [View.ld_unit_zero (S := S8192x8192) Value.hz0 _ a0, View.ld_unit_zero (S := S8192x64) Value.hz1 _ a1, View.ld_unit_zero (S := S8192x16896) Value.hz2 _ a2, View.ld_unit_zero (S := S64x132) Value.hz3 _ a3]
/-- and so are their logarithms. -/
theorem pay12_eq : k0_pay12 (F := Ideal) a0 a1 a2 a3 = k0_pay10 a0 a1 a2 a3 := by
  unfold k0_pay12
  rw [View.ld_unit_zero (S := S8192x8192) Value.hz0 _ a0, View.ld_unit_zero (S := S8192x64) Value.hz1 _ a1, View.ld_unit_zero (S := S8192x16896) Value.hz2 _ a2, View.ld_unit_zero (S := S64x132) Value.hz3 _ a3]

/-- The array of codes after the run, -/
theorem codes_eq : Value.G7 (F := Ideal) a0 a1 a2 a3 = projHC a0 a1 a2 a3 := by
  unfold Value.G7; rw [pay11_eq, pay12_eq]; exact pay3_eq a0 a1 a2 a3
/-- and of scales. -/
theorem scales_eq : Value.G8 (F := Ideal) a0 a1 a2 a3 = projHS a0 a1 a2 a3 := by
  unfold Value.G8; rw [pay11_eq, pay12_eq]; exact pay2_eq a0 a1 a2 a3
end

end Cert.ProjRefIdeal.Hand

end
-- ==== Proof.Proj.Claims.lean ====
/- The claims about the input projection: both runs end with the same functions of the shared arguments. -/
module

public import proofs.«01_k».proof.Defs
public import proofs.«01_k».proof.Proof.Gen.ProjRefIdeal.Frame
public import proofs.«01_k».proof.Proof.Gen.ProjRefIdeal.Value
public import proofs.«01_k».proof.Proof.Proj.Bits.Frame
public import proofs.«01_k».proof.Proof.Proj.Ideal.Final
public import proofs.«01_k».proof.Proof.Proj.Ref

@[expose] public section

set_option maxRecDepth 16384

noncomputable section

namespace Cert.Proof

open Idealize.ShloMosaic Idealize.SL.Sem

/-- The kernel at the ideal values and the reference leave the same five arrays: the projection's query, key and value columns,
    and its gated hidden channels' codes and scales. -/
theorem proj_algebraic : Cert.algebraic_ProjIdeal_ProjRefIdeal (hProjIdeal := Cert.ProjIdeal.Gen.facts) (hProjRefIdeal := Cert.ProjRefIdeal.Gen.facts) := by
  intro m g m' g' _ hm
  refine ⟨fun c => Cert.ProjIdeal.Hand.projQ (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)),
    fun c => Cert.ProjIdeal.Hand.projK (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)),
    fun c => Cert.ProjIdeal.Hand.projV (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)),
    fun c => Cert.ProjIdeal.Hand.projHC (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)),
    fun c => Cert.ProjIdeal.Hand.projHS (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)), ?_, ?_⟩
  · exact (θ_run _ _ _).mono (fun r h c => ⟨(h.1 c).1.1, (h.1 c).1.2.1, (h.1 c).1.2.2.1, (h.1 c).1.2.2.2.1, (h.1 c).1.2.2.2.2, (h.1 c).2⟩)
      (Cert.ProjIdeal.Hand.run_value m g)
  · refine (θ_run _ _ _).mono (fun r h c => ?_) (Cert.ProjRefIdeal.Value.run (F := Ideal) m' g')
    obtain ⟨e0, e1, e2, e3⟩ := hm c
    obtain ⟨h0, h1, h2, h3, h4, h5⟩ := h c
    refine ⟨h0.trans ?_, h1.trans ?_, h2.trans ?_, h3.trans ?_, h4.trans ?_, h5⟩
    · exact (Cert.ProjRefIdeal.Hand.pay5_eq _ _ _ _).trans (by rw [e0, e1, e2, e3])
    · exact (Cert.ProjRefIdeal.Hand.pay6_eq _ _ _ _).trans (by rw [e0, e1, e2, e3])
    · exact (Cert.ProjRefIdeal.Hand.pay7_eq _ _ _ _).trans (by rw [e0, e1, e2, e3])
    · exact (Cert.ProjRefIdeal.Hand.codes_eq _ _ _ _).trans (by rw [e0, e1, e2, e3])
    · exact (Cert.ProjRefIdeal.Hand.scales_eq _ _ _ _).trans (by rw [e0, e1, e2, e3])

/-- The three frames: every run ends with its arguments unchanged and every counter at zero. -/
theorem proj_frames :
    Cert.quiescent_Proj (hProj := Cert.Proj.Gen.facts) ∧ Cert.quiescent_ProjIdeal (hProjIdeal := Cert.ProjIdeal.Gen.facts)
    ∧ Cert.quiescent_ProjRefIdeal (hProjRefIdeal := Cert.ProjRefIdeal.Gen.facts) :=
  ⟨fun m ρ _ => Cert.Proj.Gen.frame m ρ, fun m ρ _ => Cert.ProjIdeal.Hand.frame m ρ, fun m ρ _ => Cert.ProjRefIdeal.Gen.frame m ρ⟩

end Cert.Proof

end
-- ==== Proof.Norm.Pieces.lean ====
/- What the normalisation's body stores, as numbered pieces: the 64 groups of codes, each made from the group's own columns
   and the row's reciprocal root mean square, and the one array of scales, filled lane by lane. -/
module

public import proofs.«01_k».proof.Proof.Tiles
public import proofs.«01_k».proof.Proof.Gen.NormIdeal.Frame

@[expose] public section

set_option maxRecDepth 16384

noncomputable section

namespace Cert.NormIdeal.Hand

open Cert.NormIdeal Cert.NormIdeal.Gen Cert.Tiles Idealize.ShloMosaic Idealize.ShloMosaic.TcCoe Idealize.ShloMosaic.Tactic

variable {F : FTy → Type} [FloatOps F]

/-- Where group `n` lies in the rows: column block `n`. -/
def gOff (n : ℕ) : Fin 2 → ℕ := ![0, 128 * (n % 64)]
/-- It lies inside the rows. -/
theorem xOff_inb (n : ℕ) : ∀ a, gOff n a + S128x128.size a ≤ S128x8192.size a := by
  intro a
  match a with
  | ⟨0, _⟩ => show 0 + 128 ≤ 128; omega
  | ⟨1, _⟩ => show 128 * (n % 64) + 128 ≤ 8192; omega
/-- So do its weights, inside their one row. -/
theorem wOff_inb (n : ℕ) : ∀ a, gOff n a + S1x128.size a ≤ S1x8192.size a := by
  intro a
  match a with
  | ⟨0, _⟩ => show 0 + 1 ≤ 1; omega
  | ⟨1, _⟩ => show 128 * (n % 64) + 128 ≤ 8192; omega

/-- Group `n`'s columns, -/
def xRect (n : ℕ) : Rect S128x8192 := Rect.unit (s := S128x8192) (gOff n) S128x128.size (xOff_inb n)
/-- and their weights. -/
def wRect (n : ℕ) : Rect S1x8192 := Rect.unit (s := S1x8192) (gOff n) S1x128.size (wOff_inb n)

/-- One step of the search of the exponent field, on a column of rows. -/
def stepV (T : FVec F S128x1 .f32) (b : BitVec 32) (e : IVec S128x1 32) : IVec S128x1 32 :=
  select (cmpf .oge T (bitcastToFloat .f32 (shli (addi e (broadcast S128x1 b)) (broadcast S128x1 23#32)))) (addi e (broadcast S128x1 b)) e
/-- The field found. -/
def fieldV (T : FVec F S128x1 .f32) : IVec S128x1 32 :=
  stepV T 1#32 (stepV T 2#32 (stepV T 4#32 (stepV T 8#32 (stepV T 16#32 (stepV T 32#32 (stepV T 64#32 (stepV T 125#32 (broadcast S128x1 0#32))))))))
/-- The field the scale is made of. -/
def kfieldV (T : FVec F S128x1 .f32) : IVec S128x1 32 := select (cmpi .eq (fieldV T) (broadcast S128x1 0#32)) (broadcast S128x1 126#32) (fieldV T)
/-- The scale, -/
def scaleV (T : FVec F S128x1 .f32) : FVec F S128x1 .f32 := bitcastToFloat .f32 (shli (addi (kfieldV T) (broadcast S128x1 1#32)) (broadcast S128x1 23#32))
/-- and its reciprocal. -/
def invV (T : FVec F S128x1 .f32) : FVec F S128x1 .f32 := bitcastToFloat .f32 (shli (subi (broadcast S128x1 253#32) (kfieldV T)) (broadcast S128x1 23#32))

/-- A group's normalised columns. -/
def normV (R : FVec F S128x128 .f32) (x : Vec F S128x128 .bf16) (w : Vec F S1x128 .bf16) : FVec F S128x128 .f32 :=
  mulf (mulf (extf .f32 (shapeCast S128x128 x shapeCasts_S128x128_S128x128 : FVec F S128x128 .bf16) bitsLt_bf16_f32) R)
    (broadcastTo S128x128 (extf .f32 (shapeCast S1x128 w shapeCasts_S1x128_S1x128 : FVec F S1x128 .bf16) bitsLt_bf16_f32) broadcasts_S1x128_S128x128)
/-- Their largest magnitudes over 448. -/
def maxV (v : FVec F S128x128 .f32) : FVec F S128x1 .f32 :=
  mulf (shapeCast S128x1 (multiReduction .maximumf [1] S128 (absf v) 0xFF800000#32 reduces_S128x128_S128 (.inl rfl) rfl) shapeCasts_S128_S128x1)
    (broadcast S128x1 (Scalar.ofBits .f32 0x3B124925#32))
/-- Their codes. -/
def codesV (v : FVec F S128x128 .f32) : FVec F S128x128 .fp8e4m3 :=
  truncf .fp8e4m3 (minimumf (broadcast S128x128 (Scalar.ofBits .f32 0x43E00000#32)) (maximumf (broadcast S128x128 (Scalar.ofBits .f32 0xC3E00000#32))
    (mulf v (broadcastTo S128x128 (invV (maxV v)) broadcasts_S128x1_S128x128)))) bitsLt_fp8e4m3_f32

/-- The squares of group `n`'s columns. -/
def sqV (x0 : Vec F S128x8192 .bf16) (n : ℕ) : FVec F S128x128 .f32 :=
  mulf (extf .f32 (shapeCast S128x128 (View.ld x0 (xRect n)) shapeCasts_S128x128_S128x128 : FVec F S128x128 .bf16) bitsLt_bf16_f32)
    (extf .f32 (shapeCast S128x128 (View.ld x0 (xRect n)) shapeCasts_S128x128_S128x128 : FVec F S128x128 .bf16) bitsLt_bf16_f32)
/-- The groups' squares, added up in order. -/
def accV (x0 : Vec F S128x8192 .bf16) : ℕ → FVec F S128x128 .f32
  | 0 => sqV x0 0
  | n + 1 => addf (accV x0 n) (sqV x0 (n + 1))

/-- Eight rows of the lanes' sums, transposed. -/
def foldV (t : FVec F S128x128 .f32) : FVec F S8x128 .f32 :=
  addf (addf (addf (addf (addf (addf (addf (addf (addf (addf (addf (addf (addf (addf (addf
    (extractStridedSlice S8x128 ![0, 0] t slices_S128x128_o0_0_S8x128)
    (extractStridedSlice S8x128 ![8, 0] t slices_S128x128_o8_0_S8x128))
    (extractStridedSlice S8x128 ![16, 0] t slices_S128x128_o16_0_S8x128))
    (extractStridedSlice S8x128 ![24, 0] t slices_S128x128_o24_0_S8x128))
    (extractStridedSlice S8x128 ![32, 0] t slices_S128x128_o32_0_S8x128))
    (extractStridedSlice S8x128 ![40, 0] t slices_S128x128_o40_0_S8x128))
    (extractStridedSlice S8x128 ![48, 0] t slices_S128x128_o48_0_S8x128))
    (extractStridedSlice S8x128 ![56, 0] t slices_S128x128_o56_0_S8x128))
    (extractStridedSlice S8x128 ![64, 0] t slices_S128x128_o64_0_S8x128))
    (extractStridedSlice S8x128 ![72, 0] t slices_S128x128_o72_0_S8x128))
    (extractStridedSlice S8x128 ![80, 0] t slices_S128x128_o80_0_S8x128))
    (extractStridedSlice S8x128 ![88, 0] t slices_S128x128_o88_0_S8x128))
    (extractStridedSlice S8x128 ![96, 0] t slices_S128x128_o96_0_S8x128))
    (extractStridedSlice S8x128 ![104, 0] t slices_S128x128_o104_0_S8x128))
    (extractStridedSlice S8x128 ![112, 0] t slices_S128x128_o112_0_S8x128))
    (extractStridedSlice S8x128 ![120, 0] t slices_S128x128_o120_0_S8x128)

/-- The sums of squares, eight to a row, are the body's. -/
theorem sums_eq (x0 : Vec F S128x8192 .bf16) (x1 : Vec F S1x8192 .bf16) :
    k0_pay639 x0 x1 = foldV (transpose S128x128 [1, 0] (accV x0 63) transposes_S128x128_p1_0_S128x128) := by
  sl_kernel_rfl

/-- The rows' reciprocal root mean squares, one row a lane. -/
def rootV (x0 : Vec F S128x8192 .bf16) : FVec F S128x128 .f32 :=
  k0_pay15 (foldV (transpose S128x128 [1, 0] (accV x0 63) transposes_S128x128_p1_0_S128x128))

/-- Group `n`'s normalised columns, -/
def grpV (x0 : Vec F S128x8192 .bf16) (x1 : Vec F S1x8192 .bf16) (n : ℕ) : FVec F S128x128 .f32 :=
  normV (rootV x0) (View.ld x0 (xRect n)) (View.ld x1 (wRect n))
/-- and its codes as the body stores them. -/
def piece (x0 : Vec F S128x8192 .bf16) (x1 : Vec F S1x8192 .bf16) (n : ℕ) : View.Piece (Elt F) S128x8192 .fp8e4m3 :=
  ⟨xRect n, codesV (grpV x0 x1 n)⟩

/-- The scales after `n` groups: group `n`'s scale goes into lane `n`. -/
def scalesV (x0 : Vec F S128x8192 .bf16) (x1 : Vec F S1x8192 .bf16) : ℕ → FVec F S128x64 .f32
  | 0 => broadcast S128x64 (Scalar.ofBits .f32 0x00000000#32)
  | n + 1 => select (cmpi .eq (iota .tc S128x64 32 [1] iota_S128x64_d1_w32) (broadcast S128x64 (BitVec.ofNat 32 n)))
      (broadcastTo S128x64 (shapeCast S128x1 (scaleV (maxV (grpV x0 x1 n))) shapeCasts_S128x1_S128x1) broadcasts_S128x1_S128x64) (scalesV x0 x1 n)

/-- The codes stored are the 64 groups', -/
theorem codes_pieces (x0 : Vec F S128x8192 .bf16) (x1 : Vec F S1x8192 .bf16) :
    out0_2 x0 x1 = View.canon (lastFirst (piece x0 x1) 64) := by
  sl_kernel_rfl

/-- and the scales stored are all 64. -/
theorem scales_pieces (x0 : Vec F S128x8192 .bf16) (x1 : Vec F S1x8192 .bf16) :
    out0_3 x0 x1 = View.canon [⟨r0_128, scalesV x0 x1 64⟩] := by
  sl_kernel_rfl

end Cert.NormIdeal.Hand

end
-- ==== Proof.Norm.Spec.lean ====
/- What the normalisation computes, over the extended reals: each row over its root mean square, times the weights, quantised in
   groups of 128 columns. -/
module

public import proofs.«01_k».proof.NormRefIdeal
public import proofs.«01_k».proof.Proof.Proj.Spec

@[expose] public section

set_option maxRecDepth 16384

noncomputable section

namespace Cert.NormRefIdeal.Hand

open Cert.NormRefIdeal Idealize.ShloMosaic Idealize.ShloMosaic.TcCoe
open Cert.ProjIdeal.Hand (groupT clip)
open scoped BigOperators

/-- One over the root of the mean of a row's squares, with the small constant added to the mean. -/
def rootOf (x : Fin 8192 → EReal) : EReal :=
  Ideal.rsqrt (Ideal.div (∑ k : Fin 8192, x k * x k) (Ideal.ofBits .f32 0x46000000#32) + Ideal.ofBits .f32 0x358637BD#32)
/-- A row normalised. -/
def rowNorm (x w : Fin 8192 → EReal) (k : Fin 8192) : EReal := x k * rootOf x * w k
/-- The largest magnitude over 448 of its group `g`. -/
def rowT (x w : Fin 8192 → EReal) (g : Fin 64) : EReal :=
  groupT fun k => rowNorm x w ⟨g.val * 128 + k.val, by have := g.isLt; have := k.isLt; omega⟩
/-- Its codes. -/
def rowCode (x w : Fin 8192 → EReal) (c : Fin 8192) : EReal :=
  clip (rowNorm x w c * Cert.Quant.kinv (rowT x w ⟨c.val / 128, by have := c.isLt; omega⟩))

section
variable (a0 : Vec Ideal S8x1024x8192 .bf16) (a1 : Vec Ideal S8192 .bf16)

/-- Row `r` of the activations, the two leading axes as one, -/
def rowX (r : Fin 8192) (k : Fin 8192) : EReal := a0 (ix3 ⟨r.val / 1024, by have := r.isLt; omega⟩ ⟨r.val % 1024, Nat.mod_lt _ (by norm_num)⟩ k)
/-- and the weights. -/
def wts (k : Fin 8192) : EReal := a1 (ix1 k)
/-- The codes of all rows, -/
def normC : Vec Ideal S8192x8192 .fp8e4m3 := fun y => rowCode (rowX a0 (y 0)) (wts a1) (y 1)
/-- and the scales. -/
def normS : Vec Ideal S8192x64 .f32 := fun y => Cert.Quant.kscale (rowT (rowX a0 (y 0)) (wts a1) (y 1))
end

end Cert.NormRefIdeal.Hand

end
-- ==== Proof.Norm.Value.lean ====
/- What the normalisation's stores hold, in closed form over the extended reals: each row's codes and scales. -/
module

public import proofs.«01_k».proof.Proof.Norm.Pieces
public import proofs.«01_k».proof.Proof.Norm.Spec
public import Idealize.ShloMosaic.Lib.KernelVsHost

@[expose] public section

set_option maxRecDepth 16384

noncomputable section

namespace Cert.NormIdeal.Hand

open Cert.NormIdeal Cert.NormIdeal.Gen Cert.Tiles Cert.Quant Idealize.ShloMosaic Idealize.ShloMosaic.TcCoe Idealize.SL.Sem
open Cert.ProjIdeal.Hand (groupT clip)
open Cert.NormRefIdeal.Hand (rootOf rowNorm rowT rowCode)
open scoped BigOperators

/-- A group's columns, of the rows, -/
theorem ldX_apply (x0 : Vec Ideal S128x8192 .bf16) (n : ℕ) (hn : n < 64) (i l : Fin 128) :
    View.ld x0 (xRect n) (ix2 i l : S128x128.Idx) = x0 (ix2 i ⟨128 * n + l.val, by have := l.isLt; omega⟩) := by
  show x0 _ = x0 _
  refine congrArg x0 (funext fun a => Fin.ext ?_)
  match a with
  | ⟨0, _⟩ => show 0 + 1 * i.val = i.val; omega
  | ⟨1, _⟩ => show 128 * (n % 64) + 1 * l.val = 128 * n + l.val; omega
/-- and of the weights. -/
theorem ldW_apply (x1 : Vec Ideal S1x8192 .bf16) (n : ℕ) (hn : n < 64) (z : Fin 1) (l : Fin 128) :
    View.ld x1 (wRect n) (ix2 z l : S1x128.Idx) = x1 (ix2 0 ⟨128 * n + l.val, by have := l.isLt; omega⟩) := by
  show x1 _ = x1 _
  refine congrArg x1 (funext fun a => Fin.ext ?_)
  match a with
  | ⟨0, _⟩ => show 0 + 1 * z.val = 0; omega
  | ⟨1, _⟩ => show 128 * (n % 64) + 1 * l.val = 128 * n + l.val; omega

/-- The square of one entry. -/
theorem sqV_apply (x0 : Vec Ideal S128x8192 .bf16) (n : ℕ) (hn : n < 64) (i l : Fin 128) :
    sqV (F := Ideal) x0 n (ix2 i l) = (x0 (ix2 i ⟨128 * n + l.val, by have := l.isLt; omega⟩) * x0 (ix2 i ⟨128 * n + l.val, by have := l.isLt; omega⟩) : EReal) := by
  rw [← ldX_apply x0 n hn i l]
  unfold sqV
  generalize View.ld x0 (xRect n) = X
  change S128x128.Idx → EReal at X
  pointwise []

/-- The lanes' sums of squares. -/
theorem accV_apply (x0 : Vec Ideal S128x8192 .bf16) (i l : Fin 128) (s : ℕ → EReal)
    (hs : ∀ n < 64, sqV (F := Ideal) x0 n (ix2 i l) = s n) : ∀ n < 64, accV (F := Ideal) x0 n (ix2 i l) = ∑ g ∈ Finset.range (n + 1), s g
  | 0, h => by rw [Finset.sum_range_one]; exact hs 0 h
  | n + 1, h => by
    rw [Finset.sum_range_succ, ← accV_apply x0 i l s hs n (by omega), ← hs (n + 1) h]
    rfl

/-- The eight rows' sums, of lanes. -/
theorem foldV_apply (A : FVec Ideal S128x128 .f32) (a : Fin 8) (i : Fin 128) :
    foldV (F := Ideal) (transpose S128x128 [1, 0] A transposes_S128x128_p1_0_S128x128) (ix2 a i)
      = ∑ k : Fin 16, (A (ix2 i ⟨8 * k.val + a.val, by have := k.isLt; have := a.isLt; omega⟩) : EReal) := by
  have h : ∀ k : Fin 16, ∀ hs, extractStridedSlice S8x128 ![8 * k.val, 0] (transpose S128x128 [1, 0] A transposes_S128x128_p1_0_S128x128) hs (ix2 a i)
      = A (ix2 i ⟨8 * k.val + a.val, by have := k.isLt; have := a.isLt; omega⟩) := by
    intro k hs
    show A _ = A _
    refine congrArg A (funext fun b => Fin.ext ?_)
    match b with
    | ⟨0, _⟩ => show 0 + i.val = i.val; omega
    | ⟨1, _⟩ => rfl
  have e : ∑ k : Fin 16, (A (ix2 i ⟨8 * k.val + a.val, by have := k.isLt; have := a.isLt; omega⟩) : EReal)
      = ∑ k : Fin 16, (extractStridedSlice S8x128 ![8 * k.val, 0] (transpose S128x128 [1, 0] A transposes_S128x128_p1_0_S128x128)
        (by fin_cases k <;> decide) (ix2 a i) : EReal) := Finset.sum_congr rfl fun k _ => (h k _).symm
  rw [e]
  simp only [Fin.sum_univ_castSucc, Finset.univ_eq_empty, Finset.sum_empty, zero_add]
  rfl

/-- A rotation of the eight rows, read at a row. -/
theorem rot_apply (S : FVec Ideal S8x128 .f32) (n : BitVec 32) (a b : Fin 8) (i : Fin 128) (hb : b.val = (a.val + 8 - n.toNat % 8) % 8) :
    dynamicRotate 0 n none S rotates_S8x128_d0 (ix2 a i) = S (ix2 b i) := by
  refine dynamicRotate_apply 0 n S _ (ix2 a i) (ix2 b i) fun c => ?_
  match c with
  | ⟨0, _⟩ => exact hb
  | ⟨1, _⟩ => rfl

/-- The three rotations add up all eight rows. -/
def rotV (S : FVec Ideal S8x128 .f32) : FVec Ideal S8x128 .f32 :=
  let S1 := addf S (dynamicRotate 0 4#32 none S rotates_S8x128_d0)
  let S2 := addf S1 (dynamicRotate 0 2#32 none S1 rotates_S8x128_d0)
  addf S2 (dynamicRotate 0 1#32 none S2 rotates_S8x128_d0)
theorem addf_at {S : Shape} (a b : FVec Ideal S .f32) (y : S.Idx) : addf (F := Ideal) a b y = (a y + b y : EReal) := rfl
theorem rotV_apply (S : FVec Ideal S8x128 .f32) (a : Fin 8) (i : Fin 128) : rotV S (ix2 a i) = ∑ b : Fin 8, (S (ix2 b i) : EReal) := by
  have h4 : ∀ (T : FVec Ideal S8x128 .f32) (a : Fin 8), dynamicRotate 0 4#32 none T rotates_S8x128_d0 (ix2 a i) = T (ix2 (a + 4) i) :=
    fun T a => rot_apply T 4#32 a (a + 4) i (by revert a; decide)
  have h2 : ∀ (T : FVec Ideal S8x128 .f32) (a : Fin 8), dynamicRotate 0 2#32 none T rotates_S8x128_d0 (ix2 a i) = T (ix2 (a + 6) i) :=
    fun T a => rot_apply T 2#32 a (a + 6) i (by revert a; decide)
  have h1 : ∀ (T : FVec Ideal S8x128 .f32) (a : Fin 8), dynamicRotate 0 1#32 none T rotates_S8x128_d0 (ix2 a i) = T (ix2 (a + 7) i) :=
    fun T a => rot_apply T 1#32 a (a + 7) i (by revert a; decide)
  unfold rotV
  simp only [addf_at, h4, h2, h1]
  generalize hf : (fun b : Fin 8 => (S (ix2 b i) : EReal)) = f
  have e : ∀ b, (S (ix2 b i) : EReal) = f b := fun b => congrFun hf b
  simp only [e, Fin.sum_univ_eight]
  fin_cases a <;> simp <;> abel

/-- The rows' roots, from the eight rows' sums. -/
def rootRows (S : FVec Ideal S8x128 .f32) : FVec Ideal S8x128 .f32 :=
  rsqrt (addf (mulf (rotV S) (broadcast S8x128 (Scalar.ofBits (F := Ideal) .f32 0x39000000#32))) (broadcast S8x128 (Scalar.ofBits (F := Ideal) .f32 0x358637BD#32)))
theorem rootRows_apply (S : FVec Ideal S8x128 .f32) (a : Fin 8) (i : Fin 128) :
    rootRows S (ix2 a i) = Ideal.rsqrt (rotV S (ix2 a i) * Ideal.ofBits .f32 0x39000000#32 + Ideal.ofBits .f32 0x358637BD#32) := rfl
theorem pay15_def (S : FVec Ideal S8x128 .f32) :
    k0_pay15 (F := Ideal) S = transpose S128x128 [1, 0] (concatenate S128x128 0 (List.replicate 16 ⟨S8x128, rootRows S⟩) concatenates_S8x128_S8x128_S8x128_S8x128_S8x128_S8x128_S8x128_S8x128_S8x128_S8x128_S8x128_S8x128_S8x128_S8x128_S8x128_S8x128_S128x128_d0) transposes_S128x128_p1_0_S128x128 := by
  unfold k0_pay15 rootRows rotV
  rfl
theorem pay15_apply (S : FVec Ideal S8x128 .f32) (i l : Fin 128) :
    k0_pay15 (F := Ideal) S (ix2 i l) = rootRows S (ix2 ⟨l.val % 8, Nat.mod_lt _ (by norm_num)⟩ i) := by
  rw [pay15_def]
  refine concatenate_replicate_apply (t := S128x128) (s₁ := S8x128) 0 16 (rootRows S) _ rfl _ (ix2 ⟨l.val % 8, Nat.mod_lt _ (by norm_num)⟩ i) ?_ fun b hb => ?_
  · rfl
  match b with
  | ⟨0, _⟩ => exact absurd rfl hb
  | ⟨1, _⟩ => rfl

/-! ### The rows' sums of squares, in one order -/

/-- A sum in blocks of `n`. -/
theorem sum_blocks (f : ℕ → EReal) (n : ℕ) : ∀ m, ∑ j ∈ Finset.range (n * m), f j = ∑ a ∈ Finset.range m, ∑ b ∈ Finset.range n, f (n * a + b)
  | 0 => by simp
  | m + 1 => by rw [Nat.mul_succ, Finset.sum_range_add, sum_blocks f n m, Finset.sum_range_succ]

/-- The body's order of addition, and the plain one. -/
theorem sum_order (f : ℕ → EReal) :
    ∑ b : Fin 8, ∑ k : Fin 16, ∑ g ∈ Finset.range 64, f (128 * g + (8 * k.val + b.val)) = ∑ j : Fin 8192, f j.val := by
  rw [← Finset.sum_range (fun j => f j), show (8192 : ℕ) = 128 * 64 from rfl, sum_blocks f 128 64, Finset.sum_comm]
  rw [Finset.sum_comm (s := Finset.range 64)]
  rw [show Finset.range 128 = Finset.range (8 * 16) from rfl, sum_blocks (fun l => ∑ g ∈ Finset.range 64, f (128 * g + l)) 8 16]
  rw [← Finset.sum_range (fun k => ∑ b : Fin 8, ∑ g ∈ Finset.range 64, f (128 * g + (8 * k + b.val)))]
  refine Finset.sum_congr rfl fun k _ => ?_
  rw [← Finset.sum_range (fun b => ∑ g ∈ Finset.range 64, f (128 * g + (8 * k + b)))]

/-- Times 2⁻¹³ is over 8192. -/
theorem mean_eq (x : EReal) : x * Ideal.ofBits .f32 0x39000000#32 = Ideal.div x (Ideal.ofBits .f32 0x46000000#32) := by
  rw [ofBits_pw 114 (by norm_num) (by norm_num) _ (by decide), ofBits_pw 140 (by norm_num) (by norm_num) _ (by decide), Ideal.div_coe (pw_pos 140).ne']
  congr 2
  unfold pw; norm_num

section
variable (x0 : Vec Ideal S128x8192 .bf16) (x1 : Vec Ideal S1x8192 .bf16)

/-- Row `i` of the block, -/
def blkX (i : Fin 128) (k : Fin 8192) : EReal := x0 (ix2 i k)
/-- and the weights. -/
def blkW (k : Fin 8192) : EReal := x1 (ix2 0 k)

/-- The rows' reciprocal roots. -/
theorem rootV_apply (i l : Fin 128) : rootV (F := Ideal) x0 (ix2 i l) = rootOf (blkX x0 i) := by
  unfold rootV rootOf
  rw [pay15_apply, rootRows_apply, rotV_apply, mean_eq]
  refine congrArg (fun s => Ideal.rsqrt (Ideal.div s (Ideal.ofBits .f32 0x46000000#32) + Ideal.ofBits .f32 0x358637BD#32)) ?_
  let f : ℕ → EReal := fun j => if h : j < 8192 then blkX x0 i ⟨j, h⟩ * blkX x0 i ⟨j, h⟩ else 0
  have hf : ∀ j : Fin 8192, blkX x0 i j * blkX x0 i j = f j.val := fun j => by
    show _ = dite _ _ _
    rw [dif_pos j.isLt]
  rw [Finset.sum_congr rfl fun j _ => hf j, ← sum_order f]
  refine Finset.sum_congr rfl fun b _ => ?_
  rw [foldV_apply]
  refine Finset.sum_congr rfl fun k _ => ?_
  refine accV_apply x0 i _ (fun g => f (128 * g + (8 * k.val + b.val))) (fun n hn => ?_) 63 (by norm_num)
  rw [sqV_apply x0 n hn]
  have hk := k.isLt
  have hb := b.isLt
  show _ = dite _ _ _
  rw [dif_pos (show 128 * n + (8 * k.val + b.val) < 8192 by omega)]
  rfl

/-- A normalised entry, of any row roots. -/
theorem normV_apply (R : FVec Ideal S128x128 .f32) (x : Vec Ideal S128x128 .bf16) (w : Vec Ideal S1x128 .bf16) (i l : Fin 128) :
    normV (F := Ideal) R x w (ix2 i l) = (x (ix2 i l) * R (ix2 i l) * w (ix2 0 l) : EReal) := by
  pointwise [normV]
/-- A group's largest magnitude over 448. -/
theorem maxV_apply (v : FVec Ideal S128x128 .f32) (i : Fin 128) (z : Fin 1) : maxV (F := Ideal) v (ix2 i z) = groupT fun k => v (ix2 i k) := by
  unfold groupT
  pointwise [maxV]
theorem scaleV_apply (T : FVec Ideal S128x1 .f32) (y : S128x1.Idx) : scaleV (F := Ideal) T y = kscale (T y) := rfl
theorem invV_apply (T : FVec Ideal S128x1 .f32) (y : S128x1.Idx) : invV (F := Ideal) T y = kinv (T y) := rfl
/-- A code, of any columns. -/
theorem codesV_apply (v : FVec Ideal S128x128 .f32) (i l : Fin 128) :
    codesV (F := Ideal) v (ix2 i l) = clip (v (ix2 i l) * kinv (groupT fun k => v (ix2 i k))) := by
  rw [← maxV_apply v i 0, ← invV_apply]
  unfold codesV clip
  generalize invV (F := Ideal) (maxV v) = I
  pointwise []

/-- An entry of a group. -/
theorem grpV_apply (n : ℕ) (hn : n < 64) (i l : Fin 128) :
    grpV (F := Ideal) x0 x1 n (ix2 i l) = rowNorm (blkX x0 i) (blkW x1) ⟨n * 128 + l.val, by have := l.isLt; omega⟩ := by
  unfold grpV rowNorm
  refine (normV_apply _ _ _ i l).trans ?_
  rw [rootV_apply, ldX_apply x0 n hn, ldW_apply x1 n hn]
  have e : (⟨128 * n + l.val, by have := l.isLt; omega⟩ : Fin 8192) = ⟨n * 128 + l.val, by have := l.isLt; omega⟩ := Fin.ext (by show 128 * n + l.val = n * 128 + l.val; omega)
  rw [e]
  rfl
/-- The group's largest magnitude over 448. -/
theorem grpT_apply (n : ℕ) (hn : n < 64) (i : Fin 128) :
    (groupT fun k => grpV (F := Ideal) x0 x1 n (ix2 i k)) = rowT (blkX x0 i) (blkW x1) ⟨n, hn⟩ := by
  unfold rowT
  exact congrArg groupT (funext fun k => grpV_apply x0 x1 n hn i k)

/-- The block's codes, -/
def blkC : Vec Ideal S128x8192 .fp8e4m3 := fun y => rowCode (blkX x0 (y 0)) (blkW x1) (y 1)
/-- and its scales. -/
def blkS : Vec Ideal S128x64 .f32 := fun y => kscale (rowT (blkX x0 (y 0)) (blkW x1) (y 1))

/-- A code stored. -/
theorem piece_apply (n : ℕ) (hn : n < 64) (i l : Fin 128) :
    codesV (F := Ideal) (grpV x0 x1 n) (ix2 i l) = rowCode (blkX x0 i) (blkW x1) ⟨128 * n + l.val, by have := l.isLt; omega⟩ := by
  rw [codesV_apply, grpV_apply x0 x1 n hn, grpT_apply x0 x1 n hn]
  unfold rowCode
  have hl := l.isLt
  refine congrArg₂ (fun a b => clip (rowNorm (blkX x0 i) (blkW x1) a * kinv (rowT (blkX x0 i) (blkW x1) b))) (Fin.ext ?_) (Fin.ext ?_)
  · show n * 128 + l.val = 128 * n + l.val; omega
  · show n = (128 * n + l.val) / 128; omega

/-- A stored group is its columns of the codes. -/
theorem piece_at (n : ℕ) (hn : n < 64) (x : S128x128.Idx) :
    codesV (F := Ideal) (grpV x0 x1 n) x = blkC x0 x1 ((xRect n).emb x) := by
  have ex : x = ix2 (x 0) (x 1) := funext fun a => by match a with | ⟨0, _⟩ => rfl | ⟨1, _⟩ => rfl
  have h0 : (x 0).val < 128 := (x 0).isLt
  have h1 : (x 1).val < 128 := (x 1).isLt
  have e0 : (xRect n).emb x 0 = (x 0 : Fin 128) := Fin.ext (by show 0 + 1 * (x 0).val = (x 0).val; omega)
  have e1 : (xRect n).emb x 1 = (⟨128 * n + (x 1).val, by omega⟩ : Fin 8192) := Fin.ext (by show 128 * (n % 64) + 1 * (x 1).val = 128 * n + (x 1).val; omega)
  have h : blkC x0 x1 ((xRect n).emb x) = rowCode (blkX x0 (x 0)) (blkW x1) ⟨128 * n + (x 1).val, by omega⟩ := by
    unfold blkC
    exact congrArg₂ (fun a b => rowCode (blkX x0 a) (blkW x1) b) e0 e1
  rw [h]
  exact (congrArg (codesV (F := Ideal) (grpV x0 x1 n)) ex).trans (piece_apply x0 x1 n hn (x 0) (x 1))

/-- The codes the body leaves. -/
theorem out2_eq : out0_2 (F := Ideal) x0 x1 = blkC x0 x1 := by
  rw [codes_pieces]
  refine canon_lastFirst (blkC x0 x1) _ 64 (fun n hn x => piece_at x0 x1 n hn x) fun y => ?_
  have h0 : (y 0).val < 128 := (y 0).isLt
  have h1 : (y 1).val < 8192 := (y 1).isLt
  refine ⟨(y 1).val / 128, by omega, ?_⟩
  refine (Rect.mem_set_unit (inb := xOff_inb _)).mpr fun a => ?_
  match a with
  | ⟨0, _⟩ => show 0 ≤ (y 0).val ∧ (y 0).val < 0 + 128; omega
  | ⟨1, _⟩ => show 128 * ((y 1).val / 128 % 64) ≤ (y 1).val ∧ (y 1).val < 128 * ((y 1).val / 128 % 64) + 128; omega

/-- The scales after `n` groups. -/
theorem scalesV_apply (i : Fin 128) (g : Fin 64) : ∀ n ≤ 64, scalesV (F := Ideal) x0 x1 n (ix2 i g)
      = if g.val < n then kscale (rowT (blkX x0 i) (blkW x1) g) else Ideal.ofBits .f32 0x00000000#32
  | 0, _ => by rw [if_neg (Nat.not_lt_zero _)]; rfl
  | n + 1, h => by
    have hs : scalesV (F := Ideal) x0 x1 (n + 1) (ix2 i g)
        = Scalar.select (IntOp.cmpi .eq (BitVec.ofNat 32 g.val) (BitVec.ofNat 32 n)) (scaleV (maxV (grpV (F := Ideal) x0 x1 n)) (ix2 i 0)) (scalesV (F := Ideal) x0 x1 n (ix2 i g)) := by
      rw [scalesV]
      generalize scaleV (maxV (grpV (F := Ideal) x0 x1 n)) = T
      generalize scalesV (F := Ideal) x0 x1 n = S
      pointwise []
    rw [hs, scalesV_apply i g n (by omega), scaleV_apply, maxV_apply, grpT_apply x0 x1 n (by omega)]
    have hg := g.isLt
    by_cases e : g.val = n
    · subst e
      rw [show IntOp.cmpi .eq (BitVec.ofNat 32 g.val) (BitVec.ofNat 32 g.val) = 1#1 from IntOp.cmpi_eq_self _, if_pos (Nat.lt_succ_self _)]
      rfl
    · have hc : IntOp.cmpi .eq (BitVec.ofNat 32 g.val) (BitVec.ofNat 32 n) = 0#1 := by
        have hne : BitVec.ofNat 32 g.val ≠ BitVec.ofNat 32 n := fun h' => e (by
          have := congrArg BitVec.toNat h'
          rw [BitVec.toNat_ofNat, BitVec.toNat_ofNat] at this
          omega)
        show BitVec.ofBool (BitVec.ofNat 32 g.val == BitVec.ofNat 32 n) = _
        rw [beq_false_of_ne hne]; rfl
      rw [hc]
      show (if g.val < n then _ else _) = _
      by_cases hl : g.val < n
      · rw [if_pos hl, if_pos (by omega)]
      · rw [if_neg hl, if_neg (by omega)]

theorem hz : (![0, 0] : Fin 2 → Nat) = fun _ => 0 := funext fun a => by fin_cases a <;> rfl
/-- The scales the body leaves. -/
theorem out3_eq : out0_3 (F := Ideal) x0 x1 = blkS x0 x1 := by
  rw [scales_pieces, View.canon_unit_zero hz]
  funext y; idx_vars y
  rw [scalesV_apply x0 x1 y0 y1 64 le_rfl, if_pos y1.isLt]
  rfl
end

end Cert.NormIdeal.Hand

end
-- ==== Proof.Norm.Final.lean ====
/- The normalisation's final arrays: every block of rows is its block of one function of the arguments, and the blocks cover the
   arrays. -/
module

public import proofs.«01_k».proof.Proof.Norm.Value
public import Idealize.ShloMosaic.Lib.Pipeline.ValueKit.Geometry

@[expose] public section

set_option maxRecDepth 16384

noncomputable section

namespace Cert.NormIdeal.Hand

open Cert.NormIdeal Cert.NormIdeal.Gen Cert.Tiles Cert.Quant Idealize.ShloMosaic Idealize.ShloMosaic.TcCoe Idealize.SL.Sem
open Cert.NormRefIdeal.Hand (rootOf rowNorm rowT rowCode rowX wts normC normS)
open scoped BigOperators

/-- The windows' block numbers: rows and both results follow the point, the weights stay. -/
theorem win_idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem t_lt (t : Fin cfg0.N) : t.val < 64 := lt_of_lt_of_eq t.isLt N_0

/-- An index is its two coordinates. -/
theorem eta2 {a b : ℕ} (j : (⟨2, ![a, b]⟩ : Shape).Idx) (r : Fin a) (q : Fin b) (hr : (j 0).val = r.val) (hq : (j 1).val = q.val) : j = ix2 r q := by
  refine funext fun x => Fin.ext ?_
  match x with
  | ⟨0, _⟩ => exact hr
  | ⟨1, _⟩ => exact hq

/-- Row `r` of the reshaped activations is row `r % 1024` of batch `r / 1024`, -/
theorem castX {α : Type} (v : S8x1024x8192.Idx → α) (r k : Fin 8192) :
    shapeCast S8192x8192 v shapeCasts_S8x1024x8192_S8192x8192 (ix2 r k) = v (ix3 ⟨r.val / 1024, by have := r.isLt; omega⟩ ⟨r.val % 1024, Nat.mod_lt _ (by norm_num)⟩ k) := by
  pointwise []
/-- and the reshaped weights are the weights. -/
theorem castW {α : Type} (v : S8192.Idx → α) (z : Fin 1) (k : Fin 8192) :
    shapeCast S1x8192 v shapeCasts_S8192_S1x8192 (ix2 z k) = v (ix1 k) := by
  pointwise []

variable (m : (ℓ : Loc nD τ sig) → Buf (Elt Ideal) ℓ) (ρ : Dev nD → PrngReg)

/-- The activations argument, -/
abbrev A0 (c : Dev nD) : Vec Ideal S8x1024x8192 .bf16 := m ((c.tc : Thread nD τ).loc main_arg0)
/-- and the weights. -/
abbrev A1 (c : Dev nD) : Vec Ideal S8192 .bf16 := m ((c.tc : Thread nD τ).loc main_arg1)

/-- What the first reshape leaves, -/
theorem V_v0 (c : Dev nD) : V m c main_v0 = shapeCast S8192x8192 (A0 m c) shapeCasts_S8x1024x8192_S8192x8192 := by
  show StableHlo.after hostOps0 _ (Proc.devRef .tc main_v0) = _
  rw [StableHlo.after_cons, StableHlo.after_cons, StableHlo.after_nil, StableHlo.reshape_result_ne (h := (by decide : main_v0 ≠ main_v1)), StableHlo.reshape_result]
  rfl
/-- and the second. -/
theorem V_v1 (c : Dev nD) : V m c main_v1 = shapeCast S1x8192 (A1 m c) shapeCasts_S8192_S1x8192 := by
  show StableHlo.after hostOps0 _ (Proc.devRef .tc main_v1) = _
  rw [StableHlo.after_cons, StableHlo.after_cons, StableHlo.after_nil, StableHlo.reshape_result, StableHlo.reshape_result_ne (h := (by decide : main_arg1 ≠ main_v0))]
  rfl

/-- Point `t`'s rows are rows `128 t` on. -/
theorem blkX_eq (c : Dev nD) (t : Fin cfg0.N) (i : Fin 128) (r : Fin 8192) (hr : r.val = 128 * t.val + i.val) :
    blkX (iblk m c 0 t) i = rowX (A0 m c) r := by
  funext k
  have e := (win_idx t).1
  refine Eq.trans ?_ (castX (A0 m c) r k)
  show V m c main_v0 _ = _
  rw [V_v0]
  refine congrArg _ (eta2 _ r k ?_ ?_)
  · show win0_0.index t 0 * 128 + 1 * i.val = r.val
    rw [show win0_0.index t 0 = t.val from congrFun e 0]; omega
  · show win0_0.index t 1 * 8192 + 1 * k.val = k.val
    rw [show win0_0.index t 1 = 0 from congrFun e 1, Nat.zero_mul, Nat.zero_add, Nat.one_mul]
/-- Every point has the weights. -/
theorem blkW_eq (c : Dev nD) (t : Fin cfg0.N) : blkW (iblk m c 1 t) = wts (A1 m c) := by
  funext k
  have e := (win_idx t).2.1
  refine Eq.trans ?_ (castW (A1 m c) 0 k)
  show V m c main_v1 _ = _
  rw [V_v1]
  refine congrArg _ (eta2 _ 0 k ?_ ?_)
  · show win0_1.index t 0 * 1 + 1 * 0 = 0
    rw [show win0_1.index t 0 = 0 from congrFun e 0]
  · show win0_1.index t 1 * 8192 + 1 * k.val = k.val
    rw [show win0_1.index t 1 = 0 from congrFun e 1, Nat.zero_mul, Nat.zero_add, Nat.one_mul]

/-- A point's codes are its rows of the codes, -/
theorem codes_at (c : Dev nD) (t : Fin cfg0.N) (y : S128x8192.Idx) (j : S8192x8192.Idx) (hr : (j 0).val = 128 * t.val + (y 0).val) (hq : (j 1).val = (y 1).val) :
    (dats m 0 c).after 2 t y = normC (A0 m c) (A1 m c) j := by
  rw [after0_2, out2_eq]
  show rowCode (blkX (iblk m c 0 t) (y 0)) (blkW (iblk m c 1 t)) (y 1) = rowCode (rowX (A0 m c) (j 0)) (wts (A1 m c)) (j 1)
  rw [blkX_eq m c t (y 0) (j 0) hr, blkW_eq]
  exact congrArg _ (Fin.ext hq.symm)
/-- and its scales its rows of the scales. -/
theorem scales_at (c : Dev nD) (t : Fin cfg0.N) (y : S128x64.Idx) (j : S8192x64.Idx) (hr : (j 0).val = 128 * t.val + (y 0).val) (hq : (j 1).val = (y 1).val) :
    (dats m 0 c).after 3 t y = normS (A0 m c) (A1 m c) j := by
  rw [after0_3, out3_eq]
  show kscale (rowT (blkX (iblk m c 0 t) (y 0)) (blkW (iblk m c 1 t)) (y 1)) = kscale (rowT (rowX (A0 m c) (j 0)) (wts (A1 m c)) (j 1))
  rw [blkX_eq m c t (y 0) (j 0) hr, blkW_eq]
  exact congrArg (fun g => kscale (rowT (rowX (A0 m c) (j 0)) (wts (A1 m c)) g)) (Fin.ext hq.symm)

/-- The codes' array ends at the codes, -/
theorem array_c (c : Dev nD) : (dats m 0 c).arrAt 2 cfg0.N = normC (A0 m c) (A1 m c) := by
  refine (dats m 0 c).arrAt_eq_of_covers 2 _ (by decide +kernel) fun t hf y => ?_
  have e := (win_idx t).2.2.1
  refine codes_at m c t ((cfg0.win 2).xinj (grid0.coords t) y) (((cfg0.win 2).blk t).view.emb y : S8192x8192.Idx) ?_ ?_
  · show win0_2.index t 0 * 128 + 1 * (y 0).val = 128 * t.val + (y 0).val
    rw [show win0_2.index t 0 = t.val from congrFun e 0]; omega
  · show win0_2.index t 1 * 8192 + 1 * (y 1).val = (y 1).val
    rw [show win0_2.index t 1 = 0 from congrFun e 1, Nat.zero_mul, Nat.zero_add, Nat.one_mul]
/-- and the scales' at the scales. -/
theorem array_s (c : Dev nD) : (dats m 0 c).arrAt 3 cfg0.N = normS (A0 m c) (A1 m c) := by
  refine (dats m 0 c).arrAt_eq_of_covers 3 _ (by decide +kernel) fun t hf y => ?_
  have e := (win_idx t).2.2.2
  refine scales_at m c t ((cfg0.win 3).xinj (grid0.coords t) y) (((cfg0.win 3).blk t).view.emb y : S8192x64.Idx) ?_ ?_
  · show win0_3.index t 0 * 128 + 1 * (y 0).val = 128 * t.val + (y 0).val
    rw [show win0_3.index t 0 = t.val from congrFun e 0]; omega
  · show win0_3.index t 1 * 64 + 1 * (y 1).val = (y 1).val
    rw [show win0_3.index t 1 = 0 from congrFun e 1, Nat.zero_mul, Nat.zero_add, Nat.one_mul]

/-- The run's results and arguments. -/
theorem run_value : θ_run defs (onTc (τ := τ) (main (F := Ideal))) ⟨m, fun _ => 0, ρ⟩ (fun r => ∀ c : Dev nD,
      r.2.mem ((c.tc : Thread nD τ).loc main_v2_0) = normC (A0 m c) (A1 m c)
      ∧ r.2.mem ((c.tc : Thread nD τ).loc main_v2_1) = normS (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 2).trans (array_c m c), ((h c).1 3).trans (array_s m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.NormIdeal.Hand

end
-- ==== Proof.Norm.RefRun.lean ====
/- The run of the reference normalisation: its one point writes both arrays whole, so each ends as its payload of the arguments. -/
module

public import proofs.«01_k».proof.Proof.Gen.NormRefIdeal.Frame
public import Idealize.ShloMosaic.Lib.Pipeline.Value

@[expose] public section

set_option maxRecDepth 16384

noncomputable section

namespace Cert.NormRefIdeal.Hand

open Cert.NormRefIdeal Cert.NormRefIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S8x1024x8192.Idx) : ((cfg0.win 0).blk t).view.emb j = j := by
  obtain ⟨e0, e1, e2⟩ := idx_zero0 t
  funext a; apply Fin.ext
  match a with
  | ⟨0, _⟩ => show win0_0.index t (0 : Fin 3) * 8 + 1 * (j 0).val = (j 0).val; omega
  | ⟨1, _⟩ => show win0_0.index t (1 : Fin 3) * 1024 + 1 * (j 1).val = (j 1).val; omega
  | ⟨2, _⟩ => show win0_0.index t (2 : Fin 3) * 8192 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S8192.Idx) : ((cfg0.win 1).blk t).view.emb j = j := by
  have e0 := idx_zero1 t
  funext a; apply Fin.ext
  match a with
  | ⟨0, _⟩ => show win0_1.index t (0 : Fin 1) * 8192 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S8192x8192.Idx) : ((cfg0.win 2).blk t).view.emb j = j := by
  obtain ⟨e0, e1⟩ := idx_zero2 t
  funext a; apply Fin.ext
  match a with
  | ⟨0, _⟩ => show win0_2.index t (0 : Fin 2) * 8192 + 1 * (j 0).val = (j 0).val; omega
  | ⟨1, _⟩ => show win0_2.index t (1 : Fin 2) * 8192 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S8192x64.Idx) : ((cfg0.win 3).blk t).view.emb j = j := by
  obtain ⟨e0, e1⟩ := idx_zero3 t
  funext a; apply Fin.ext
  match a with
  | ⟨0, _⟩ => show win0_3.index t (0 : Fin 2) * 8192 + 1 * (j 0).val = (j 0).val; omega
  | ⟨1, _⟩ => show win0_3.index t (1 : Fin 2) * 64 + 1 * (j 1).val = (j 1).val; omega

/-! ### Output window 2: the array after the run -/

/-- What the window's array ends holding: the payload the body stores there, of the argument arrays. -/
abbrev G2 (a0 : Vec F S8x1024x8192 .bf16) (a1 : Vec F S8192 .bf16) : Vec F S8192x8192 .fp8e4m3 :=
  k0_pay1 (k0_pay2 a0 a1) (k0_pay5 a0 a1)

/-- A load of the whole of a block reads the block, and the one store through the whole rectangle leaves its payload. -/
theorem out2_eq (a0 : Vec F S8x1024x8192 .bf16) (a1 : Vec F S8192 .bf16) : out0_2 (F := F) a0 a1 = G2 a0 a1 := by
  unfold out0_2
  rw [View.canon_unit_zero hz2, View.ld_unit_zero (S := S8x1024x8192) hz0 _ a0, View.ld_unit_zero (S := S8192) hz1 _ a1]

/-- Cutting the point's block out of `X` and reading `X` through the block's view give the same. -/
theorem cut2_eq (t : Fin cfg0.N) (X : Vec F S8192x8192 .fp8e4m3) :
    (cfg0.win 2).cut (grid0.coords t) X = ((cfg0.win 2).blk t).view.read (Elt F) X := by
  funext j
  show X j = X (((cfg0.win 2).blk t).view.emb j)
  rw [emb2]

/-- What the point writes back is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S8192x8192.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- The array after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: the payload the body stores there, of the argument arrays. -/
abbrev G3 (a0 : Vec F S8x1024x8192 .bf16) (a1 : Vec F S8192 .bf16) : Vec F S8192x64 .f32 :=
  k0_pay4 a0 a1

/-- A load of the whole of a block reads the block, and the one store through the whole rectangle leaves its payload. -/
theorem out3_eq (a0 : Vec F S8x1024x8192 .bf16) (a1 : Vec F S8192 .bf16) : out0_3 (F := F) a0 a1 = G3 a0 a1 := by
  unfold out0_3
  rw [View.canon_unit_zero hz3, View.ld_unit_zero (S := S8x1024x8192) hz0 _ a0, View.ld_unit_zero (S := S8192) hz1 _ a1]

/-- Cutting the point's block out of `X` and reading `X` through the block's view give the same. -/
theorem cut3_eq (t : Fin cfg0.N) (X : Vec F S8192x64 .f32) :
    (cfg0.win 3).cut (grid0.coords t) X = ((cfg0.win 3).blk t).view.read (Elt F) X := by
  funext j
  show X j = X (((cfg0.win 3).blk t).view.emb j)
  rw [emb3]

/-- What the point writes back is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S8192x64.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- The array after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      kept_main_arg0 m r h c,
      kept_main_arg1 m r h c⟩)
    (run_main m ρ)

end Cert.NormRefIdeal.Hand

end
-- ==== Proof.Norm.Ref.lean ====
/- The reference normalisation's payloads: its reshapes only rename indices, and its power-of-two scale is the one the search
   finds. -/
module

public import proofs.«01_k».proof.Proof.Norm.Spec
public import proofs.«01_k».proof.Proof.Norm.RefRun

@[expose] public section

set_option maxRecDepth 16384

noncomputable section

namespace Cert.NormRefIdeal.Hand

open Cert.NormRefIdeal Cert.NormRefIdeal.Gen Idealize.ShloMosaic Idealize.ShloMosaic.TcCoe Idealize.SL.Sem
open Cert.ProjIdeal.Hand (groupT clip)
open scoped BigOperators

/-- A group's maximum, as a fold over its 128 channels. -/
theorem groupMax_eq (v : Vec Ideal S8192x64x128 .f32) (r : Fin 8192) (g : Fin 64) :
    multiReduction (F := Ideal) .maximumf [2] S8192x64 v 0xFF800000#32 reduces_S8192x64x128_S8192x64 (.inl rfl) rfl (ix2 r g)
      = (Finset.univ : Finset (Fin 128)).fold max (Ideal.ofBits .f32 0xFF800000#32) (fun k => v (ix3 r g k)) := by
  refine (Ideal.multiReduction_maximumf_single v _ _ _ _ _).trans ?_
  refine congrArg (fun f : Fin 128 → EReal => (Finset.univ : Finset (Fin 128)).fold max (Ideal.ofBits .f32 0xFF800000#32) f) (funext fun k => ?_)
  refine congrArg v (funext fun a => ?_)
  match a with
  | ⟨0, _⟩ => rfl
  | ⟨1, _⟩ => rfl
  | ⟨2, _⟩ => rfl

/-- The groups' largest magnitudes over 448, of any channels. -/
def groupMaxes (h : Vec Ideal S8192x64x128 .f32) : Vec Ideal S8192x64 .f32 :=
  mulf (F := Ideal) (multiReduction (F := Ideal) .maximumf [2] S8192x64 (absf (F := Ideal) h) 0xFF800000#32 reduces_S8192x64x128_S8192x64 (.inl rfl) rfl)
    (broadcast S8192x64 (Scalar.ofBits (F := Ideal) .f32 0x3B124925#32))
/-- A product of arrays, at an index, -/
theorem mulf_at {S : Shape} (a b : FVec Ideal S .f32) (y : S.Idx) : mulf (F := Ideal) a b y = (a y * b y : EReal) := rfl
/-- and magnitudes. -/
theorem absf_at {S : Shape} (a : FVec Ideal S .f32) (y : S.Idx) : absf (F := Ideal) a y = FloatOps.absf (F := Ideal) (φ := .f32) (a y) := rfl
/-- One of them. -/
theorem groupMaxes_apply (h : Vec Ideal S8192x64x128 .f32) (r : Fin 8192) (g : Fin 64) :
    groupMaxes h (ix2 r g) = groupT fun k => h (ix3 r g k) := by
  unfold groupMaxes groupT
  rw [mulf_at, groupMax_eq]
  simp only [absf_at]
  refine congrArg₂ (fun a b : EReal => a * b) (Eq.refl _) ?_
  rfl

/-- The exponents, of any groups' maxima. -/
def expsV (T : FVec Ideal S8192x64 .f32) : FVec Ideal S8192x64 .f32 :=
  select (cmpf .olt T (broadcast S8192x64 (Scalar.ofBits (F := Ideal) .f32 0x00800000#32))) (broadcast S8192x64 (Scalar.ofBits (F := Ideal) .f32 0x00000000#32))
    (minimumf (broadcast S8192x64 (Scalar.ofBits (F := Ideal) .f32 0x42FC0000#32)) (maximumf (broadcast S8192x64 (Scalar.ofBits (F := Ideal) .f32 0xC2FA0000#32))
      (addf (floor (divf (log T) (log (broadcast S8192x64 (Scalar.ofBits (F := Ideal) .f32 0x40000000#32))))) (broadcast S8192x64 (Scalar.ofBits (F := Ideal) .f32 0x3F800000#32)))))
theorem expsV_apply (T : FVec Ideal S8192x64 .f32) (y : S8192x64.Idx) : expsV T y = Cert.Quant.rexp (T y) := rfl

/-- A group's channel is a channel of the row. -/
theorem cast23 {α : Type} (v : S8192x8192.Idx → α) (r : Fin 8192) (g : Fin 64) (k : Fin 128) :
    shapeCast S8192x64x128 v shapeCasts_S8192x8192_S8192x64x128 (ix3 r g k) = v (ix2 r ⟨g.val * 128 + k.val, by have := g.isLt; have := k.isLt; omega⟩) := by
  pointwise []
/-- A row is one of 1024 of one of 8. -/
theorem cast32 {α : Type} (v : S8x1024x8192.Idx → α) (r k : Fin 8192) :
    shapeCast S8192x8192 v shapeCasts_S8x1024x8192_S8192x8192 (ix2 r k) = v (ix3 ⟨r.val / 1024, by have := r.isLt; omega⟩ ⟨r.val % 1024, Nat.mod_lt _ (by norm_num)⟩ k) := by
  pointwise []
/-- The rows' sums. -/
def sumV (v : FVec Ideal S8x1024x8192 .f32) : FVec Ideal S8x1024x1 .f32 :=
  shapeCast S8x1024x1 (multiReduction .add [2] S8x1024 v 0x00000000#32 reduces_S8x1024x8192_S8x1024 (.inl rfl) rfl) shapeCasts_S8x1024_S8x1024x1
theorem sumV_apply (v : FVec Ideal S8x1024x8192 .f32) (b : Fin 8) (s : Fin 1024) (z : Fin 1) :
    sumV v (ix3 b s z) = ∑ k : Fin 8192, (v (ix3 b s k) : EReal) := by
  pointwise [sumV]
/-- One value a row, put in every column, -/
theorem bcRow {α : Type} (v : S8x1024x1.Idx → α) (b : Fin 8) (s : Fin 1024) (k : Fin 8192) :
    broadcastTo S8x1024x8192 v broadcasts_S8x1024x1_S8x1024x8192 (ix3 b s k) = v (ix3 b s 0) := by
  pointwise []
/-- and one value a column, put in every row. -/
theorem bcCol {α : Type} (v : S8192.Idx → α) (b : Fin 8) (s : Fin 1024) (k : Fin 8192) :
    broadcastTo S8x1024x8192 (shapeCast S1x1x8192 v shapeCasts_S8192_S1x1x8192) broadcasts_S1x1x8192_S8x1024x8192 (ix3 b s k) = v (ix1 k) := by
  pointwise []

/-- The rows' reciprocal roots. -/
def rootsV (x : FVec Ideal S8x1024x8192 .f32) : FVec Ideal S8x1024x1 .f32 :=
  rsqrt (addf (divf (sumV (mulf x x)) (broadcast S8x1024x1 (Scalar.ofBits (F := Ideal) .f32 0x46000000#32))) (broadcast S8x1024x1 (Scalar.ofBits (F := Ideal) .f32 0x358637BD#32)))
theorem rootsV_apply (x : FVec Ideal S8x1024x8192 .f32) (b : Fin 8) (s : Fin 1024) (z : Fin 1) :
    rootsV x (ix3 b s z) = rootOf fun k => x (ix3 b s k) := by
  have h : rootsV x (ix3 b s z) = Ideal.rsqrt (Ideal.div (sumV (mulf x x) (ix3 b s z)) (Ideal.ofBits .f32 0x46000000#32) + Ideal.ofBits .f32 0x358637BD#32) := rfl
  rw [h, sumV_apply]
  rfl
/-- The normalised rows. -/
def normedV (x : FVec Ideal S8x1024x8192 .f32) (w : FVec Ideal S8192 .f32) : FVec Ideal S8x1024x8192 .f32 :=
  mulf (mulf x (broadcastTo S8x1024x8192 (rootsV x) broadcasts_S8x1024x1_S8x1024x8192))
    (broadcastTo S8x1024x8192 (shapeCast S1x1x8192 w shapeCasts_S8192_S1x1x8192) broadcasts_S1x1x8192_S8x1024x8192)
theorem normedV_apply (x : FVec Ideal S8x1024x8192 .f32) (w : FVec Ideal S8192 .f32) (b : Fin 8) (s : Fin 1024) (k : Fin 8192) :
    normedV x w (ix3 b s k) = rowNorm (fun k => x (ix3 b s k)) (fun k => w (ix1 k)) k := by
  unfold normedV rowNorm
  rw [mulf_at, mulf_at, bcRow, bcCol, rootsV_apply]

section
variable (a0 : Vec Ideal S8x1024x8192 .bf16) (a1 : Vec Ideal S8192 .bf16)

/-- The normalised channels in groups are a renaming of the normalised rows. -/
theorem pay2_def : k0_pay2 (F := Ideal) a0 a1 = shapeCast S8192x64x128 (shapeCast S8192x8192
    (normedV (extf (F := Ideal) .f32 a0 bitsLt_bf16_f32) (extf (F := Ideal) .f32 a1 bitsLt_bf16_f32))
    shapeCasts_S8x1024x8192_S8192x8192) shapeCasts_S8192x8192_S8192x64x128 := by
  unfold k0_pay2 normedV rootsV sumV
  with_reducible rfl
/-- The normalised channels, in groups. -/
theorem pay2_eq (r : Fin 8192) (g : Fin 64) (k : Fin 128) :
    k0_pay2 (F := Ideal) a0 a1 (ix3 r g k) = rowNorm (rowX a0 r) (wts a1) ⟨g.val * 128 + k.val, by have := g.isLt; have := k.isLt; omega⟩ := by
  rw [pay2_def, cast23, cast32, normedV_apply]
  rfl

/-- The exponents are those of the groups' maxima. -/
theorem pay3_def : k0_pay3 (F := Ideal) a0 a1 = expsV (groupMaxes (k0_pay2 a0 a1)) := by
  unfold k0_pay3 expsV groupMaxes
  with_reducible rfl
/-- A group's largest magnitude over 448. -/
theorem maxes_eq (r : Fin 8192) (g : Fin 64) : groupMaxes (k0_pay2 (F := Ideal) a0 a1) (ix2 r g) = rowT (rowX a0 r) (wts a1) g := by
  rw [groupMaxes_apply]
  unfold rowT
  exact congrArg groupT (funext fun k => pay2_eq a0 a1 r g k)
/-- An exponent. -/
theorem pay3_eq (r : Fin 8192) (g : Fin 64) : k0_pay3 (F := Ideal) a0 a1 (ix2 r g) = Cert.Quant.rexp (rowT (rowX a0 r) (wts a1) g) := by
  rw [pay3_def, expsV_apply, maxes_eq]

/-- An exponential of two, at an index. -/
theorem exp2_at {S : Shape} (a : FVec Ideal S .f32) (y : S.Idx) : exp2 (F := Ideal) a y = Ideal.exp2 (a y) := rfl
/-- The scales. -/
theorem scales_eq : G3 (F := Ideal) a0 a1 = normS a0 a1 := by
  funext y; idx_vars y
  unfold G3 k0_pay4 normS
  rw [exp2_at, pay3_eq, ← Cert.Quant.kscale_eq]
  rfl

/-- A group's value, put in each of its channels. -/
theorem bcGroup {α : Type} (v : S8192x64.Idx → α) (r : Fin 8192) (g : Fin 64) (k : Fin 128) :
    broadcastTo S8192x64x128 (shapeCast S8192x64x1 v shapeCasts_S8192x64_S8192x64x1) broadcasts_S8192x64x1_S8192x64x128 (ix3 r g k) = v (ix2 r g) := by
  pointwise []
/-- The reciprocals, of any exponents. -/
def invsV (E : FVec Ideal S8192x64 .f32) : FVec Ideal S8192x64x128 .f32 :=
  broadcastTo S8192x64x128 (shapeCast S8192x64x1 (exp2 (subf (broadcast S8192x64 (Scalar.ofBits (F := Ideal) .f32 0x00000000#32)) E)) shapeCasts_S8192x64_S8192x64x1)
    broadcasts_S8192x64x1_S8192x64x128
theorem invsV_apply (E : FVec Ideal S8192x64 .f32) (r : Fin 8192) (g : Fin 64) (k : Fin 128) :
    invsV E (ix3 r g k) = Ideal.exp2 (Ideal.ofBits .f32 0x00000000#32 - E (ix2 r g)) := by
  unfold invsV
  rw [bcGroup, exp2_at]
  rfl
theorem pay5_def : k0_pay5 (F := Ideal) a0 a1 = invsV (k0_pay3 a0 a1) := by
  unfold k0_pay5 invsV
  with_reducible rfl
/-- The reciprocals. -/
theorem pay5_eq (r : Fin 8192) (g : Fin 64) (k : Fin 128) :
    k0_pay5 (F := Ideal) a0 a1 (ix3 r g k) = Cert.Quant.kinv (rowT (rowX a0 r) (wts a1) g) := by
  rw [pay5_def, invsV_apply, pay3_eq, Cert.Quant.kinv_eq]

/-- A code, of any channels and reciprocals. -/
theorem pay1_apply (H I : FVec Ideal S8192x64x128 .f32) (r f : Fin 8192) :
    k0_pay1 (F := Ideal) H I (ix2 r f)
      = clip (H (ix3 r ⟨f.val / 128, by have := f.isLt; omega⟩ ⟨f.val % 128, by omega⟩) * I (ix3 r ⟨f.val / 128, by have := f.isLt; omega⟩ ⟨f.val % 128, by omega⟩)) := by
  unfold clip
  pointwise [k0_pay1]

/-- The codes. -/
theorem codes_eq : G2 (F := Ideal) a0 a1 = normC a0 a1 := by
  funext y; idx_vars y
  unfold G2
  rw [pay1_apply, pay5_eq, pay2_eq]
  refine congrArg (fun f => clip (rowNorm (rowX a0 y0) (wts a1) f * Cert.Quant.kinv (rowT (rowX a0 y0) (wts a1) ⟨y1.val / 128, by have := y1.isLt; omega⟩))) (Fin.ext ?_)
  exact Nat.div_add_mod' y1.val 128
end

end Cert.NormRefIdeal.Hand

end
-- ==== Proof.Norm.Claims.lean ====
/- The claims about the normalisation: both runs end with the same codes and scales of the shared arguments. -/
module

public import proofs.«01_k».proof.Defs
public import proofs.«01_k».proof.Proof.Gen.Norm.Frame
public import proofs.«01_k».proof.Proof.Norm.Final
public import proofs.«01_k».proof.Proof.Norm.Ref

@[expose] public section

set_option maxRecDepth 16384

noncomputable section

namespace Cert.Proof

open Idealize.ShloMosaic Idealize.SL.Sem

/-- The kernel at the ideal values and the reference leave the same two arrays: every row's codes and scales. -/
theorem norm_algebraic : Cert.algebraic_NormIdeal_NormRefIdeal (hNormIdeal := Cert.NormIdeal.Gen.facts) (hNormRefIdeal := Cert.NormRefIdeal.Gen.facts) := by
  intro m g m' g' _ hm
  refine ⟨fun c => Cert.NormRefIdeal.Hand.normC (Cert.NormIdeal.Hand.A0 m c) (Cert.NormIdeal.Hand.A1 m c),
    fun c => Cert.NormRefIdeal.Hand.normS (Cert.NormIdeal.Hand.A0 m c) (Cert.NormIdeal.Hand.A1 m c), Cert.NormIdeal.Hand.run_value m g, ?_⟩
  refine (θ_run _ _ _).mono (fun r h c => ?_) (Cert.NormRefIdeal.Hand.run (F := Ideal) m' g')
  obtain ⟨e0, e1⟩ := hm c
  obtain ⟨h0, h1, h2⟩ := h c
  refine ⟨h0.trans ?_, h1.trans ?_, h2⟩
  · exact (Cert.NormRefIdeal.Hand.codes_eq _ _).trans (by rw [e0, e1])
  · exact (Cert.NormRefIdeal.Hand.scales_eq _ _).trans (by rw [e0, e1])

/-- The three frames: every run ends with its arguments unchanged and every counter at zero. -/
theorem norm_frames :
    Cert.quiescent_Norm (hNorm := Cert.Norm.Gen.facts) ∧ Cert.quiescent_NormIdeal (hNormIdeal := Cert.NormIdeal.Gen.facts)
    ∧ Cert.quiescent_NormRefIdeal (hNormRefIdeal := Cert.NormRefIdeal.Gen.facts) :=
  ⟨fun m ρ _ => Cert.Norm.Gen.frame m ρ, fun m ρ _ => Cert.NormIdeal.Gen.frame m ρ, fun m ρ _ => Cert.NormRefIdeal.Gen.frame m ρ⟩

end Cert.Proof

end
-- ==== Proof.lean ====
module

public import proofs.«01_k».proof.Defs
public import proofs.«01_k».proof.Proof.Down.Claims
public import proofs.«01_k».proof.Proof.Proj.Claims
public import proofs.«01_k».proof.Proof.Norm.Claims
public import Idealize.ShloMosaic.Adequacy
public import Idealize.ShloMosaic.Init

@[expose] public section

noncomputable section

namespace Cert.Proof

/-- Every claim of the certificate. -/
theorem claim : Cert.Claim :=
  ⟨Cert.Down.Gen.facts, Cert.DownIdeal.Gen.facts, Cert.DownRefIdeal.Gen.facts, Cert.Proj.Gen.facts, Cert.ProjIdeal.Gen.facts, Cert.ProjRefIdeal.Gen.facts,
    Cert.Norm.Gen.facts, Cert.NormIdeal.Gen.facts, Cert.NormRefIdeal.Gen.facts,
    down_claims.1, down_claims.2.1, down_claims.2.2.1, proj_frames.1, proj_frames.2.1, proj_frames.2.2,
    norm_frames.1, norm_frames.2.1, norm_frames.2.2,
    down_claims.2.2.2.1, down_claims.2.2.2.2, trivial, proj_algebraic, trivial, norm_algebraic⟩

end Cert.Proof

end
